-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_qk [hPre_finite_qk : Cert.Pre_finite_qk.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_qk.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3Ideal_finite_qk [hPre_finite_qk : Cert.Pre_finite_qk.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_qk.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_qk [hKernel2Ideal : Cert.Kernel2Ideal.Facts] [hPre_finite_qk : Cert.Pre_finite_qk.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_qk m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_qk [hReference3Ideal : Cert.Reference3Ideal.Facts] [hPre_finite_qk : Cert.Pre_finite_qk.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_qk m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def algebraic_Kernel2Ideal_Reference3Ideal_pre_finite_qk [hKernel2Ideal : Cert.Kernel2Ideal.Facts] [hReference3Ideal : Cert.Reference3Ideal.Facts] [hPre_finite_qk : Cert.Pre_finite_qk.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel2Ideal_finite_qk m →
    (∀ c : Dev Cert.Kernel2Ideal.nD,
      m' ((c.tc : Thread Cert.Reference3Ideal.nD Cert.Reference3Ideal.τ).loc Cert.Reference3Ideal.main_arg0) = m ((c.tc : Thread Cert.Kernel2Ideal.nD Cert.Kernel2Ideal.τ).loc Cert.Kernel2Ideal.main_arg0)
      ∧ m' ((c.tc : Thread Cert.Reference3Ideal.nD Cert.Reference3Ideal.τ).loc Cert.Reference3Ideal.main_arg1) = m ((c.tc : Thread Cert.Kernel2Ideal.nD Cert.Kernel2Ideal.τ).loc Cert.Kernel2Ideal.main_arg1)
      ∧ m' ((c.tc : Thread Cert.Reference3Ideal.nD Cert.Reference3Ideal.τ).loc Cert.Reference3Ideal.main_arg2) = m ((c.tc : Thread Cert.Kernel2Ideal.nD Cert.Kernel2Ideal.τ).loc Cert.Kernel2Ideal.main_arg2)
      ∧ m' ((c.tc : Thread Cert.Reference3Ideal.nD Cert.Reference3Ideal.τ).loc Cert.Reference3Ideal.main_arg3) = m ((c.tc : Thread Cert.Kernel2Ideal.nD Cert.Kernel2Ideal.τ).loc Cert.Kernel2Ideal.main_arg3)
      ∧ m' ((c.tc : Thread Cert.Reference3Ideal.nD Cert.Reference3Ideal.τ).loc Cert.Reference3Ideal.main_arg4) = m ((c.tc : Thread Cert.Kernel2Ideal.nD Cert.Kernel2Ideal.τ).loc Cert.Kernel2Ideal.main_arg4)
      ∧ m' ((c.tc : Thread Cert.Reference3Ideal.nD Cert.Reference3Ideal.τ).loc Cert.Reference3Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_qk (hKernel2Ideal := hKernel2Ideal) (hPre_finite_qk := hPre_finite_qk)
    ∧ quiescent_Reference2Ideal (hReference2Ideal := hReference2Ideal)
    ∧ quiescent_Reference3Ideal (hReference3Ideal := hReference3Ideal)
    ∧ quiescent_Reference3Ideal_pre_finite_qk (hReference3Ideal := hReference3Ideal) (hPre_finite_qk := hPre_finite_qk)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ algebraic_Kernel2Ideal_Reference3Ideal_pre_finite_qk (hKernel2Ideal := hKernel2Ideal) (hReference3Ideal := hReference3Ideal) (hPre_finite_qk := hPre_finite_qk)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_qk.lean ====
abbrev S32768x2048 : Shape := ⟨2, ![32768, 2048]⟩
abbrev S32768x1024 : Shape := ⟨2, ![32768, 1024]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)

variable [Facts]

def fn {F : FTy → Type} [FloatOps F] (main_arg0 : FVec F S32768x2048 .bf16) (main_arg1 : FVec F S32768x2048 .bf16) (main_arg2 : FVec F S32768x1024 .bf16) (main_arg3 : FVec F S2048x2048 .f32) (main_arg4 : FVec F S2048x8192 .f32) (main_arg5 : FVec F S8192x2048 .f32) : IVec S32768x2048 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_v4 : FVec F S32768x2048 .f32 := (extf .f32 · bitsLt_bf16_f32) main_arg1
  let main_v5 : FVec F S32768x2048 .f32 := Host.absf main_v4
  let main_cst_0 : FVec F S_ .f32 := constant S_ .f32 0x7F800000#32
  let main_v6 : FVec F S32768x2048 .f32 := broadcastInDim S32768x2048 ![] bcast_S_S32768x2048 main_cst_0
  let main_v7 : IVec S32768x2048 1 := cmpf .olt main_v5 main_v6
  let main_v8 : IVec S32768x2048 1 := andi main_v3 main_v7
  main_v8
-- ==== Kernel.lean ====
abbrev S32768x2048 : Shape := ⟨2, ![32768, 2048]⟩
abbrev S8x6x2048 : Shape := ⟨3, ![8, 6, 2048]⟩
abbrev S2048x8192 : Shape := ⟨2, ![2048, 8192]⟩
abbrev S8192x2048 : Shape := ⟨2, ![8192, 2048]⟩
abbrev S1x2048 : Shape := ⟨2, ![1, 2048]⟩
abbrev S1024x2048 : Shape := ⟨2, ![1024, 2048]⟩
abbrev S1x6x2048 : Shape := ⟨3, ![1, 6, 2048]⟩
abbrev S2048x1024 : Shape := ⟨2, ![2048, 1024]⟩
abbrev S_ : Shape := ⟨0, ![]⟩
abbrev S1024x1024 : Shape := ⟨2, ![1024, 1024]⟩
abbrev S1x1x2048 : Shape := ⟨3, ![1, 1, 2048]⟩
abbrev S16x2048 : Shape := ⟨2, ![16, 2048]⟩
abbrev S16 : Shape := ⟨1, ![16]⟩
abbrev S16x1 : Shape := ⟨2, ![16, 1]⟩

abbrev nBuf : Space → Nat
  | .hbm => 7
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S8x6x2048, .f32⟩
  | .hbm, ⟨3, _⟩ => ⟨S2048x8192, .bf16⟩
  | .hbm, ⟨4, _⟩ => ⟨S8192x2048, .bf16⟩
  | .hbm, ⟨5, _⟩ => ⟨S1x2048, .f32⟩
  | .hbm, ⟨6, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x6x2048, .f32⟩
  | .local _ .vmem, ⟨3, _⟩ => ⟨S1x6x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_4 : BitVec 32 := 0#32
  ![v1.toNat, 0]
def k0_cond3 (i : grid0.Coords) : BitVec 1 :=
  let arg1 : BitVec 32 := BitVec.ofNat 32 (i 1).val
  let c7_i32 : BitVec 32 := 7#32
  let v8 : BitVec 1 := Scalar.cmpi .eq arg1 c7_i32
  let v9 : BitVec 32 := Scalar.extui v8
  let c0_i32_3 : BitVec 32 := 0#32
  let v10 : BitVec 1 := Scalar.cmpi .ne v9 c0_i32_3
  v10

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_4 : BitVec 32 := 0#32
  ![v1.toNat, 0]
def k0_cond2 (i : grid0.Coords) : BitVec 1 :=
  let arg1 : BitVec 32 := BitVec.ofNat 32 (i 1).val
  let c0_i32_1 : BitVec 32 := 0#32
  let v5 : BitVec 1 := Scalar.cmpi .sgt arg1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S32768x2048 : Shape := ⟨2, ![32768, 2048]⟩
abbrev S8x6x2048 : Shape := ⟨3, ![8, 6, 2048]⟩
abbrev S2048x8192 : Shape := ⟨2, ![2048, 8192]⟩
abbrev S8192x2048 : Shape := ⟨2, ![8192, 2048]⟩
abbrev S1x2048 : Shape := ⟨2, ![1, 2048]⟩
abbrev S32768x8192 : Shape := ⟨2, ![32768, 8192]⟩
abbrev S_ : Shape := ⟨0, ![]⟩
abbrev S8x4096x2048 : Shape := ⟨3, ![8, 4096, 2048]⟩
abbrev S8x1x2048 : Shape := ⟨3, ![8, 1, 2048]⟩
abbrev S2048 : Shape := ⟨1, ![2048]⟩
abbrev S32768 : Shape := ⟨1, ![32768]⟩
abbrev S32768x1 : Shape := ⟨2, ![32768, 1]⟩

abbrev nBuf : Space → Nat
  | .hbm => 39
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S8x6x2048, .f32⟩
  | .hbm, ⟨3, _⟩ => ⟨S2048x8192, .bf16⟩
  | .hbm, ⟨4, _⟩ => ⟨S8192x2048, .bf16⟩
  | .hbm, ⟨5, _⟩ => ⟨S1x2048, .f32⟩
  | .hbm, ⟨6, _⟩ => ⟨S32768x2048, .f32⟩
  | .hbm, ⟨7, _⟩ => ⟨S2048x8192, .f32⟩
  | .hbm, ⟨8, _⟩ => ⟨S32768x8192, .f32⟩
  | .hbm, ⟨9, _⟩ => ⟨S_, .f32⟩
  | .hbm, ⟨10, _⟩ => ⟨S32768x8192, .f32⟩
  | .hbm, ⟨11, _⟩ => ⟨S32768x8192, .f32⟩
  | .hbm, ⟨12, _⟩ => ⟨S32768x8192, .f32⟩
  | .hbm, ⟨13, _⟩ => ⟨S8192x2048, .f32⟩
  | .hbm, ⟨14, _⟩ => ⟨S32768x2048, .f32⟩
  | .hbm, ⟨15, _⟩ => ⟨S8x4096x2048, .f32⟩
  | .hbm, ⟨16, _⟩ => ⟨S8x1x2048, .f32⟩
  | .hbm, ⟨17, _⟩ => ⟨S2048, .f32⟩
  | .hbm, ⟨18, _⟩ => ⟨S32768x2048, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x2048, .f32⟩
  | .hbm, ⟨30, _⟩ => ⟨S32768x2048, .f32⟩
  | .hbm, ⟨31, _⟩ => ⟨S1x2048, .f32⟩
  | .hbm, ⟨32, _⟩ => ⟨S32768x2048, .f32⟩
  | .hbm, ⟨33, _⟩ => ⟨S32768x2048, .f32⟩
  | .hbm, ⟨34, _⟩ => ⟨S8x4096x2048, .f32⟩
  | .hbm, ⟨35, _⟩ => ⟨S8x4096x2048, .f32⟩
  | .hbm, ⟨36, _⟩ => ⟨S8x4096x2048, .f32⟩
  | .hbm, ⟨37, _⟩ => ⟨S8x4096x2048, .f32⟩
  | .hbm, ⟨38, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel2.lean ====
abbrev S32768x2048 : Shape := ⟨2, ![32768, 2048]⟩
abbrev S32768x1024 : Shape := ⟨2, ![32768, 1024]⟩
abbrev S2048x2048 : Shape := ⟨2, ![2048, 2048]⟩
abbrev S2048x8192 : Shape := ⟨2, ![2048, 8192]⟩
abbrev S8192x2048 : Shape := ⟨2, ![8192, 2048]⟩
abbrev S4096x256 : Shape := ⟨2, ![4096, 256]⟩
abbrev S4096x128 : Shape := ⟨2, ![4096, 128]⟩
abbrev S32x2048 : Shape := ⟨2, ![32, 2048]⟩
abbrev S2048x128 : Shape := ⟨2, ![2048, 128]⟩
abbrev S128x2048 : Shape := ⟨2, ![128, 2048]⟩
abbrev S2x2048x256 : Shape := ⟨3, ![2, 2048, 256]⟩
abbrev S2048x256 : Shape := ⟨2, ![2048, 256]⟩
abbrev S256x256 : Shape := ⟨2, ![256, 256]⟩
abbrev S1x2048x256 : Shape := ⟨3, ![1, 2048, 256]⟩
abbrev S1x64x256 : Shape := ⟨3, ![1, 64, 256]⟩
abbrev S64x256 : Shape := ⟨2, ![64, 256]⟩
abbrev S64x128 : Shape := ⟨2, ![64, 128]⟩
abbrev S64 : Shape := ⟨1, ![64]⟩
abbrev S64x1 : Shape := ⟨2, ![64, 1]⟩
abbrev S512x256 : Shape := ⟨2, ![512, 256]⟩
abbrev S256x128 : Shape := ⟨2, ![256, 128]⟩
abbrev S512x128 : Shape := ⟨2, ![512, 128]⟩
abbrev S1792x256 : Shape := ⟨2, ![1792, 256]⟩
abbrev S1x1792x256 : Shape := ⟨3, ![1, 1792, 256]⟩
abbrev S1536x256 : Shape := ⟨2, ![1536, 256]⟩
abbrev S1x1536x256 : Shape := ⟨3, ![1, 1536, 256]⟩
abbrev S1280x256 : Shape := ⟨2, ![1280, 256]⟩
abbrev S1x1280x256 : Shape := ⟨3, ![1, 1280, 256]⟩
abbrev S1024x256 : Shape := ⟨2, ![1024, 256]⟩
abbrev S1x1024x256 : Shape := ⟨3, ![1, 1024, 256]⟩
abbrev S768x256 : Shape := ⟨2, ![768, 256]⟩
abbrev S1x768x256 : Shape := ⟨3, ![1, 768, 256]⟩
abbrev S1x512x256 : Shape := ⟨3, ![1, 512, 256]⟩
abbrev S1x256x256 : Shape := ⟨3, ![1, 256, 256]⟩
abbrev S2048 : Shape := ⟨1, ![2048]⟩
abbrev S2048x1 : Shape := ⟨2, ![2048, 1]⟩

abbrev nBuf : Space → Nat
  | .hbm => 10
  | .vmem => 26
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x1024, .bf16⟩
  | .hbm, ⟨3, _⟩ => ⟨S2048x2048, .f32⟩
  | .hbm, ⟨4, _⟩ => ⟨S2048x8192, .f32⟩
  | .hbm, ⟨5, _⟩ => ⟨S8192x2048, .f32⟩
  | .hbm, ⟨6, _⟩ => ⟨S32768x1024, .bf16⟩
  | .hbm, ⟨7, _⟩ => ⟨S2048x2048, .bf16⟩
  | .hbm, ⟨8, _⟩ => ⟨S2048x8192, .bf16⟩
  | .hbm, ⟨9, _⟩ => ⟨S8192x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S32x2048, .f32⟩
  | .local _ .vmem, ⟨7, _⟩ => ⟨S32x2048, .f32⟩
  | .local _ .vmem, ⟨8, _⟩ => ⟨S2048x128, .f32⟩
  | .local _ .vmem, ⟨9, _⟩ => ⟨S2048x128, .f32⟩
  | .local _ .vmem, ⟨10, _⟩ => ⟨S128x2048, .f32⟩
  | .local _ .vmem, ⟨11, _⟩ => ⟨S128x2048, .f32⟩
  | .local _ .vmem, ⟨12, _⟩ => ⟨S4096x128, .bf16⟩
  | .local _ .vmem, ⟨13, _⟩ => ⟨S4096x128, .bf16⟩
  | .local _ .vmem, ⟨14, _⟩ => ⟨S32x2048, .bf16⟩
  | .local _ .vmem, ⟨15, _⟩ => ⟨S32x2048, .bf16⟩
  | .local _ .vmem, ⟨16, _⟩ => ⟨S2048x128, .bf16⟩
  | .local _ .vmem, ⟨17, _⟩ => ⟨S2048x128, .bf16⟩
  | .local _ .vmem, ⟨18, _⟩ => ⟨S128x2048, .bf16⟩
  | .local _ .vmem, ⟨19, _⟩ => ⟨S128x2048, .bf16⟩
  | .local _ .vmem, ⟨20, _⟩ => ⟨S2x2048x256, .f32⟩
  | .local _ .vmem, ⟨21, _⟩ => ⟨S2048x256, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c2_i32 : BitVec 32 := 2#32
  let v9 : BitVec 32 := Scalar.addi c0_i32 c2_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  v10
def k0_off1 (k0_t1 : Fin k0_t1_loop.trips) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let v24 : Index := Scalar.indexCast v11
  let c0_20 : Index := 0#32
  ![v24.toNat, 0]
@[reducible] def k0_t2_loop (k0_t1 : Fin k0_t1_loop.trips) : Scf.Loop 32 :=
  let c0_i32_28 : BitVec 32 := 0#32
  let c0_i32 : BitVec 32 := 0#32
  let c1_i32 : BitVec 32 := 1#32
  let arg18 : BitVec 32 := Scf.iv c0_i32 c1_i32 k0_t1
  let v31 : BitVec 32 := Scalar.subi arg18 c0_i32_28
  let c1_i32_29 : BitVec 32 := 1#32
  let v33 : BitVec 32 := Scalar.divsi v31 c1_i32_29
  let v34 : BitVec 32 := Scalar.muli v33 c1_i32_29
  let v35 : BitVec 32 := Scalar.addi c0_i32_28 v34
  let c1_i32_30 : BitVec 32 := 1#32
  ⟨c0_i32_28, v35, c1_i32_30⟩
def k0_mult2 (k0_t1 : Fin k0_t1_loop.trips) (k0_t2 : Fin (k0_t2_loop k0_t1).trips) : BitVec 32 :=
  let c0_i32_28 : BitVec 32 := 0#32
  let c1_i32_30 : BitVec 32 := 1#32
  let arg19 : BitVec 32 := Scf.iv c0_i32_28 c1_i32_30 k0_t2
  let c2048_i32_3026 : BitVec 32 := 2048#32
  let v6248 : BitVec 32 := Scalar.muli arg19 c2048_i32_3026
  v6248
def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let v6251 : Index := Scalar.indexCast v11
  let c0_3028 : Index := 0#32
  ![v6251.toNat, 0]
def k0_off3 (k0_t1 : Fin k0_t1_loop.trips) (k0_t2 : Fin (k0_t2_loop k0_t1).trips) (c256_i32_3027 : BitVec 32) : Fin 2 → Nat :=
  let c0_i32_28 : BitVec 32 := 0#32
  let c1_i32_30 : BitVec 32 := 1#32
  let arg19 : BitVec 32 := Scf.iv c0_i32_28 c1_i32_30 k0_t2
  let c2048_i32_3026 : BitVec 32 := 2048#32
  let v6248 : BitVec 32 := Scalar.muli arg19 c2048_i32_3026
  let v6249 : BitVec 32 := v6248
  let v6250 : BitVec 32 := Scalar.addi v6249 c256_i32_3027
  let c0_i32_3029 : BitVec 32 := 0#32
  let v6253 : BitVec 32 := Scalar.addi v6250 c0_i32_3029
  let v6254 : Index := Scalar.indexCast v6253
  let c0_3030 : Index := 0#32
  ![v6254.toNat, 0]
def k0_off4 (k0_t1 : Fin k0_t1_loop.trips) (k0_t2 : Fin (k0_t2_loop k0_t1).trips) (c0_i32_3035 : BitVec 32) : Fin 2 → Nat :=
  let c0_i32_28 : BitVec 32 := 0#32
  let c1_i32_30 : BitVec 32 := 1#32
  let arg19 : BitVec 32 := Scf.iv c0_i32_28 c1_i32_30 k0_t2
  let c2048_i32_3026 : BitVec 32 := 2048#32
  let v6248 : BitVec 32 := Scalar.muli arg19 c2048_i32_3026
  let v6249 : BitVec 32 := v6248
  let v6260 : BitVec 32 := Scalar.addi v6249 c0_i32_3035
  let v7254 : Index := Scalar.indexCast v6260
  let c0_3550 : Index := 0#32
  ![v7254.toNat, 0]
@[reducible] def k0_t3_loop (k0_t1 : Fin k0_t1_loop.trips) : Scf.Loop 32 :=
  let c0_i32_28 : BitVec 32 := 0#32
  let c0_i32 : BitVec 32 := 0#32
  let c1_i32 : BitVec 32 := 1#32
  let arg18 : BitVec 32 := Scf.iv c0_i32 c1_i32 k0_t1
  let v31 : BitVec 32 := Scalar.subi arg18 c0_i32_28
  let c1_i32_29 : BitVec 32 := 1#32
  let v33 : BitVec 32 := Scalar.divsi v31 c1_i32_29
  let v34 : BitVec 32 := Scalar.muli v33 c1_i32_29
  let v35 : BitVec 32 := Scalar.addi c0_i32_28 v34
  let v32 : BitVec 32 := Scalar.addi c0_i32_28 v31
  let c1_i32_31 : BitVec 32 := 1#32
  ⟨v35, v32, c1_i32_31⟩
def k0_mult3 (k0_t1 : Fin k0_t1_loop.trips) (k0_t3 : Fin (k0_t3_loop k0_t1).trips) : BitVec 32 :=
  let c0_i32_28 : BitVec 32 := 0#32
  let c0_i32 : BitVec 32 := 0#32
  let c1_i32 : BitVec 32 := 1#32
  let arg18 : BitVec 32 := Scf.iv c0_i32 c1_i32 k0_t1
  let v31 : BitVec 32 := Scalar.subi arg18 c0_i32_28
  let c1_i32_29 : BitVec 32 := 1#32
  let v33 : BitVec 32 := Scalar.divsi v31 c1_i32_29
  let v34 : BitVec 32 := Scalar.muli v33 c1_i32_29
  let v35 : BitVec 32 := Scalar.addi c0_i32_28 v34
  let c1_i32_31 : BitVec 32 := 1#32
  let arg19 : BitVec 32 := Scf.iv v35 c1_i32_31 k0_t3
  let c2048_i32_3026 : BitVec 32 := 2048#32
  let v6248 : BitVec 32 := Scalar.muli arg19 c2048_i32_3026
  v6248
def k0_off5 (k0_t1 : Fin k0_t1_loop.trips) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let v6251 : Index := Scalar.indexCast v11
  let c0_3028 : Index := 0#32
  ![v6251.toNat, 0]
def k0_off6 (k0_t1 : Fin k0_t1_loop.trips) (k0_t3 : Fin (k0_t3_loop k0_t1).trips) (c256_i32_3027 : BitVec 32) : Fin 2 → Nat :=
  let c0_i32_28 : BitVec 32 := 0#32
  let c0_i32 : BitVec 32 := 0#32
  let c1_i32 : BitVec 32 := 1#32
  let arg18 : BitVec 32 := Scf.iv c0_i32 c1_i32 k0_t1
  let v31 : BitVec 32 := Scalar.subi arg18 c0_i32_28
  let c1_i32_29 : BitVec 32 := 1#32
  let v33 : BitVec 32 := Scalar.divsi v31 c1_i32_29
  let v34 : BitVec 32 := Scalar.muli v33 c1_i32_29
  let v35 : BitVec 32 := Scalar.addi c0_i32_28 v34
  let c1_i32_31 : BitVec 32 := 1#32
  let arg19 : BitVec 32 := Scf.iv v35 c1_i32_31 k0_t3
  let c2048_i32_3026 : BitVec 32 := 2048#32
  let v6248 : BitVec 32 := Scalar.muli arg19 c2048_i32_3026
  let v6249 : BitVec 32 := v6248
  let v6250 : BitVec 32 := Scalar.addi v6249 c256_i32_3027
  let c0_i32_3029 : BitVec 32 := 0#32
  let v6253 : BitVec 32 := Scalar.addi v6250 c0_i32_3029
  let v6254 : Index := Scalar.indexCast v6253
  let c0_3030 : Index := 0#32
  ![v6254.toNat, 0]
def k0_off7 (k0_t1 : Fin k0_t1_loop.trips) (k0_t3 : Fin (k0_t3_loop k0_t1).trips) (c0_i32_3035 : BitVec 32) : Fin 2 → Nat :=
  let c0_i32_28 : BitVec 32 := 0#32
  let c0_i32 : BitVec 32 := 0#32
  let c1_i32 : BitVec 32 := 1#32
  let arg18 : BitVec 32 := Scf.iv c0_i32 c1_i32 k0_t1
  let v31 : BitVec 32 := Scalar.subi arg18 c0_i32_28
  let c1_i32_29 : BitVec 32 := 1#32
  let v33 : BitVec 32 := Scalar.divsi v31 c1_i32_29
  let v34 : BitVec 32 := Scalar.muli v33 c1_i32_29
  let v35 : BitVec 32 := Scalar.addi c0_i32_28 v34
  let c1_i32_31 : BitVec 32 := 1#32
  let arg19 : BitVec 32 := Scf.iv v35 c1_i32_31 k0_t3
  let c2048_i32_3026 : BitVec 32 := 2048#32
  let v6248 : BitVec 32 := Scalar.muli arg19 c2048_i32_3026
  let v6249 : BitVec 32 := v6248
  let v6260 : BitVec 32 := Scalar.addi v6249 c0_i32_3035
  let v7254 : Index := Scalar.indexCast v6260
  let c0_3550 : Index := 0#32
  ![v7254.toNat, 0]
def k0_off8 (k0_t1 : Fin k0_t1_loop.trips) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let c256_i32 : BitVec 32 := 256#32
  let v36 : BitVec 32 := Scalar.addi v11 c256_i32
  let v38 : Index := Scalar.indexCast v36
  let c0_33 : Index := 0#32
  ![v38.toNat, 0]
def k0_off9 (k0_t1 : Fin k0_t1_loop.trips) (c256_i32_32 : BitVec 32) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let v37 : BitVec 32 := Scalar.addi v11 c256_i32_32
  let c0_i32_34 : BitVec 32 := 0#32
  let v40 : BitVec 32 := Scalar.addi v37 c0_i32_34
  let v41 : Index := Scalar.indexCast v40
  let c0_35 : Index := 0#32
  ![v41.toNat, 0]
def k0_off10 (k0_t1 : Fin k0_t1_loop.trips) (c0_i32_39 : BitVec 32) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let v47 : BitVec 32 := Scalar.addi v11 c0_i32_39
  let v1212 : Index := Scalar.indexCast v47
  let c0_572 : Index := 0#32
  ![v1212.toNat, 0]
def k0_off11 (k0_t1 : Fin k0_t1_loop.trips) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let c512_i32 : BitVec 32 := 512#32
  let v1255 : BitVec 32 := Scalar.addi v11 c512_i32
  let v1257 : Index := Scalar.indexCast v1255
  let c0_611 : Index := 0#32
  ![v1257.toNat, 0]
def k0_off12 (k0_t1 : Fin k0_t1_loop.trips) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let c768_i32 : BitVec 32 := 768#32
  let v2383 : BitVec 32 := Scalar.addi v11 c768_i32
  let v2385 : Index := Scalar.indexCast v2383
  let c0_1187 : Index := 0#32
  ![v2385.toNat, 0]
def k0_off13 (k0_t1 : Fin k0_t1_loop.trips) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let c1024_i32 : BitVec 32 := 1024#32
  let v3343 : BitVec 32 := Scalar.addi v11 c1024_i32
  let v3345 : Index := Scalar.indexCast v3343
  let c0_1659 : Index := 0#32
  ![v3345.toNat, 0]
def k0_off14 (k0_t1 : Fin k0_t1_loop.trips) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let c1280_i32 : BitVec 32 := 1280#32
  let v4201 : BitVec 32 := Scalar.addi v11 c1280_i32
  let v4203 : Index := Scalar.indexCast v4201
  let c0_2087 : Index := 0#32
  ![v4203.toNat, 0]
def k0_off15 (k0_t1 : Fin k0_t1_loop.trips) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let c1536_i32 : BitVec 32 := 1536#32
  let v4902 : BitVec 32 := Scalar.addi v11 c1536_i32
  let v4904 : Index := Scalar.indexCast v4902
  let c0_2421 : Index := 0#32
  ![v4904.toNat, 0]
def k0_off16 (k0_t1 : Fin k0_t1_loop.trips) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let c1792_i32 : BitVec 32 := 1792#32
  let v5490 : BitVec 32 := Scalar.addi v11 c1792_i32
  let v5492 : Index := Scalar.indexCast v5490
  let c0_2701 : Index := 0#32
  ![v5492.toNat, 0]
def k0_off17 (k0_t1 : Fin k0_t1_loop.trips) : Fin 2 → Nat :=
  let c0_i32 : BitVec 32 := 0#32
  let c1_i32 : BitVec 32 := 1#32
  let arg18 : BitVec 32 := Scf.iv c0_i32 c1_i32 k0_t1
  let c2048_i32 : BitVec 32 := 2048#32
  let v10 : BitVec 32 := Scalar.muli arg18 c2048_i32
  let v11 : BitVec 32 := v10
  let v6246 : Index := Scalar.indexCast v11
  let c0_3025 : Index := 0#32
  ![v6246.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S32768x2048 : Shape := ⟨2, ![32768, 2048]⟩
abbrev S32768x1024 : Shape := ⟨2, ![32768, 1024]⟩
abbrev S2048x2048 : Shape := ⟨2, ![2048, 2048]⟩
abbrev S2048x8192 : Shape := ⟨2, ![2048, 8192]⟩
abbrev S8192x2048 : Shape := ⟨2, ![8192, 2048]⟩
abbrev S8x4096x8x256 : Shape := ⟨4, ![8, 4096, 8, 256]⟩
abbrev S8x4096x8x128 : Shape := ⟨4, ![8, 4096, 8, 128]⟩
abbrev S8x8x4096x4096 : Shape := ⟨4, ![8, 8, 4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩

abbrev nBuf : Space → Nat
  | .hbm => 63
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x1024, .bf16⟩
  | .hbm, ⟨3, _⟩ => ⟨S2048x2048, .f32⟩
  | .hbm, ⟨4, _⟩ => ⟨S2048x8192, .f32⟩
  | .hbm, ⟨5, _⟩ => ⟨S8192x2048, .f32⟩
  | .hbm, ⟨6, _⟩ => ⟨S32768x2048, .f32⟩
  | .hbm, ⟨7, _⟩ => ⟨S8x4096x8x256, .f32⟩
  | .hbm, ⟨8, _⟩ => ⟨S32768x2048, .f32⟩
  | .hbm, ⟨9, _⟩ => ⟨S8x4096x8x256, .f32⟩
  | .hbm, ⟨10, _⟩ => ⟨S32768x1024, .f32⟩
  | .hbm, ⟨11, _⟩ => ⟨S8x4096x8x128, .f32⟩
  | .hbm, ⟨12, _⟩ => ⟨S8x8x4096x4096, .f32⟩
  | .hbm, ⟨13, _⟩ => ⟨S4096, .i32⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S_, .f32⟩
  | .hbm, ⟨38, _⟩ => ⟨S_, .f32⟩
  | .hbm, ⟨39, _⟩ => ⟨S8x8x4096x4096, .i1⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S8x8x4096, .f32⟩
  | .hbm, ⟨44, _⟩ => ⟨S8x8x4096x1, .f32⟩
  | .hbm, ⟨45, _⟩ => ⟨S8x8x4096x4096, .f32⟩
  | .hbm, ⟨46, _⟩ => ⟨S8x8x4096x4096, .f32⟩
  | .hbm, ⟨47, _⟩ => ⟨S_, .f32⟩
  | .hbm, ⟨48, _⟩ => ⟨S8x8x4096x4096, .f32⟩
  | .hbm, ⟨49, _⟩ => ⟨S8x8x4096x4096, .f32⟩
  | .hbm, ⟨50, _⟩ => ⟨S8x8x128x4096, .f32⟩
  | .hbm, ⟨51, _⟩ => ⟨S8x4096x8x128, .f32⟩
  | .hbm, ⟨52, _⟩ => ⟨S_, .f32⟩
  | .hbm, ⟨53, _⟩ => ⟨S8x8x4096, .f32⟩
  | .hbm, ⟨54, _⟩ => ⟨S8x4096x8, .f32⟩
  | .hbm, ⟨55, _⟩ => ⟨S8x4096x8x1, .f32⟩
  | .hbm, ⟨56, _⟩ => ⟨S8x4096x8x128, .f32⟩
  | .hbm, ⟨57, _⟩ => ⟨S8x4096x8x128, .f32⟩
  | .hbm, ⟨58, _⟩ => ⟨S32768x1024, .f32⟩
  | .hbm, ⟨59, _⟩ => ⟨S32768x1024, .bf16⟩
  | .hbm, ⟨60, _⟩ => ⟨S2048x2048, .bf16⟩
  | .hbm, ⟨61, _⟩ => ⟨S2048x8192, .bf16⟩
  | .hbm, ⟨62, _⟩ => ⟨S8192x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v14 : Ref sig .tc := ⟨.hbm, 41, rfl⟩
abbrev main_cst_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_2 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩

abbrev nD : Nat := 1
abbrev τ : Topo := Topo.v7x

variable {F : FTy → Type} [FloatOps F]
-- ==== Reference3Ideal.lean ====
abbrev S32768x2048 : Shape := ⟨2, ![32768, 2048]⟩
abbrev S32768x1024 : Shape := ⟨2, ![32768, 1024]⟩
abbrev S2048x2048 : Shape := ⟨2, ![2048, 2048]⟩
abbrev S2048x8192 : Shape := ⟨2, ![2048, 8192]⟩
abbrev S8192x2048 : Shape := ⟨2, ![8192, 2048]⟩
abbrev S8x4096x8x256 : Shape := ⟨4, ![8, 4096, 8, 256]⟩
abbrev S8x4096x8x128 : Shape := ⟨4, ![8, 4096, 8, 128]⟩
abbrev S8x8x4096x4096 : Shape := ⟨4, ![8, 8, 4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩

abbrev nBuf : Space → Nat
  | .hbm => 62
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x1024, .bf16⟩
  | .hbm, ⟨3, _⟩ => ⟨S2048x2048, .f32⟩
  | .hbm, ⟨4, _⟩ => ⟨S2048x8192, .f32⟩
  | .hbm, ⟨5, _⟩ => ⟨S8192x2048, .f32⟩
  | .hbm, ⟨6, _⟩ => ⟨S32768x2048, .f32⟩
  | .hbm, ⟨7, _⟩ => ⟨S8x4096x8x256, .f32⟩
  | .hbm, ⟨8, _⟩ => ⟨S32768x2048, .f32⟩
  | .hbm, ⟨9, _⟩ => ⟨S8x4096x8x256, .f32⟩
  | .hbm, ⟨10, _⟩ => ⟨S32768x1024, .f32⟩
  | .hbm, ⟨11, _⟩ => ⟨S8x4096x8x128, .f32⟩
  | .hbm, ⟨12, _⟩ => ⟨S8x8x4096x4096, .f32⟩
  | .hbm, ⟨13, _⟩ => ⟨S4096, .i32⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S_, .f32⟩
  | .hbm, ⟨38, _⟩ => ⟨S_, .f32⟩
  | .hbm, ⟨39, _⟩ => ⟨S8x8x4096x4096, .i1⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S8x8x4096, .f32⟩
  | .hbm, ⟨44, _⟩ => ⟨S8x8x4096x1, .f32⟩
  | .hbm, ⟨45, _⟩ => ⟨S8x8x4096x4096, .f32⟩
  | .hbm, ⟨46, _⟩ => ⟨S8x8x4096x4096, .f32⟩
  | .hbm, ⟨47, _⟩ => ⟨S_, .f32⟩
  | .hbm, ⟨48, _⟩ => ⟨S8x8x4096x4096, .f32⟩
  | .hbm, ⟨49, _⟩ => ⟨S8x8x4096x4096, .f32⟩
  | .hbm, ⟨50, _⟩ => ⟨S_, .f32⟩
  | .hbm, ⟨51, _⟩ => ⟨S8x8x4096, .f32⟩
  | .hbm, ⟨52, _⟩ => ⟨S8x8x4096x1, .f32⟩
  | .hbm, ⟨53, _⟩ => ⟨S8x8x4096x4096, .f32⟩
  | .hbm, ⟨54, _⟩ => ⟨S8x8x4096x4096, .f32⟩
  | .hbm, ⟨55, _⟩ => ⟨S8x8x128x4096, .f32⟩
  | .hbm, ⟨56, _⟩ => ⟨S8x4096x8x128, .f32⟩
  | .hbm, ⟨57, _⟩ => ⟨S32768x1024, .f32⟩
  | .hbm, ⟨58, _⟩ => ⟨S32768x1024, .bf16⟩
  | .hbm, ⟨59, _⟩ => ⟨S2048x2048, .bf16⟩
  | .hbm, ⟨60, _⟩ => ⟨S2048x8192, .bf16⟩
  | .hbm, ⟨61, _⟩ => ⟨S8192x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v14 : Ref sig .tc := ⟨.hbm, 41, rfl⟩
abbrev main_cst_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩

abbrev nD : Nat := 1
abbrev τ : Topo := Topo.v7x

variable {F : FTy → Type} [FloatOps F]
-- ==== Kernel4.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S32768x2048 : Shape := ⟨2, ![32768, 2048]⟩
abbrev S32768x1 : Shape := ⟨2, ![32768, 1]⟩
abbrev S8x6x2048 : Shape := ⟨3, ![8, 6, 2048]⟩
abbrev S1x2048 : Shape := ⟨2, ![1, 2048]⟩
abbrev S2880x2048 : Shape := ⟨2, ![2880, 2048]⟩
abbrev S128x2048 : Shape := ⟨2, ![128, 2048]⟩
abbrev S1x1024 : Shape := ⟨2, ![1, 1024]⟩
abbrev S8x128x128 : Shape := ⟨3, ![8, 128, 128]⟩
abbrev S128x8 : Shape := ⟨2, ![128, 8]⟩
abbrev S1x512 : Shape := ⟨2, ![1, 512]⟩
abbrev S1x256 : Shape := ⟨2, ![1, 256]⟩
abbrev S512x2048 : Shape := ⟨2, ![512, 2048]⟩
abbrev S256x2048 : Shape := ⟨2, ![256, 2048]⟩
abbrev S1x128 : Shape := ⟨2, ![1, 128]⟩
abbrev S32768x1024 : Shape := ⟨2, ![32768, 1024]⟩
abbrev S512x1 : Shape := ⟨2, ![512, 1]⟩
abbrev S1x6x2048 : Shape := ⟨3, ![1, 6, 2048]⟩
abbrev S512x1024 : Shape := ⟨2, ![512, 1024]⟩
abbrev S1x1x2048 : Shape := ⟨3, ![1, 1, 2048]⟩
abbrev S512 : Shape := ⟨1, ![512]⟩
abbrev S1024x2048 : Shape := ⟨2, ![1024, 2048]⟩
abbrev S128x128 : Shape := ⟨2, ![128, 128]⟩
abbrev S1x128x128 : Shape := ⟨3, ![1, 128, 128]⟩
abbrev S128x512 : Shape := ⟨2, ![128, 512]⟩
abbrev S128x1 : Shape := ⟨2, ![128, 1]⟩
abbrev S512x512 : Shape := ⟨2, ![512, 512]⟩
abbrev S512x256 : Shape := ⟨2, ![512, 256]⟩
abbrev S512x128 : Shape := ⟨2, ![512, 128]⟩

abbrev nBuf : Space → Nat
  | .hbm => 20
  | .vmem => 28
  | .smem => 0
  | _ => 0

abbrev bufTy : (tb : Table) → Fin (tcTables nBuf tb) → BufTy
  | .hbm, ⟨0, _⟩ => ⟨S32768x2048, .f32⟩
  | .hbm, ⟨1, _⟩ => ⟨S32768x1, .i32⟩
  | .hbm, ⟨2, _⟩ => ⟨S8x6x2048, .f32⟩
  | .hbm, ⟨3, _⟩ => ⟨S1x2048, .f32⟩
  | .hbm, ⟨4, _⟩ => ⟨S2880x2048, .bf16⟩
  | .hbm, ⟨5, _⟩ => ⟨S128x2048, .bf16⟩
  | .hbm, ⟨6, _⟩ => ⟨S1x1024, .f32⟩
  | .hbm, ⟨7, _⟩ => ⟨S1x1024, .f32⟩
  | .hbm, ⟨8, _⟩ => ⟨S8x128x128, .f32⟩
  | .hbm, ⟨9, _⟩ => ⟨S128x8, .f32⟩
  | .hbm, ⟨10, _⟩ => ⟨S1x512, .f32⟩
  | .hbm, ⟨11, _⟩ => ⟨S1x256, .f32⟩
  | .hbm, ⟨12, _⟩ => ⟨S512x2048, .bf16⟩
  | .hbm, ⟨13, _⟩ => ⟨S256x2048, .bf16⟩
  | .hbm, ⟨14, _⟩ => ⟨S1x1024, .f32⟩
  | .hbm, ⟨15, _⟩ => ⟨S1x128, .f32⟩
  | .hbm, ⟨16, _⟩ => ⟨S32768x1024, .bf16⟩
  | .hbm, ⟨17, _⟩ => ⟨S32768x2048, .bf16⟩
  | .hbm, ⟨18, _⟩ => ⟨S32768x2048, .bf16⟩
  | .hbm, ⟨19, _⟩ => ⟨S32768x1024, .bf16⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S2880x2048, .bf16⟩
  | .local _ .vmem, ⟨8, _⟩ => ⟨S128x2048, .bf16⟩
  | .local _ .vmem, ⟨9, _⟩ => ⟨S1x1024, .f32⟩
  | .local _ .vmem, ⟨10, _⟩ => ⟨S1x1024, .f32⟩
  | .local _ .vmem, ⟨11, _⟩ => ⟨S8x128x128, .f32⟩
  | .local _ .vmem, ⟨12, _⟩ => ⟨S128x8, .f32⟩
  | .local _ .vmem, ⟨13, _⟩ => ⟨S1x512, .f32⟩
  | .local _ .vmem, ⟨14, _⟩ => ⟨S1x256, .f32⟩
  | .local _ .vmem, ⟨15, _⟩ => ⟨S512x2048, .bf16⟩
  | .local _ .vmem, ⟨16, _⟩ => ⟨S256x2048, .bf16⟩
  | .local _ .vmem, ⟨17, _⟩ => ⟨S1x1024, .f32⟩
  | .local _ .vmem, ⟨18, _⟩ => ⟨S1x128, .f32⟩
  | .local _ .vmem, ⟨19, _⟩ => ⟨S512x1024, .bf16⟩
  | .local _ .vmem, ⟨20, _⟩ => ⟨S512x1024, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2880x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference5Ideal.lean ====
abbrev S32768x2048 : Shape := ⟨2, ![32768, 2048]⟩
abbrev S32768x1 : Shape := ⟨2, ![32768, 1]⟩
abbrev S8x6x2048 : Shape := ⟨3, ![8, 6, 2048]⟩
abbrev S1x2048 : Shape := ⟨2, ![1, 2048]⟩
abbrev S2880x2048 : Shape := ⟨2, ![2880, 2048]⟩
abbrev S128x2048 : Shape := ⟨2, ![128, 2048]⟩
abbrev S1x1024 : Shape := ⟨2, ![1, 1024]⟩
abbrev S8x128x128 : Shape := ⟨3, ![8, 128, 128]⟩
abbrev S128x8 : Shape := ⟨2, ![128, 8]⟩
abbrev S1x512 : Shape := ⟨2, ![1, 512]⟩
abbrev S1x256 : Shape := ⟨2, ![1, 256]⟩
abbrev S512x2048 : Shape := ⟨2, ![512, 2048]⟩
abbrev S256x2048 : Shape := ⟨2, ![256, 2048]⟩
abbrev S1x128 : Shape := ⟨2, ![1, 128]⟩
abbrev S8x1x2048 : Shape := ⟨3, ![8, 1, 2048]⟩
abbrev S8x4096x2048 : Shape := ⟨3, ![8, 4096, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S2048x2880 : Shape := ⟨2, ![2048, 2880]⟩
abbrev S8x4096x2880 : Shape := ⟨3, ![8, 4096, 2880]⟩
abbrev S8x4096x256 : Shape := ⟨3, ![8, 4096, 256]⟩
abbrev S256 : Shape := ⟨1, ![256]⟩
abbrev S1x1x256 : Shape := ⟨3, ![1, 1, 256]⟩
abbrev S8x4096x1024 : Shape := ⟨3, ![8, 4096, 1024]⟩
abbrev S32768x1024 : Shape := ⟨2, ![32768, 1024]⟩

abbrev nBuf : Space → Nat
  | .hbm => 69
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1, .i32⟩
  | .hbm, ⟨2, _⟩ => ⟨S8x6x2048, .f32⟩
  | .hbm, ⟨3, _⟩ => ⟨S1x2048, .f32⟩
  | .hbm, ⟨4, _⟩ => ⟨S2880x2048, .bf16⟩
  | .hbm, ⟨5, _⟩ => ⟨S128x2048, .bf16⟩
  | .hbm, ⟨6, _⟩ => ⟨S1x1024, .f32⟩
  | .hbm, ⟨7, _⟩ => ⟨S1x1024, .f32⟩
  | .hbm, ⟨8, _⟩ => ⟨S8x128x128, .f32⟩
  | .hbm, ⟨9, _⟩ => ⟨S128x8, .f32⟩
  | .hbm, ⟨10, _⟩ => ⟨S1x512, .f32⟩
  | .hbm, ⟨11, _⟩ => ⟨S1x256, .f32⟩
  | .hbm, ⟨12, _⟩ => ⟨S512x2048, .bf16⟩
  | .hbm, ⟨13, _⟩ => ⟨S256x2048, .bf16⟩
  | .hbm, ⟨14, _⟩ => ⟨S1x1024, .f32⟩
  | .hbm, ⟨15, _⟩ => ⟨S1x128, .f32⟩
  | .hbm, ⟨16, _⟩ => ⟨S2880x2048, .f32⟩
  | .hbm, ⟨17, _⟩ => ⟨S256x2048, .f32⟩
  | .hbm, ⟨18, _⟩ => ⟨S8x1x2048, .f32⟩
  | .hbm, ⟨19, _⟩ => ⟨S8x1x2048, .f32⟩
  | .hbm, ⟨20, _⟩ => ⟨S8x4096x2048, .f32⟩
  | .hbm, ⟨21, _⟩ => ⟨S2048, .f32⟩
  | .hbm, ⟨22, _⟩ => ⟨S8x4096x2048, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x2048, .f32⟩
  | .hbm, ⟨34, _⟩ => ⟨S8x4096x2048, .f32⟩
  | .hbm, ⟨35, _⟩ => ⟨S1x1x2048, .f32⟩
  | .hbm, ⟨36, _⟩ => ⟨S8x4096x2048, .f32⟩
  | .hbm, ⟨37, _⟩ => ⟨S8x4096x2048, .f32⟩
  | .hbm, ⟨38, _⟩ => ⟨S_, .f32⟩
  | .hbm, ⟨39, _⟩ => ⟨S8x1x2048, .f32⟩
  | .hbm, ⟨40, _⟩ => ⟨S8x1x2048, .f32⟩
  | .hbm, ⟨41, _⟩ => ⟨S8x4096x2048, .f32⟩
  | .hbm, ⟨42, _⟩ => ⟨S8x4096x2048, .f32⟩
  | .hbm, ⟨43, _⟩ => ⟨S8x4096x2048, .f32⟩
  | .hbm, ⟨44, _⟩ => ⟨S8x4096x2048, .f32⟩
  | .hbm, ⟨45, _⟩ => ⟨S2048x2880, .f32⟩
  | .hbm, ⟨46, _⟩ => ⟨S8x4096x2880, .f32⟩
  | .hbm, ⟨47, _⟩ => ⟨S8x4096x256, .f32⟩
  | .hbm, ⟨48, _⟩ => ⟨S256, .f32⟩
  | .hbm, ⟨49, _⟩ => ⟨S8x4096x256, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x256, .f32⟩
  | .hbm, ⟨61, _⟩ => ⟨S8x4096x256, .f32⟩
  | .hbm, ⟨62, _⟩ => ⟨S1x1x256, .f32⟩
  | .hbm, ⟨63, _⟩ => ⟨S8x4096x256, .f32⟩
  | .hbm, ⟨64, _⟩ => ⟨S8x4096x256, .f32⟩
  | .hbm, ⟨65, _⟩ => ⟨S8x4096x2048, .f32⟩
  | .hbm, ⟨66, _⟩ => ⟨S8x4096x1024, .f32⟩
  | .hbm, ⟨67, _⟩ => ⟨S32768x1024, .f32⟩
  | .hbm, ⟨68, _⟩ => ⟨S32768x1024, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== Proof.FfnBody.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

/-! The body of the feed-forward kernel at one grid point. A row block of 1024 rows takes eight points: the first starts the
transfer of the residual's rows and stores the first product, each later one adds its product, and the last also waits for the
transfer and normalises the block, sixteen rows at a time. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The scratch buffer the transfer fills, and the residual left in HBM. -/
abbrev xM : Memref sig .tc .vmem S1024x2048 .f32 := Memref.whole cc0_scratch0
abbrev hM : Memref sig .tc .hbm S32768x2048 .f32 := Memref.whole main_arg1
/-- The contents of a memref's buffer on core `c`. -/
abbrev BufOf (c : Dev nD) {sp : Space} {S : Shape} {e : EltTy} (M : Memref sig .tc sp S e) : Type := Buf (Elt F) (M.view.loc (c : Thread nD τ))
/-- A memref's whole buffer held at `f`. -/
abbrev at_ (c : Dev nD) {sp : Space} {S : Shape} {e : EltTy} (M : Memref sig .tc sp S e) (f : BufOf (F := F) c M) : sProp 𝕄 :=
  M.view.loc (c : Thread nD τ) ↦{fullShare} f
/-- The transfer in flight: the scratch buffer comes at `xv`, with the part `S` of the residual it was lent. -/
abbrev flying (c : Dev nD) (S : Finset (Idx (hM.view.loc (c : Thread nD τ)))) (xv : BufOf (F := F) c xM) (fh : BufOf (F := F) c hM) : sProp 𝕄 :=
  iprop(Transfers.Flight countersEmb (c : Thread nD τ) (SemLoc.dma 11) () 262144 iprop(at_ c xM xv ∗ (hM.view.loc (c : Thread nD τ) ↦[S]{fullShare} fh))
    ∗ (hM.view.loc (c : Thread nD τ) ↦[Finset.univ \ S]{fullShare} fh))

/-- The residual's block of rows the point's row block reads. -/
abbrev srcM (i : grid0.Coords) (h : k0_cond1 i = 1#1) : Memref sig .tc .hbm S1024x2048 .f32 :=
  hM.slice (Rect.unit (s := S32768x2048) (k0_off1 i) S1024x2048.size (k0_off1_inb i h)) (fun _ => rfl)

/-! ## What the last point leaves, sixteen rows at a time -/

/-- Row `a`, column `b` of a block of 1024 rows, and of sixteen. -/
def at1024 (a b : ℕ) (ha : a < 1024) (hb : b < 2048) : S1024x2048.Idx := fun | ⟨0, _⟩ => ⟨a, ha⟩ | ⟨1, _⟩ => ⟨b, hb⟩
def at16 (a b : ℕ) (ha : a < 16) (hb : b < 2048) : S16x2048.Idx := fun | ⟨0, _⟩ => ⟨a, ha⟩ | ⟨1, _⟩ => ⟨b, hb⟩

/-- Rows `16 k` to `16 k + 15` of a block. -/
def rows {α : Type} (A : S1024x2048.Idx → α) (k : ℕ) : S16x2048.Idx → α :=
  fun x => A (at1024 ((16 * k + (x 0).val) % 1024) (x 1).val (Nat.mod_lt _ (by decide)) (x 1).isLt)

/-- Sixteen rows of the result, from the gate's row, the residual's rows, the sum's rows and the scale's row. -/
abbrev chunk (g2 : FVec F S1x2048 .f32) (x o : Vec F S16x2048 .f32) (gp : Vec F S1x2048 .f32) : FVec F S16x2048 .f32 := k0_pay9 g2 x o gp

/-- The whole block of the result. -/
def fin (g2 : FVec F S1x2048 .f32) (x A : Vec F S1024x2048 .f32) (gp : Vec F S1x2048 .f32) : Vec F S1024x2048 .f32 :=
  fun y => chunk g2 (rows x ((y 0).val / 16)) (rows A ((y 0).val / 16)) gp (at16 ((y 0).val % 16) (y 1).val (Nat.mod_lt _ (by decide)) (y 1).isLt)

/-- The stores `L` leave the first `n` groups of rows at the result and the others at the sum. -/
def Done (v : View sig .tc .vmem S1024x2048 .f32) (g2 : FVec F S1x2048 .f32) (x A : Vec F S1024x2048 .f32) (gp : Vec F S1x2048 .f32)
    (n : ℕ) (L : List (View.Piece (Elt F) S1024x2048 .f32)) : Prop :=
  ∀ f y, v.read (Elt F) (v.writes (Elt F) f L) y = if (y 0).val < 16 * n then fin g2 x A gp y else A y

theorem done_zero (v : View sig .tc .vmem S1024x2048 .f32) (g2 : FVec F S1x2048 .f32) (x A : Vec F S1024x2048 .f32) (gp : Vec F S1x2048 .f32) :
    Done v g2 x A gp 0 [⟨Rect.unit (s := S1024x2048) ![0, 0] S1024x2048.size inb_S1024x2048_S1024x2048_0_0, A⟩] := by
  intro f y
  rw [View.read_writes_full, if_neg (by omega)]

theorem done_succ {v : View sig .tc .vmem S1024x2048 .f32} {g2 : FVec F S1x2048 .f32} {x A : Vec F S1024x2048 .f32} {gp : Vec F S1x2048 .f32}
    (n : ℕ) (hn : n < 64) (L : List (View.Piece (Elt F) S1024x2048 .f32)) {off : Fin 2 → ℕ} (inb : ∀ a, off a + S16x2048.size a ≤ S1024x2048.size a)
    (p : FVec F S16x2048 .f32) (hoff : off = ![16 * n, 0])
    (hp : p = chunk g2 (fun y => x ((Rect.unit (s := S1024x2048) off S16x2048.size inb).toLoadRect.idx y))
      (v.readCov L (Rect.unit (s := S1024x2048) off S16x2048.size inb).toLoadRect) gp) (hL : Done v g2 x A gp n L) :
    Done v g2 x A gp (n + 1) (⟨Rect.unit (s := S1024x2048) off S16x2048.size inb, p⟩ :: L) := by
  intro f y
  subst hoff
  have hidx : ∀ z : S16x2048.Idx, (Rect.unit (s := S1024x2048) ![16 * n, 0] S16x2048.size inb).toLoadRect.idx z
      = at1024 ((16 * n + (z 0).val) % 1024) (z 1).val (Nat.mod_lt _ (by decide)) (z 1).isLt := fun z => by
    have hz : (z 0).val < 16 := (z 0).isLt
    funext a
    apply Fin.ext
    match a with
    | ⟨0, _⟩ => show 16 * n + 1 * (z 0).val = (16 * n + (z 0).val) % 1024; omega
    | ⟨1, _⟩ => show 0 + 1 * (z 1).val = (z 1).val; omega
  have hx : (fun z => x ((Rect.unit (s := S1024x2048) ![16 * n, 0] S16x2048.size inb).toLoadRect.idx z)) = rows x n :=
    funext fun z => congrArg x (hidx z)
  have hA : v.readCov L (Rect.unit (s := S1024x2048) ![16 * n, 0] S16x2048.size inb).toLoadRect = rows A n := funext fun z => by
    show v.read (Elt F) (v.writes (Elt F) v.junk L) _ = _
    have hz : (z 0).val < 16 := (z 0).isLt
    rw [hidx z, hL, if_neg]
    · rfl
    · show ¬ (16 * n + (z 0).val) % 1024 < 16 * n
      omega
  have hp := hp.trans (congrArg₂ (fun a b => chunk g2 a b gp) hx hA)
  have hy : (y 0).val < 1024 := (y 0).isLt
  by_cases h : 16 * n ≤ (y 0).val ∧ (y 0).val < 16 * n + 16
  · have hm : (y 0).val - 16 * n < 16 := by omega
    rw [View.read_writes_cons_rows_of_mem v f inb p L y (at16 ((y 0).val - 16 * n) (y 1).val hm (y 1).isLt) rfl
      (by show _ = 16 * n + ((y 0).val - 16 * n); omega) rfl, if_pos (by omega), hp]
    unfold fin
    have e1 : (y 0).val / 16 = n := by omega
    have e2 : (y 0).val - 16 * n = (y 0).val % 16 := by omega
    rw [e1]
    refine congrArg _ (funext fun a => Fin.ext ?_)
    match a with
    | ⟨0, _⟩ => exact e2
    | ⟨1, _⟩ => rfl
  · rw [View.read_writes_cons_rows_of_not_mem v f inb p L y (o := 16 * n) (W := 16) rfl rfl (by omega), hL]
    by_cases h' : (y 0).val < 16 * n
    · rw [if_pos h', if_pos (by omega)]
    · rw [if_neg h', if_neg (by omega)]

/-- The gate's row of the modulation. -/
def gateRow (x4 : Vec F S1x6x2048 .f32) : FVec F S1x2048 .f32 :=
  k0_pay4 (fun y => x4 ((Rect.unit (s := S1x6x2048) ![0, 5, 0] S1x1x2048.size inb_S1x6x2048_S1x1x2048_0_5_0).toLoadRect.idx y))

/-! ## The three runs -/

set_option maxHeartbeats 4000000 in
/-- The first point of a row block: the transfer is started, and the result's buffer holds the first product. -/
theorem run_first (c : Dev nD) (i : grid0.Coords) (h1 : k0_cond1 i = 1#1) (h2 : ¬ k0_cond2 i = 1#1) (h3 : ¬ k0_cond3 i = 1#1)
    (arg2 : Memref sig .tc .vmem S1024x2048 .bf16) (harg2 : arg2.IsWhole) (arg4 : Memref sig .tc .vmem S1x6x2048 .f32) (harg4 : arg4.IsWhole)
    (arg5 : Memref sig .tc .vmem S2048x1024 .bf16) (harg5 : arg5.IsWhole) (arg6 : Memref sig .tc .vmem S1024x2048 .bf16) (harg6 : arg6.IsWhole)
    (arg7 : Memref sig .tc .vmem S1x2048 .f32) (harg7 : arg7.IsWhole) (arg8 : Memref sig .tc .vmem S1024x2048 .f32) (harg8 : arg8.IsWhole)
    (x2 : Vec F S1024x2048 .bf16) (x5 : Vec F S2048x1024 .bf16) (x6 : Vec F S1024x2048 .bf16) (fh : BufOf (F := F) c hM)
    (fx : BufOf (F := F) c xM) (W : Waits sig Unit) (K : PUnit → sProp 𝕄) :
    iprop(owns (c : Thread nD τ) arg2 fullShare x2 ∗ owns (c : Thread nD τ) arg5 fullShare x5 ∗ owns (c : Thread nD τ) arg6 fullShare x6
        ∗ (∃ d, owns (c : Thread nD τ) arg8 fullShare d)
        ∗ at_ c xM fx ∗ semVal ((c : Thread nD τ), SemLoc.dma 11) 0 ∗ at_ c hM fh
        ∗ owes (c : Thread nD τ) 0 W
        ∗ (iprop(owns (c : Thread nD τ) arg2 fullShare x2 ∗ owns (c : Thread nD τ) arg5 fullShare x5 ∗ owns (c : Thread nD τ) arg6 fullShare x6
            ∗ owns (c : Thread nD τ) arg8 fullShare (k0_pay1 x2 x5 x6)
            ∗ (∃ S, flying c S ((srcM i h1).view.read (Elt F) fh) fh)
            ∗ owes (c : Thread nD τ) 0 W) -∗ K ⟨⟩))
      ⊢ wp frame (wpE (defs₀ (F := F)) Variants.none c none) Set.univ
          (cc0_ffn i arg2 harg2 hM (Memref.isWhole_whole _) arg4 harg4 arg5 harg5 arg6 harg6 arg7 harg7 arg8 harg8 xM (Memref.isWhole_whole _) cc0_scratch1) K := by
  simp only [cc0_ffn_eq_skeleton]; unfold cc0_ffn_skel
  unfold owns
  iintro ⟨⟨%f2, %e2, H2⟩, ⟨%f5, %e5, H5⟩, ⟨%f6, %e6, H6⟩, ⟨%d8, %f8, -, H8⟩, Hx, Hs, Hh, HW, Hk⟩
  sl_exec
  sl_step
  iapply Hk
  isplitl [H2]
  · iexists f2; isplitr; · ipureintro; exact e2
    iexact H2
  isplitl [H5]
  · iexists f5; isplitr; · ipureintro; exact e5
    iexact H5
  isplitl [H6]
  · iexists f6; isplitr; · ipureintro; exact e6
    iexact H6
  isplitl [H8]
  · iexists _; isplitr; swap; · iexact H8
    ipureintro
    rw [View.read_writes_full, View.readAt_full, View.readAt_full, View.readAt_full, e2, e5, e6]
  isplitl [Hs Hh]
  · iexists _
    isplitl [Hs]
    · have hw : View.write (Elt F) xM.view fx (run_first.sl.dma0 c i h1 fh) Finset.univ = (srcM i h1).view.read (Elt F) fh := by
        funext y
        exact congrFun (View.read_write_univ (v := xM.view) fx ((srcM i h1).view.read (Elt F) fh)) y
      rw [hw]
      iexact Hs
    iexact Hh
  iexact HW

set_option maxHeartbeats 4000000 in
/-- A point between the first and the last of a row block adds its product. -/
theorem run_mid (c : Dev nD) (i : grid0.Coords) (h1 : ¬ k0_cond1 i = 1#1) (h2 : k0_cond2 i = 1#1) (h3 : ¬ k0_cond3 i = 1#1)
    (arg2 : Memref sig .tc .vmem S1024x2048 .bf16) (harg2 : arg2.IsWhole) (arg4 : Memref sig .tc .vmem S1x6x2048 .f32) (harg4 : arg4.IsWhole)
    (arg5 : Memref sig .tc .vmem S2048x1024 .bf16) (harg5 : arg5.IsWhole) (arg6 : Memref sig .tc .vmem S1024x2048 .bf16) (harg6 : arg6.IsWhole)
    (arg7 : Memref sig .tc .vmem S1x2048 .f32) (harg7 : arg7.IsWhole) (arg8 : Memref sig .tc .vmem S1024x2048 .f32) (harg8 : arg8.IsWhole)
    (x2 : Vec F S1024x2048 .bf16) (x5 : Vec F S2048x1024 .bf16) (x6 : Vec F S1024x2048 .bf16) (acc : Vec F S1024x2048 .f32)
    (W : Waits sig Unit) (K : PUnit → sProp 𝕄) :
    iprop(owns (c : Thread nD τ) arg2 fullShare x2 ∗ owns (c : Thread nD τ) arg5 fullShare x5 ∗ owns (c : Thread nD τ) arg6 fullShare x6
        ∗ owns (c : Thread nD τ) arg8 fullShare acc
        ∗ owes (c : Thread nD τ) 0 W
        ∗ (iprop(owns (c : Thread nD τ) arg2 fullShare x2 ∗ owns (c : Thread nD τ) arg5 fullShare x5 ∗ owns (c : Thread nD τ) arg6 fullShare x6
            ∗ owns (c : Thread nD τ) arg8 fullShare (k0_pay2 acc x2 x5 x6)
            ∗ owes (c : Thread nD τ) 0 W) -∗ K ⟨⟩))
      ⊢ wp frame (wpE (defs₀ (F := F)) Variants.none c none) Set.univ
          (cc0_ffn i arg2 harg2 hM (Memref.isWhole_whole _) arg4 harg4 arg5 harg5 arg6 harg6 arg7 harg7 arg8 harg8 xM (Memref.isWhole_whole _) cc0_scratch1) K := by
  simp only [cc0_ffn_eq_skeleton]; unfold cc0_ffn_skel
  unfold owns
  iintro ⟨⟨%f2, %e2, H2⟩, ⟨%f5, %e5, H5⟩, ⟨%f6, %e6, H6⟩, ⟨%f8, %e8, H8⟩, HW, Hk⟩
  sl_exec
  sl_step
  iapply Hk
  isplitl [H2]
  · iexists f2; isplitr; · ipureintro; exact e2
    iexact H2
  isplitl [H5]
  · iexists f5; isplitr; · ipureintro; exact e5
    iexact H5
  isplitl [H6]
  · iexists f6; isplitr; · ipureintro; exact e6
    iexact H6
  isplitl [H8]
  · iexists _; isplitr; swap; · iexact H8
    ipureintro
    rw [View.read_writes_full, View.readAt_full, View.readAt_full, View.readAt_full, View.readAt_full, e2, e5, e6, e8]
  iexact HW

set_option maxHeartbeats 40000000 in
/-- The last point of a row block adds its product, waits for the residual's rows and leaves the block of the result. -/
theorem run_last (c : Dev nD) (i : grid0.Coords) (h1 : ¬ k0_cond1 i = 1#1) (h2 : k0_cond2 i = 1#1) (h3 : k0_cond3 i = 1#1)
    (arg2 : Memref sig .tc .vmem S1024x2048 .bf16) (harg2 : arg2.IsWhole) (arg4 : Memref sig .tc .vmem S1x6x2048 .f32) (harg4 : arg4.IsWhole)
    (arg5 : Memref sig .tc .vmem S2048x1024 .bf16) (harg5 : arg5.IsWhole) (arg6 : Memref sig .tc .vmem S1024x2048 .bf16) (harg6 : arg6.IsWhole)
    (arg7 : Memref sig .tc .vmem S1x2048 .f32) (harg7 : arg7.IsWhole) (arg8 : Memref sig .tc .vmem S1024x2048 .f32) (harg8 : arg8.IsWhole)
    (x2 : Vec F S1024x2048 .bf16) (x4 : Vec F S1x6x2048 .f32) (x5 : Vec F S2048x1024 .bf16) (x6 : Vec F S1024x2048 .bf16) (x7 : Vec F S1x2048 .f32) (acc : Vec F S1024x2048 .f32)
    (S : Finset (Idx (hM.view.loc (c : Thread nD τ)))) (fh : BufOf (F := F) c hM)
    (xv : BufOf (F := F) c xM) (W : Waits sig Unit) (K : PUnit → sProp 𝕄) :
    iprop(owns (c : Thread nD τ) arg2 fullShare x2 ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare acc
        ∗ flying c S xv fh
        ∗ owes (c : Thread nD τ) 0 W
        ∗ (iprop(owns (c : Thread nD τ) arg2 fullShare x2 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (fin (gateRow x4) xv (k0_pay2 acc x2 x5 x6) x7)
            ∗ at_ c xM xv ∗ semVal ((c : Thread nD τ), SemLoc.dma 11) 0 ∗ at_ c hM fh
            ∗ (∃ W', owes (c : Thread nD τ) 0 W')) -∗ K ⟨⟩))
      ⊢ wp frame (wpE (defs₀ (F := F)) Variants.none c none) Set.univ
          (cc0_ffn i arg2 harg2 hM (Memref.isWhole_whole _) arg4 harg4 arg5 harg5 arg6 harg6 arg7 harg7 arg8 harg8 xM (Memref.isWhole_whole _) cc0_scratch1) K := by
  simp only [cc0_ffn_eq_skeleton]; unfold cc0_ffn_skel
  unfold owns
  iintro ⟨⟨%f2, %e2, H2⟩, ⟨%f4, %e4, H4⟩, ⟨%f5, %e5, H5⟩, ⟨%f6, %e6, H6⟩, ⟨%f7, %e7, H7⟩, ⟨%f8, %e8, H8⟩, ⟨Hs, Hh⟩, HW, Hk⟩
  sl_exec_parts
  sl_step
  iapply Hk
  isplitl [H2]
  · iexists f2; isplitr; · ipureintro; exact e2
    iexact H2
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists _; isplitr; swap; · iexact H8
    ipureintro
    have hd : Done arg8.view (gateRow x4) xv
        (k0_pay2 (View.readAt (Elt F) arg8.view (Rect.unit (s := S1024x2048) ![0, 0] S1024x2048.size inb_S1024x2048_S1024x2048_0_0).toLoadRect f8)
          (View.readAt (Elt F) arg2.view (Rect.unit (s := S1024x2048) ![0, 0] S1024x2048.size inb_S1024x2048_S1024x2048_0_0).toLoadRect f2)
          (View.readAt (Elt F) arg5.view (Rect.unit (s := S2048x1024) ![0, 0] S2048x1024.size inb_S2048x1024_S2048x1024_0_0).toLoadRect f5)
          (View.readAt (Elt F) arg6.view (Rect.unit (s := S1024x2048) ![0, 0] S1024x2048.size inb_S1024x2048_S1024x2048_0_0).toLoadRect f6))
        (View.readAt (Elt F) arg7.view (Rect.unit (s := S1x2048) ![0, 0] S1x2048.size inb_S1x2048_S1x2048_0_0).toLoadRect f7) 64
        (⟨Rect.unit ![1008, 0] S16x2048.size inb_S1024x2048_S16x2048_1008_0,
          k0_pay3 (run_last.sl.r c arg4 f4) (run_last.sl.r_69 c xv)
            (run_last.sl.r_70 c arg2 arg4 arg5 arg6 arg7 arg8 xv f2 f4 f5 f6 f7 f8) (run_last.sl.r_3 c arg7 f7)
            (run_last.sl.r_71 c arg2 arg4 arg5 arg6 arg7 arg8 xv f2 f4 f5 f6 f7 f8) k0_pay112⟩ ::
          run_last.sl.H8_64 c arg2 arg4 arg5 arg6 arg7 arg8 xv f2 f4 f5 f6 f7 f8) := by
      subst e4
      refine done_succ 63 (by decide) _ _ _ rfl rfl ?_
      refine done_succ 62 (by decide) _ _ _ rfl rfl ?_
      refine done_succ 61 (by decide) _ _ _ rfl rfl ?_
      refine done_succ 60 (by decide) _ _ _ rfl rfl ?_
      refine done_succ 59 (by decide) _ _ _ rfl rfl ?_
      refine done_succ 58 (by decide) _ _ _ rfl rfl ?_
      refine done_succ 57 (by decide) _ _ _ rfl rfl ?_
      refine done_succ 56 (by decide) _ _ _ rfl rfl ?_
      refine done_succ 55 (by decide) _ _ _ rfl rfl ?_
      refine done_succ 54 (by decide) _ _ _ rfl rfl ?_
      refine done_succ 53 (by decide) _ _ _ rfl rfl ?_
      refine done_succ 52 (by decide) _ _ _ rfl rfl ?_
      refine done_succ 51 (by decide) _ _ _ rfl rfl ?_
      refine done_succ 50 (by decide) _ _ _ rfl rfl ?_
      refine done_succ 49 (by decide) _ _ _ rfl rfl ?_
      refine done_succ 48 (by decide) _ _ _ rfl rfl ?_
      refine done_succ 47 (by decide) _ _ _ rfl rfl ?_
      refine done_succ 46 (by decide) _ _ _ rfl rfl ?_
      refine done_succ 45 (by decide) _ _ _ rfl rfl ?_
      refine done_succ 44 (by decide) _ _ _ rfl rfl ?_
      refine done_succ 43 (by decide) _ _ _ rfl rfl ?_
      refine done_succ 42 (by decide) _ _ _ rfl rfl ?_
      refine done_succ 41 (by decide) _ _ _ rfl rfl ?_
      refine done_succ 40 (by decide) _ _ _ rfl rfl ?_
      refine done_succ 39 (by decide) _ _ _ rfl rfl ?_
      refine done_succ 38 (by decide) _ _ _ rfl rfl ?_
      refine done_succ 37 (by decide) _ _ _ rfl rfl ?_
      refine done_succ 36 (by decide) _ _ _ rfl rfl ?_
      refine done_succ 35 (by decide) _ _ _ rfl rfl ?_
      refine done_succ 34 (by decide) _ _ _ rfl rfl ?_
      refine done_succ 33 (by decide) _ _ _ rfl rfl ?_
      refine done_succ 32 (by decide) _ _ _ rfl rfl ?_
      refine done_succ 31 (by decide) _ _ _ rfl rfl ?_
      refine done_succ 30 (by decide) _ _ _ rfl rfl ?_
      refine done_succ 29 (by decide) _ _ _ rfl rfl ?_
      refine done_succ 28 (by decide) _ _ _ rfl rfl ?_
      refine done_succ 27 (by decide) _ _ _ rfl rfl ?_
      refine done_succ 26 (by decide) _ _ _ rfl rfl ?_
      refine done_succ 25 (by decide) _ _ _ rfl rfl ?_
      refine done_succ 24 (by decide) _ _ _ rfl rfl ?_
      refine done_succ 23 (by decide) _ _ _ rfl rfl ?_
      refine done_succ 22 (by decide) _ _ _ rfl rfl ?_
      refine done_succ 21 (by decide) _ _ _ rfl rfl ?_
      refine done_succ 20 (by decide) _ _ _ rfl rfl ?_
      refine done_succ 19 (by decide) _ _ _ rfl rfl ?_
      refine done_succ 18 (by decide) _ _ _ rfl rfl ?_
      refine done_succ 17 (by decide) _ _ _ rfl rfl ?_
      refine done_succ 16 (by decide) _ _ _ rfl rfl ?_
      refine done_succ 15 (by decide) _ _ _ rfl rfl ?_
      refine done_succ 14 (by decide) _ _ _ rfl rfl ?_
      refine done_succ 13 (by decide) _ _ _ rfl rfl ?_
      refine done_succ 12 (by decide) _ _ _ rfl rfl ?_
      refine done_succ 11 (by decide) _ _ _ rfl rfl ?_
      refine done_succ 10 (by decide) _ _ _ rfl rfl ?_
      refine done_succ 9 (by decide) _ _ _ rfl rfl ?_
      refine done_succ 8 (by decide) _ _ _ rfl rfl ?_
      refine done_succ 7 (by decide) _ _ _ rfl rfl ?_
      refine done_succ 6 (by decide) _ _ _ rfl rfl ?_
      refine done_succ 5 (by decide) _ _ _ rfl rfl ?_
      refine done_succ 4 (by decide) _ _ _ rfl rfl ?_
      refine done_succ 3 (by decide) _ _ _ rfl rfl ?_
      refine done_succ 2 (by decide) _ _ _ rfl rfl ?_
      refine done_succ 1 (by decide) _ _ _ rfl rfl ?_
      refine done_succ 0 (by decide) _ _ _ rfl rfl ?_
      exact done_zero _ _ _ _ _
    rw [View.readAt_full, View.readAt_full, View.readAt_full, View.readAt_full, View.readAt_full, e2, e5, e6, e7, e8] at hd
    funext y
    rw [hd, if_pos]
    exact (y 0).isLt
  isplitl [Hs_dst]; · iexact Hs_dst
  isplitl [Hs]; · iexact Hs
  isplitl [Hh]; · iexact Hh
  iexists _; iexact HW

end Cert.KernelIdeal.Hand

end
-- ==== Proof.FfnFrame.lean ====
module

public import proofs.«01_k».proof.Proof.Gen.KernelIdeal.Frame
public import proofs.«01_k».proof.Proof.Gen.KernelIdeal.Skeleton
public import proofs.«01_k».proof.Proof.FfnBody
public import Idealize.ShloMosaic.Lib.VecWindow

@[expose] public section

set_option maxRecDepth 16384

noncomputable section

/-! The feed-forward kernel's run over the grid: what each buffer holds at each point, the transfer in flight between the first
and the last point of a row block, and the arguments unchanged at the end with every counter at zero. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The grid: point `t` is row block `t / 8`, hidden block `t % 8` -/

theorem cond1_iff : ∀ t : Fin cfg0.N, k0_cond1 (grid0.coords t) = 1#1 ↔ t.val % 8 = 0 :=
  (by decide +kernel : ∀ t : Fin grid0.N, k0_cond1 (grid0.coords t) = 1#1 ↔ t.val % 8 = 0)
theorem cond2_iff : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)
theorem cond3_iff : ∀ t : Fin cfg0.N, k0_cond3 (grid0.coords t) = 1#1 ↔ t.val % 8 = 7 :=
  (by decide +kernel : ∀ t : Fin grid0.N, k0_cond3 (grid0.coords t) = 1#1 ↔ t.val % 8 = 7)
theorem off1_eq : ∀ t : Fin cfg0.N, k0_off1 (grid0.coords t) = ![1024 * (t.val / 8), 0] :=
  (by decide +kernel : ∀ t : Fin grid0.N, k0_off1 (grid0.coords t) = ![1024 * (t.val / 8), 0])
theorem live5 : ∀ i : grid0.Coords, cfg0.idle 5 i = false :=
  (by decide +kernel : ∀ i : grid0.Coords, idle0 5 i = false)

/-! ## What the buffers hold -/

/-- Point `n` of the grid. -/
def pt (n : ℕ) : Fin cfg0.N := ⟨n % 256, Nat.mod_lt _ (by decide)⟩
theorem pt_val (t : Fin cfg0.N) : pt t.val = t := Fin.ext (Nat.mod_eq_of_lt t.isLt)

/-- The sum of the products after point `n`, over the hidden blocks met so far of its row block. -/
def sumAt (c : Dev nD) : ℕ → Vec F S1024x2048 .f32
  | 0 => k0_pay1 (iblk m c 0 (pt 0)) (iblk m c 2 (pt 0)) (iblk m c 3 (pt 0))
  | n + 1 => if (n + 1) % 8 = 0 then k0_pay1 (iblk m c 0 (pt (n + 1))) (iblk m c 2 (pt (n + 1))) (iblk m c 3 (pt (n + 1)))
      else k0_pay2 (sumAt c n) (iblk m c 0 (pt (n + 1))) (iblk m c 2 (pt (n + 1))) (iblk m c 3 (pt (n + 1)))

theorem sumAt_first (c : Dev nD) (t : Fin cfg0.N) (h : t.val % 8 = 0) :
    sumAt m c t.val = k0_pay1 (iblk m c 0 t) (iblk m c 2 t) (iblk m c 3 t) := by
  obtain ⟨n, hn⟩ := t
  have e : pt n = ⟨n, hn⟩ := pt_val ⟨n, hn⟩
  cases n with
  | zero => exact congrArg (fun s => k0_pay1 (iblk m c 0 s) (iblk m c 2 s) (iblk m c 3 s)) e
  | succ n =>
    show sumAt m c (n + 1) = _
    rw [sumAt, if_pos h, e]
theorem sumAt_next (c : Dev nD) (t : Fin cfg0.N) (h : t.val % 8 ≠ 0) :
    sumAt m c t.val = k0_pay2 (sumAt m c (t.val - 1)) (iblk m c 0 t) (iblk m c 2 t) (iblk m c 3 t) := by
  obtain ⟨n, hn⟩ := t
  have e : pt n = ⟨n, hn⟩ := pt_val ⟨n, hn⟩
  cases n with
  | zero => exact absurd rfl h
  | succ n =>
    show sumAt m c (n + 1) = k0_pay2 (sumAt m c n) _ _ _
    rw [sumAt, if_neg h, e]

/-- Rows `1024 b` to `1024 b + 1023` of the residual. -/
def resRows (c : Dev nD) (b : ℕ) : BufOf (F := F) c xM :=
  fun y : S1024x2048.Idx => (V m c main_arg1 : S32768x2048.Idx → Elt F .f32)
    (fun | ⟨0, _⟩ => ⟨(1024 * b + (y 0).val) % 32768, Nat.mod_lt _ (by decide)⟩ | ⟨1, _⟩ => ⟨(y 1).val, (y 1).isLt⟩)

theorem resRows_eq (c : Dev nD) (t : Fin cfg0.N) (h : k0_cond1 (grid0.coords t) = 1#1) :
    (srcM (grid0.coords t) h).view.read (Elt F) (V m c main_arg1) = resRows m c (t.val / 8) := by
  funext y
  refine congrArg (V m c main_arg1 : S32768x2048.Idx → Elt F .f32) (funext fun a => Fin.ext ?_)
  have hy : (y 0).val < 1024 := (y 0).isLt
  have ht : t.val < 256 := t.isLt
  match a with
  | ⟨0, _⟩ =>
    show k0_off1 (grid0.coords t) 0 + 1 * (y 0).val = (1024 * (t.val / 8) + (y 0).val) % 32768
    rw [off1_eq]
    show 1024 * (t.val / 8) + 1 * (y 0).val = _
    omega
  | ⟨1, _⟩ =>
    show k0_off1 (grid0.coords t) 1 + 1 * (y 1).val = (y 1).val
    rw [off1_eq]
    show 0 + 1 * (y 1).val = _
    omega

/-- The result's buffer after point `t`. -/
def outAt (c : Dev nD) (t : Fin cfg0.N) : Vec F S1024x2048 .f32 :=
  if t.val % 8 = 7 then fin (gateRow (iblk m c 1 t)) (resRows m c (t.val / 8)) (sumAt m c t.val) (iblk m c 4 t) else sumAt m c t.val

/-! ## The invariant between the points -/

/-- The body's one DMA semaphore. -/
abbrev osem0 : Fin 1 → SemLoc sig := fun j => (![SemLoc.dma 11] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 11) 0 := by
  rw [Pipeline.ownSems0_eq_of_list c osem0 [0] (by decide) (by decide)]; rfl
/-- The operand left in HBM. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = at_ c hM (V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop((∃ f, at_ c xM f) ∗ (∃ r, prngReg c r) ∗ semVal ((c : Thread nD τ), SemLoc.dma 11) 0 ∗ at_ c hM (V m c main_arg1)) := by
  rw [Pipeline.ΦD_eq, scopedRest0_eq, ownSems00_eq, hbmPts0_eq]; try rfl

/-- Before point `n`: at rest when a row block begins, the transfer of the block's residual rows in flight otherwise. -/
def PhiAt (c : Dev nD) (n : ℕ) : sProp 𝕄 :=
  if n % 8 = 0 then Pipeline.ΦD osem0 spec0 H0 (V m) c
  else iprop((∃ r, prngReg c r) ∗ ∃ S, flying c S (resRows m c (n / 8)) (V m c main_arg1))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiAt m c t.val
  q _ := fullShare
  owed _ := 0

theorem A_eq (c : Dev nD) (w : Fin cfg0.W) : (dats m 0 c).A w = V m c (Pipeline.arrRef spec0 w) := by dsimp only [dats]
theorem after0_5 (c : Dev nD) (t : Fin cfg0.N) : (dats m 0 c).after 5 t = outAt m c t := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- Past the first point of a row block the result's buffer holds the sum so far. -/
theorem before0_5 (c : Dev nD) (t : Fin cfg0.N) (h : t.val % 8 ≠ 0) (d) : (dats m 0 c).before 5 t d = sumAt m c (t.val - 1) := by
  have h0 : t.val ≠ 0 := fun e => h (by rw [e])
  rw [(dats m 0 c).before_out_kept 5 rfl t h0 ?_ live5 (fun _ _ => rfl), after0_5, outAt, if_neg]
  · show ¬ (t.val - 1) % 8 = 7
    omega
  · have := flush0_5 ⟨t.val - 1, Nat.lt_of_le_of_lt (Nat.sub_le _ _) t.isLt⟩
    rw [Bool.eq_false_iff]
    intro e
    have := this.mp e
    change (t.val - 1) % 8 = 7 at this
    omega

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [after0_0, after0_1, after0_2, after0_3, after0_4, after0_5]
  rw [show (dats m 0 c).Φ t.castSucc = PhiAt m c t.val from rfl, show (dats m 0 c).Φ t.succ = PhiAt m c (t.val + 1) from rfl]
  unfold Dat.owesAt Pipeline.owesWithin
  rw [show (dats m 0 c).owed t.castSucc = 0 from rfl, show (dats m 0 c).owed t.succ = 0 from rfl]
  unfold PhiAt
  by_cases h0 : t.val % 8 = 0
  · -- the first point of a row block
    have hd : (t.val + 1) / 8 = t.val / 8 := by omega
    rw [if_pos h0, if_neg (by omega : ¬ (t.val + 1) % 8 = 0), PhiD0_eq, hd, outAt, if_neg (by omega : ¬ t.val % 8 = 7), sumAt_first m c t h0]
    iintro ⟨⟨⟨%fx, Hx⟩, Hg, Hs, Hh⟩, ⟨%W, -, HW⟩, ⟨%d0, H0⟩, ⟨%d1, H1⟩, ⟨%d2, H2⟩, ⟨%d3, H3⟩, ⟨%d4, H4⟩, ⟨%d5, H5⟩⟩
    have c1 := (cond1_iff t).mpr h0
    iapply (run_first c (grid0.coords t) c1 (fun e => (cond2_iff t).mp e h0) (fun e => by have := (cond3_iff t).mp e; omega)
      _ _ _ _ _ _ _ _ _ _ _ _ (iblk m c 0 t) (iblk m c 2 t) (iblk m c 3 t) (V m c main_arg1) fx W)
    isplitl [H0]; · iexact H0
    isplitl [H2]; · iexact H2
    isplitl [H3]; · iexact H3
    isplitl [H5]; · iexists _; iexact H5
    isplitl [Hx]; · iexact Hx
    isplitl [Hs]; · iexact Hs
    isplitl [Hh]; · iexact Hh
    isplitl [HW]; · iexact HW
    iintro ⟨H0, H2, H3, H5, ⟨%S, Hf⟩, HW⟩
    isplitl [Hg Hf]
    · isplitl [Hg]; · iexact Hg
      iexists S
      rw [← resRows_eq m c t c1]
      iexact Hf
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  · simp only [before0_5 m c t h0]
    rw [if_neg h0]
    by_cases h7 : t.val % 8 = 7
    · -- the last point of a row block
      rw [if_pos (by omega : (t.val + 1) % 8 = 0), PhiD0_eq, outAt, if_pos h7, sumAt_next m c t h0]
      iintro ⟨⟨Hg, ⟨%S, Hf⟩⟩, ⟨%W, -, HW⟩, ⟨%d0, H0⟩, ⟨%d1, H1⟩, ⟨%d2, H2⟩, ⟨%d3, H3⟩, ⟨%d4, H4⟩, ⟨%d5, H5⟩⟩
      iapply (run_last c (grid0.coords t) (fun e => h0 ((cond1_iff t).mp e)) ((cond2_iff t).mpr h0) ((cond3_iff t).mpr h7)
        _ _ _ _ _ _ _ _ _ _ _ _ (iblk m c 0 t) (iblk m c 1 t) (iblk m c 2 t) (iblk m c 3 t) (iblk m c 4 t) (sumAt m c (t.val - 1))
        S (V m c main_arg1) (resRows m c (t.val / 8)) W)
      isplitl [H0]; · iexact H0
      isplitl [H1]; · iexact H1
      isplitl [H2]; · iexact H2
      isplitl [H3]; · iexact H3
      isplitl [H4]; · iexact H4
      isplitl [H5]; · iexact H5
      isplitl [Hf]; · iexact Hf
      isplitl [HW]; · iexact HW
      iintro ⟨H0, H1, H2, H3, H4, H5, Hx, Hs, Hh, ⟨%W', HW⟩⟩
      isplitl [Hg Hx Hs Hh]
      · isplitl [Hx]; · iexists _; iexact Hx
        isplitl [Hg]; · iexact Hg
        isplitl [Hs]; · iexact Hs
        iexact Hh
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      iexact H5
    · -- a point between
      have hd : (t.val + 1) / 8 = t.val / 8 := by omega
      rw [if_neg (by omega : ¬ (t.val + 1) % 8 = 0), hd, outAt, if_neg h7, sumAt_next m c t h0]
      iintro ⟨HP, ⟨%W, -, HW⟩, ⟨%d0, H0⟩, ⟨%d1, H1⟩, ⟨%d2, H2⟩, ⟨%d3, H3⟩, ⟨%d4, H4⟩, ⟨%d5, H5⟩⟩
      iapply (run_mid c (grid0.coords t) (fun e => h0 ((cond1_iff t).mp e)) ((cond2_iff t).mpr h0) (fun e => h7 ((cond3_iff t).mp e))
        _ _ _ _ _ _ _ _ _ _ _ _ (iblk m c 0 t) (iblk m c 2 t) (iblk m c 3 t) (sumAt m c (t.val - 1)) W)
      isplitl [H0]; · iexact H0
      isplitl [H2]; · iexact H2
      isplitl [H3]; · iexact H3
      isplitl [H5]; · iexact H5
      isplitl [HW]; · iexact HW
      iintro ⟨H0, H2, H3, H5, HW⟩
      isplitl [HP]; · iexact HP
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  rw [show cfg0.idle 5 (cfg0.grid.coords t) = false from live5 _]
  exact .rfl

/-! ## The run -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The arrays end as the proof data says, every other buffer unchanged and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun c => by rw [show (dats m 0 c).Φ 0 = PhiAt m c 0 from rfl]; exact .rfl)
    (hout := fun c => by rw [show (dats m 0 c).Φ (Fin.last cfg0.N) = PhiAt m c 256 from rfl]; exact .rfl)

/-- The result's array and the arguments at the end of the run. -/
theorem run_post : θ_run defs (onTc (τ := τ) (main (F := F))) ⟨m, fun _ => 0, ρ⟩ (fun r => (∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 5,
      ((h.1 c).1 0).trans (((dats m 0 c).arrAt_in 0 rfl _).trans (A_eq m c 0)),
      (h.1 c).2 main_arg1 (Pipeline.mem_restRefs_of main_arg1 (by decide) (by decide)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩, h.2⟩) (run_main m ρ)

/-- The arguments end as they were and every counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_post m ρ)

end Cert.KernelIdeal.Hand

end
-- ==== Proof.FfnPure.lean ====
/- The feed-forward at the ideal instance, element by element: what the kernel's stores and the reference compute. -/
module

public import proofs.«01_k».proof.Proof.Gen.ReferenceIdeal.Run
public import proofs.«01_k».proof.Proof.FfnFrame
public import Idealize.ShloMosaic.Lib.Pointwise
public import Idealize.ShloMosaic.Lib.Pipeline.Value

@[expose] public section

noncomputable section

namespace Cert.FfnValue
open Idealize.ShloMosaic Idealize.ShloMosaic.TcCoe Idealize.SL.Sem

/-! ## The function -/

section
variable (h : FVec Ideal ⟨2, ![32768, 2048]⟩ .bf16) (x : FVec Ideal ⟨2, ![32768, 2048]⟩ .f32) (md : FVec Ideal ⟨3, ![8, 6, 2048]⟩ .f32)
  (w1 : FVec Ideal ⟨2, ![2048, 8192]⟩ .bf16) (w2 : FVec Ideal ⟨2, ![8192, 2048]⟩ .bf16) (gp : FVec Ideal ⟨2, ![1, 2048]⟩ .f32)

/-- The hidden unit `k` of row `R`: the squared positive part of the first product. -/
def hid (R : Fin 32768) (k : Fin 8192) : EReal :=
  max (∑ j : Fin 2048, (h (ix2 R j) : EReal) * w1 (ix2 j k)) 0 * max (∑ j : Fin 2048, (h (ix2 R j) : EReal) * w1 (ix2 j k)) 0
/-- The second product. -/
def ffn (R : Fin 32768) (C : Fin 2048) : EReal := ∑ k : Fin 8192, hid h w1 R k * (w2 (ix2 k C) : EReal)
/-- A row divided by its root mean square. -/
def normed (o : Fin 2048 → EReal) (C : Fin 2048) : EReal :=
  o C * Ideal.rsqrt (Ideal.div (∑ k : Fin 2048, o k * o k) (Ideal.ofBits .f32 0x45000000#32) + Ideal.ofBits .f32 0x358637BD#32)
/-- The residual plus the gated normed product. -/
def out (R : Fin 32768) (C : Fin 2048) : EReal :=
  (x (ix2 R C) : EReal) + (md (ix3 (⟨R.val / 4096, by omega⟩ : Fin 8) (5 : Fin 6) C) : EReal)
    * (normed (ffn h w1 w2 R) C * (gp (ix2 0 C) : EReal))
end

/-! ## The kernel's stores -/

section
open Cert.KernelIdeal Cert.KernelIdeal.Gen Cert.KernelIdeal.Hand

theorem pay1_apply (v12 : Vec Ideal S1024x2048 .bf16) (v13 : Vec Ideal S2048x1024 .bf16) (v19 : Vec Ideal S1024x2048 .bf16) (r : Fin 1024) (l : Fin 2048) :
    k0_pay1 v12 v13 v19 (ix2 r l) = ∑ k : Fin 1024, (max (∑ j : Fin 2048, (v12 (ix2 r j) : EReal) * v13 (ix2 j k)) 0
      * max (∑ j : Fin 2048, (v12 (ix2 r j) : EReal) * v13 (ix2 j k)) 0) * (v19 (ix2 k l) : EReal) := by
  pointwise [k0_pay1]
theorem pay2_apply (a : Vec Ideal S1024x2048 .f32) (v12 : Vec Ideal S1024x2048 .bf16) (v13 : Vec Ideal S2048x1024 .bf16) (v19 : Vec Ideal S1024x2048 .bf16)
    (r : Fin 1024) (l : Fin 2048) :
    k0_pay2 a v12 v13 v19 (ix2 r l) = (a (ix2 r l) : EReal) + ∑ k : Fin 1024, (max (∑ j : Fin 2048, (v12 (ix2 r j) : EReal) * v13 (ix2 j k)) 0
      * max (∑ j : Fin 2048, (v12 (ix2 r j) : EReal) * v13 (ix2 j k)) 0) * (v19 (ix2 k l) : EReal) := by
  pointwise [k0_pay2]
theorem chunk_apply (g : FVec Ideal S1x2048 .f32) (x o : Vec Ideal S16x2048 .f32) (gp : Vec Ideal S1x2048 .f32) (r : Fin 16) (l : Fin 2048) :
    chunk g x o gp (ix2 r l) = (x (ix2 r l) : EReal) + (g (ix2 0 l) : EReal) * (normed (fun k => (o (ix2 r k) : EReal)) l * (gp (ix2 0 l) : EReal)) := by
  pointwise [chunk, k0_pay9, normed]
end

/-! ## The reference -/

section
open Cert.ReferenceIdeal Cert.ReferenceIdeal.Gen
theorem ref_apply (h : FVec Ideal S32768x2048 .bf16) (x : FVec Ideal S32768x2048 .f32) (md : FVec Ideal S8x6x2048 .f32)
    (w1 : FVec Ideal S2048x8192 .bf16) (w2 : FVec Ideal S8192x2048 .bf16) (gp : FVec Ideal S1x2048 .f32) (R : Fin 32768) (C : Fin 2048) :
    (shapeCast S32768x2048 (addf (shapeCast S8x4096x2048 x shapeCasts_S32768x2048_S8x4096x2048) (mulf (broadcastInDim S8x4096x2048 ![0, 1, 2] bcast_S8x1x2048_S8x4096x2048_0_1_2 (extractStridedSlice S8x1x2048 ![0, 5, 0] md slices_S8x6x2048_S8x1x2048_0_5_0)) (shapeCast S8x4096x2048 (mulf (mulf (Host.dotGeneral dot_S32768x8192_S8192x2048_S32768x2048_1_0_0_1_n_n none (mulf (maximumf (Host.dotGeneral dot_S32768x2048_S2048x8192_S32768x8192_1_0_0_1_n_n none (extf .f32 h bitsLt_bf16_f32) (extf .f32 w1 bitsLt_bf16_f32)) (broadcastInDim S32768x8192 ![] bcast_S_S32768x8192 (constant S_ .f32 0x00000000#32))) (maximumf (Host.dotGeneral dot_S32768x2048_S2048x8192_S32768x8192_1_0_0_1_n_n none (extf .f32 h bitsLt_bf16_f32) (extf .f32 w1 bitsLt_bf16_f32)) (broadcastInDim S32768x8192 ![] bcast_S_S32768x8192 (constant S_ .f32 0x00000000#32)))) (extf .f32 w2 bitsLt_bf16_f32)) (broadcastInDim S32768x2048 ![0, 1] bcast_S32768x1_S32768x2048_0_1 (Host.rsqrt (addf (Host.divf (broadcastInDim S32768x1 ![0] bcast_S32768_S32768x1_0 (Host.reduceAdd (mulf (Host.dotGeneral dot_S32768x8192_S8192x2048_S32768x2048_1_0_0_1_n_n none (mulf (maximumf (Host.dotGeneral dot_S32768x2048_S2048x8192_S32768x8192_1_0_0_1_n_n none (extf .f32 h bitsLt_bf16_f32) (extf .f32 w1 bitsLt_bf16_f32)) (broadcastInDim S32768x8192 ![] bcast_S_S32768x8192 (constant S_ .f32 0x00000000#32))) (maximumf (Host.dotGeneral dot_S32768x2048_S2048x8192_S32768x8192_1_0_0_1_n_n none (extf .f32 h bitsLt_bf16_f32) (extf .f32 w1 bitsLt_bf16_f32)) (broadcastInDim S32768x8192 ![] bcast_S_S32768x8192 (constant S_ .f32 0x00000000#32)))) (extf .f32 w2 bitsLt_bf16_f32)) (Host.dotGeneral dot_S32768x8192_S8192x2048_S32768x2048_1_0_0_1_n_n none (mulf (maximumf (Host.dotGeneral dot_S32768x2048_S2048x8192_S32768x8192_1_0_0_1_n_n none (extf .f32 h bitsLt_bf16_f32) (extf .f32 w1 bitsLt_bf16_f32)) (broadcastInDim S32768x8192 ![] bcast_S_S32768x8192 (constant S_ .f32 0x00000000#32))) (maximumf (Host.dotGeneral dot_S32768x2048_S2048x8192_S32768x8192_1_0_0_1_n_n none (extf .f32 h bitsLt_bf16_f32) (extf .f32 w1 bitsLt_bf16_f32)) (broadcastInDim S32768x8192 ![] bcast_S_S32768x8192 (constant S_ .f32 0x00000000#32)))) (extf .f32 w2 bitsLt_bf16_f32))) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast S2048 gp shapeCasts_S1x2048_S2048)))) shapeCasts_S32768x2048_S8x4096x2048))) shapeCasts_S8x4096x2048_S32768x2048 : FVec Ideal S32768x2048 .f32) (ix2 R C)
      = out h x md w1 w2 gp R C := by
  pointwise [out, normed, ffn, hid]
end
end Cert.FfnValue

end
-- x
-- ==== Proof.FfnValue.lean ====
/- The feed-forward kernel's result array and the reference's, equal at the ideal instance. -/
module

public import proofs.«01_k».proof.Defs
public import proofs.«01_k».proof.Proof.FfnPure

@[expose] public section

noncomputable section

namespace Cert.FfnValue
open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg) (c : Dev nD)

/-! ## The blocks read at a point -/

theorem index0 : ∀ t : Fin cfg0.N, win0_0.index t 0 = t.val / 8 ∧ win0_0.index t 1 = 0 :=
  (by decide +kernel : ∀ t : Fin grid0.N, win0_0.index t 0 = t.val / 8 ∧ win0_0.index t 1 = 0)
theorem index1 : ∀ t : Fin cfg0.N, win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0)
theorem index2 : ∀ t : Fin cfg0.N, win0_2.index t 0 = 0 ∧ win0_2.index t 1 = t.val % 8 :=
  (by decide +kernel : ∀ t : Fin grid0.N, win0_2.index t 0 = 0 ∧ win0_2.index t 1 = t.val % 8)
theorem index3 : ∀ t : Fin cfg0.N, win0_3.index t 0 = t.val % 8 ∧ win0_3.index t 1 = 0 :=
  (by decide +kernel : ∀ t : Fin grid0.N, win0_3.index t 0 = t.val % 8 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val / 8 ∧ win0_5.index t 1 = 0 :=
  (by decide +kernel : ∀ t : Fin grid0.N, win0_5.index t 0 = t.val / 8 ∧ win0_5.index t 1 = 0)

/-- Row `r` of row block `b`. -/
abbrev rowOf (b : ℕ) (hb : b < 32) (r : Fin 1024) : Fin 32768 := ⟨1024 * b + r.val, by omega⟩
/-- Hidden unit `k` of hidden block `j`. -/
abbrev unitOf (j : ℕ) (hj : j < 8) (k : Fin 1024) : Fin 8192 := ⟨1024 * j + k.val, by omega⟩

abbrev aH : FVec Ideal S32768x2048 .bf16 := m ((c : Thread nD τ).loc main_arg0)
abbrev aX : FVec Ideal S32768x2048 .f32 := m ((c : Thread nD τ).loc main_arg1)
abbrev aM : FVec Ideal S8x6x2048 .f32 := m ((c : Thread nD τ).loc main_arg2)
abbrev aW1 : FVec Ideal S2048x8192 .bf16 := m ((c : Thread nD τ).loc main_arg3)
abbrev aW2 : FVec Ideal S8192x2048 .bf16 := m ((c : Thread nD τ).loc main_arg4)
abbrev aG : FVec Ideal S1x2048 .f32 := m ((c : Thread nD τ).loc main_arg5)

theorem lt_N (t : Fin cfg0.N) : t.val < 256 := t.isLt

theorem iblk0 (t : Fin cfg0.N) (r : Fin 1024) (k : Fin 2048) :
    (iblk m c 0 t : Vec Ideal S1024x2048 .bf16) (ix2 r k) = aH m c (ix2 (rowOf (t.val / 8) (by have := lt_N t; omega) r) k) := by
  unfold iblk
  rw [View.read_apply]
  refine congrArg (aH m c) (funext fun a => Fin.ext ?_)
  match a with
  | ⟨0, _⟩ => show win0_0.index t 0 * 1024 + 1 * r.val = 1024 * (t.val / 8) + r.val; rw [(index0 t).1]; omega
  | ⟨1, _⟩ => show win0_0.index t 1 * 2048 + 1 * k.val = k.val; rw [(index0 t).2]; omega
theorem iblk1 (t : Fin cfg0.N) (a : Fin 1) (r : Fin 6) (k : Fin 2048) :
    (iblk m c 1 t : Vec Ideal S1x6x2048 .f32) (ix3 a r k) = aM m c (ix3 (⟨t.val / 32, by have := lt_N t; omega⟩ : Fin 8) r k) := by
  unfold iblk
  rw [View.read_apply]
  refine congrArg (aM m c) (funext fun b => Fin.ext ?_)
  match b with
  | ⟨0, _⟩ => show win0_1.index t 0 * 1 + 1 * a.val = t.val / 32; rw [(index1 t).1]; omega
  | ⟨1, _⟩ => show win0_1.index t 1 * 6 + 1 * r.val = r.val; rw [(index1 t).2.1]; omega
  | ⟨2, _⟩ => show win0_1.index t 2 * 2048 + 1 * k.val = k.val; rw [(index1 t).2.2]; omega
theorem iblk2 (t : Fin cfg0.N) (j : Fin 2048) (k : Fin 1024) :
    (iblk m c 2 t : Vec Ideal S2048x1024 .bf16) (ix2 j k) = aW1 m c (ix2 j (unitOf (t.val % 8) (by omega) k)) := by
  unfold iblk
  rw [View.read_apply]
  refine congrArg (aW1 m c) (funext fun a => Fin.ext ?_)
  match a with
  | ⟨0, _⟩ => show win0_2.index t 0 * 2048 + 1 * j.val = j.val; rw [(index2 t).1]; omega
  | ⟨1, _⟩ => show win0_2.index t 1 * 1024 + 1 * k.val = 1024 * (t.val % 8) + k.val; rw [(index2 t).2]; omega
theorem iblk3 (t : Fin cfg0.N) (k : Fin 1024) (l : Fin 2048) :
    (iblk m c 3 t : Vec Ideal S1024x2048 .bf16) (ix2 k l) = aW2 m c (ix2 (unitOf (t.val % 8) (by omega) k) l) := by
  unfold iblk
  rw [View.read_apply]
  refine congrArg (aW2 m c) (funext fun a => Fin.ext ?_)
  match a with
  | ⟨0, _⟩ => show win0_3.index t 0 * 1024 + 1 * k.val = 1024 * (t.val % 8) + k.val; rw [(index3 t).1]; omega
  | ⟨1, _⟩ => show win0_3.index t 1 * 2048 + 1 * l.val = l.val; rw [(index3 t).2]; omega
theorem iblk4 (t : Fin cfg0.N) (a : Fin 1) (l : Fin 2048) :
    (iblk m c 4 t : Vec Ideal S1x2048 .f32) (ix2 a l) = aG m c (ix2 (0 : Fin 1) l) := by
  unfold iblk
  rw [View.read_apply]
  refine congrArg (aG m c) (funext fun b => Fin.ext ?_)
  match b with
  | ⟨0, _⟩ => show win0_4.index t 0 * 1 + 1 * a.val = 0; rw [(index4 t).1]; omega
  | ⟨1, _⟩ => show win0_4.index t 1 * 2048 + 1 * l.val = l.val; rw [(index4 t).2]; omega

/-! ## The sum over the hidden blocks -/

/-- The term of hidden unit `n` in the second product at row `R`, column `C`; zero past the last unit. -/
def term (R : Fin 32768) (C : Fin 2048) (n : ℕ) : EReal :=
  if hn : n < 8192 then hid (aH m c) (aW1 m c) R ⟨n, hn⟩ * (aW2 m c (ix2 (⟨n, hn⟩ : Fin 8192) C) : EReal) else 0

/-- What one hidden block adds. -/
theorem block_sum (t : Fin cfg0.N) (r : Fin 1024) (l : Fin 2048) (u : FVec Ideal S1024x2048 .bf16) (v : FVec Ideal S2048x1024 .bf16)
    (w : FVec Ideal S1024x2048 .bf16) (hu : u = iblk m c 0 t) (hv : v = iblk m c 2 t) (hw : w = iblk m c 3 t) :
    (∑ k : Fin 1024, (max (∑ j : Fin 2048, (u (ix2 r j) : EReal) * v (ix2 j k)) 0
      * max (∑ j : Fin 2048, (u (ix2 r j) : EReal) * v (ix2 j k)) 0) * (w (ix2 k l) : EReal))
    = ∑ k ∈ Finset.range 1024, term m c (rowOf (t.val / 8) (by have := lt_N t; omega) r) l (1024 * (t.val % 8) + k) := by
  rw [← Fin.sum_univ_eq_sum_range (fun k => term m c (rowOf (t.val / 8) (by have := lt_N t; omega) r) l (1024 * (t.val % 8) + k)) 1024]
  refine Finset.sum_congr rfl fun k _ => ?_
  have hk : 1024 * (t.val % 8) + k.val < 8192 := by omega
  have e0 (j : Fin 2048) := (congrFun hu (ix2 r j)).trans (iblk0 m c t r j)
  have e2 (j : Fin 2048) := (congrFun hv (ix2 j k)).trans (iblk2 m c t j k)
  have e3 := (congrFun hw (ix2 k l)).trans (iblk3 m c t k l)
  simp only [e0, e2, e3]
  rw [term, dif_pos hk, hid]

theorem sumAt_apply (r : Fin 1024) (l : Fin 2048) : ∀ (n : ℕ) (hn : n < 256),
    (sumAt m c n : Vec Ideal S1024x2048 .f32) (ix2 r l)
      = ∑ k ∈ Finset.range (1024 * (n % 8 + 1)), term m c (rowOf (n / 8) (by omega) r) l k := by
  intro n
  induction n using Nat.strong_induction_on with
  | _ n ih =>
    intro hn
    have e := block_sum m c ⟨n, hn⟩ r l _ _ _ rfl rfl rfl
    by_cases h0 : n % 8 = 0
    · have s := sumAt_first m c ⟨n, hn⟩ h0
      dsimp only at s e
      rw [s, pay1_apply, e]
      simp only [h0, Nat.mul_zero, Nat.zero_add, Nat.mul_one]
    · have s := sumAt_next m c ⟨n, hn⟩ h0
      dsimp only at s e
      have hd : (n - 1) / 8 = n / 8 := by omega
      have hm : 1024 * ((n - 1) % 8 + 1) = 1024 * (n % 8) := by omega
      rw [s, pay2_apply, e, ih (n - 1) (by omega) (by omega), show 1024 * (n % 8 + 1) = 1024 * (n % 8) + 1024 by omega, Finset.sum_range_add, hm]
      simp only [hd]

/-- At the last point of a row block the sum is the whole second product. -/
theorem sumAt_last (t : Fin cfg0.N) (h7 : t.val % 8 = 7) (r : Fin 1024) (l : Fin 2048) :
    (sumAt m c t.val : Vec Ideal S1024x2048 .f32) (ix2 r l)
      = ffn (aH m c) (aW1 m c) (aW2 m c) (rowOf (t.val / 8) (by have := lt_N t; omega) r) l := by
  rw [sumAt_apply m c r l t.val (lt_N t), h7, ← Fin.sum_univ_eq_sum_range (term m c _ l) 8192, ffn]
  refine Finset.sum_congr rfl fun k _ => ?_
  rw [term, dif_pos k.isLt]

/-! ## The result array -/

/-- The result as an array. -/
def result : Buf (Elt Ideal) ((c : Thread nD τ).loc main_v0) :=
  fun y : S32768x2048.Idx => out (aH m c) (aX m c) (aM m c) (aW1 m c) (aW2 m c) (aG m c) (y 0) (y 1)

theorem gateRow_apply (t : Fin cfg0.N) (l : Fin 2048) :
    gateRow (iblk m c 1 t) (ix2 0 l) = aM m c (ix3 (⟨t.val / 32, by have := lt_N t; omega⟩ : Fin 8) (5 : Fin 6) l) := by
  rw [← iblk1 m c t 0 5 l]
  pointwise [gateRow, k0_pay4]

theorem outAt_apply (t : Fin cfg0.N) (h7 : t.val % 8 = 7) (r : Fin 1024) (l : Fin 2048) :
    outAt m c t (ix2 r l) = out (aH m c) (aX m c) (aM m c) (aW1 m c) (aW2 m c) (aG m c) (rowOf (t.val / 8) (by have := lt_N t; omega) r) l := by
  rw [outAt, if_pos h7]
  have eA (k : Fin 2048) : (rows (sumAt m c t.val) (r.val / 16) : S16x2048.Idx → Elt Ideal .f32) (ix2 (⟨r.val % 16, by omega⟩ : Fin 16) k)
      = ffn (aH m c) (aW1 m c) (aW2 m c) (rowOf (t.val / 8) (by have := lt_N t; omega) r) k := by
    rw [← sumAt_last m c t h7 r k]
    refine congrArg (sumAt m c t.val) (funext fun a => Fin.ext ?_)
    match a with
    | ⟨0, _⟩ => show (16 * (r.val / 16) + r.val % 16) % 1024 = r.val; omega
    | ⟨1, _⟩ => rfl
  have eX : (rows (resRows m c (t.val / 8)) (r.val / 16) : S16x2048.Idx → Elt Ideal .f32) (ix2 (⟨r.val % 16, by omega⟩ : Fin 16) l)
      = aX m c (ix2 (rowOf (t.val / 8) (by have := lt_N t; omega) r) l) := by
    refine congrArg (aX m c) (funext fun a => Fin.ext ?_)
    have := lt_N t
    match a with
    | ⟨0, _⟩ => show (1024 * (t.val / 8) + (16 * (r.val / 16) + r.val % 16) % 1024) % 32768 = 1024 * (t.val / 8) + r.val; omega
    | ⟨1, _⟩ => rfl
  have e16 : at16 (r.val % 16) l.val (Nat.mod_lt _ (by decide)) l.isLt = ix2 (⟨r.val % 16, by omega⟩ : Fin 16) l := by
    funext a
    match a with
    | ⟨0, _⟩ => rfl
    | ⟨1, _⟩ => rfl
  have ht : (⟨t.val / 32, by have := lt_N t; omega⟩ : Fin 8) = ⟨(rowOf (t.val / 8) (by have := lt_N t; omega) r).val / 4096, by have := lt_N t; omega⟩ :=
    Fin.ext (by show t.val / 32 = (1024 * (t.val / 8) + r.val) / 4096; omega)
  show chunk (gateRow (iblk m c 1 t)) (rows (resRows m c (t.val / 8)) (r.val / 16)) (rows (sumAt m c t.val) (r.val / 16)) (iblk m c 4 t)
    (at16 (r.val % 16) l.val (Nat.mod_lt _ (by decide)) l.isLt) = _
  rw [e16, chunk_apply, eX, gateRow_apply, ht]
  simp only [eA]
  rw [iblk4 m c t 0 l, out]

theorem flushed_eq (t : Fin cfg0.N) (hf : (cfg0.win 5).flush t = true) :
    (dats m 0 c).flushed 5 t = ((cfg0.win 5).blk t).view.read (Elt Ideal) (result m c) := by
  have h7 := (flush0_5 t).mp hf
  show (cfg0.win 5).cut (grid0.coords t) ((dats m 0 c).after 5 t) = _
  rw [after0_5]
  funext y
  rw [View.read_apply]
  have hy : (y : S1024x2048.Idx) = ix2 (y 0) (y 1) := by
    funext a
    match a with
    | ⟨0, _⟩ => rfl
    | ⟨1, _⟩ => rfl
  refine (congrArg (outAt m c t) hy).trans ((outAt_apply m c t h7 (y 0) (y 1)).trans ?_)
  unfold result
  refine congrArg₂ (out (aH m c) (aX m c) (aM m c) (aW1 m c) (aW2 m c) (aG m c)) (Fin.ext ?_) (Fin.ext ?_)
  · show 1024 * (t.val / 8) + (y 0).val = win0_5.index t 0 * 1024 + 1 * (y 0).val
    rw [(index5 t).1]; omega
  · show (y 1).val = win0_5.index t 1 * 2048 + 1 * (y 1).val
    rw [(index5 t).2]; omega

theorem covered (i : S32768x2048.Idx) : ∃ t : Fin cfg0.N, (cfg0.win 5).flush t = true ∧ i ∈ ((cfg0.win 5).blk t).view.set := by
  have h0 : (i 0).val < 32768 := (i 0).isLt
  have h1 : (i 1).val < 2048 := (i 1).isLt
  obtain ⟨t, ht⟩ : ∃ t : Fin cfg0.N, t.val = 8 * ((i 0).val / 1024) + 7 := ⟨⟨8 * ((i 0).val / 1024) + 7, show _ < 256 by omega⟩, rfl⟩
  refine ⟨t, (flush0_5 t).mpr (by omega), ?_⟩
  show i ∈ ((View.whole main_v0).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [(index5 t).1]
    omega
  | ⟨1, _⟩ =>
    show win0_5.index t 1 * 2048 ≤ (i 1).val ∧ (i 1).val < win0_5.index t 1 * 2048 + 2048
    rw [(index5 t).2]
    omega

theorem final : (dats m 0 c).arrAt 5 cfg0.N = result m c :=
  (dats m 0 c).arrAt_eq_of_cover 5 (result m c) (flushed_eq m c) covered

/-! ## The claim -/

theorem algebraic : Cert.algebraic_KernelIdeal_ReferenceIdeal := by
  intro m ρ m' ρ' _ hagree
  refine ⟨fun c => result m c, ?_, ?_⟩
  · exact (θ_run Cert.KernelIdeal.defs _ _).mono (fun _ h c => ⟨((h.1 c).1).trans (final m c), (h.1 c).2⟩) (run_post m ρ)
  · refine (θ_run Cert.ReferenceIdeal.defs _ _).mono (fun _ h c => ⟨((h c).1).trans ?_, (h c).2⟩) (Cert.ReferenceIdeal.Value.run (F := Ideal) m' ρ')
    obtain ⟨e0, e1, e2, e3, e4, e5⟩ := hagree c
    rw [e0, e1, e2, e3, e4, e5]
    funext y
    have hy : (y : S32768x2048.Idx) = ix2 (y 0) (y 1) := by
      funext a
      match a with
      | ⟨0, _⟩ => rfl
      | ⟨1, _⟩ => rfl
    exact (congrArg _ hy).trans (ref_apply (aH m c) (aX m c) (aM m c) (aW1 m c) (aW2 m c) (aG m c) (y 0) (y 1))

end Cert.FfnValue

end
-- ==== Proof.AttRows.lean ====
module

public import proofs.«01_k».proof.Proof.Gen.Kernel2Ideal.Frame
public import proofs.«01_k».proof.Proof.Gen.Kernel2Ideal.Skeleton
public import Idealize.ShloMosaic.Lib.VecWindow
public import Idealize.ShloMosaic.Lib.Pointwise

@[expose] public section

set_option maxRecDepth 16384

noncomputable section

/-! What the attention's scratch buffers hold, row group by row group. The kernel updates the running maximum, the running sum,
the weights, the rescaling factors and the accumulator a group of rows at a time; the lists of its stores are read here as
functions of the whole buffers. -/

namespace Cert.Kernel2Ideal.Hand

open Idealize.ShloMosaic Idealize.ShloMosaic.TcCoe Idealize.ShloMosaic.Tactic
open Idealize.SL Idealize.SL.RA Idealize.SL.BI
open Cert.Kernel2Ideal.Gen

variable {F : FTy → Type} [FloatOps F]

/-! ## Groups of rows of a buffer -/

section Rows
variable {α : Type} {N D : ℕ}

/-- `W` rows of a buffer of `N` rows, from row `o` on. -/
def rowsOf (W : ℕ) (hN : 0 < N) (X : (⟨2, ![N, D]⟩ : Shape).Idx → α) (o : ℕ) : (⟨2, ![W, D]⟩ : Shape).Idx → α :=
  fun x => X (ix2 ⟨(o + (x 0).val) % N, Nat.mod_lt _ hN⟩ ⟨(x 1).val, (x 1).isLt⟩)

/-- The buffer `X` with `n` groups of `W` rows from row `b` on replaced by `g 0`, `g 1`, and so on. -/
def put (b W n : ℕ) (hW : 0 < W) (g : ℕ → (⟨2, ![W, D]⟩ : Shape).Idx → α) (X : (⟨2, ![N, D]⟩ : Shape).Idx → α) :
    (⟨2, ![N, D]⟩ : Shape).Idx → α :=
  fun y => if b ≤ (y 0).val ∧ (y 0).val < b + W * n then
      g (((y 0).val - b) / W) (ix2 ⟨((y 0).val - b) % W, Nat.mod_lt _ hW⟩ ⟨(y 1).val, (y 1).isLt⟩)
    else X y

theorem put_zero (b W : ℕ) (hW : 0 < W) (g : ℕ → (⟨2, ![W, D]⟩ : Shape).Idx → α) (X : (⟨2, ![N, D]⟩ : Shape).Idx → α) :
    put b W 0 hW g X = X := by
  funext y
  unfold put
  rw [if_neg (by omega)]

end Rows

/-- The stores `L` leave the buffer at `X`, whatever it held. -/
def Has {N D : ℕ} {e : EltTy} (L : List (View.Piece (Elt F) (⟨2, ![N, D]⟩ : Shape) e)) (X : Vec F (⟨2, ![N, D]⟩ : Shape) e) : Prop :=
  ∀ (v : View sig .tc .vmem (⟨2, ![N, D]⟩ : Shape) e) f y, v.read (Elt F) (v.writes (Elt F) f L) y = X y

section Has
variable {N D : ℕ} {e : EltTy}

theorem has_whole {off : Fin 2 → ℕ} (inb : ∀ a, off a + (⟨2, ![N, D]⟩ : Shape).size a ≤ (⟨2, ![N, D]⟩ : Shape).size a)
    (X : Vec F (⟨2, ![N, D]⟩ : Shape) e) : Has (F := F) [⟨Rect.unit (s := ⟨2, ![N, D]⟩) off (⟨2, ![N, D]⟩ : Shape).size inb, X⟩] X := by
  intro v f y
  rw [View.read_writes_full]

theorem has_put_succ {L : List (View.Piece (Elt F) (⟨2, ![N, D]⟩ : Shape) e)} {X : Vec F (⟨2, ![N, D]⟩ : Shape) e} {b W n : ℕ} (hW : 0 < W)
    {g : ℕ → Vec F (⟨2, ![W, D]⟩ : Shape) e} (h : Has L (put b W n hW g X)) {off : Fin 2 → ℕ}
    (inb : ∀ a, off a + (⟨2, ![W, D]⟩ : Shape).size a ≤ (⟨2, ![N, D]⟩ : Shape).size a) (hoff : off = ![b + W * n, 0])
    {p : Vec F (⟨2, ![W, D]⟩ : Shape) e} (hp : p = g n) :
    Has (F := F) (⟨Rect.unit (s := ⟨2, ![N, D]⟩) off (⟨2, ![W, D]⟩ : Shape).size inb, p⟩ :: L) (put b W (n + 1) hW g X) := by
  intro v f y
  subst hoff hp
  have hm : W * (n + 1) = W * n + W := by ring
  by_cases hy : b + W * n ≤ (y 0).val ∧ (y 0).val < b + W * n + W
  · have hlt : (y 0).val - (b + W * n) < W := by omega
    rw [View.read_writes_cons_rows_of_mem v f inb (g n) L y (ix2 ⟨(y 0).val - (b + W * n), hlt⟩ ⟨(y 1).val, (y 1).isLt⟩) rfl
      (by show _ = b + W * n + ((y 0).val - (b + W * n)); omega) rfl]
    unfold put
    rw [if_pos (by omega)]
    have e0 : (y 0).val - b = ((y 0).val - (b + W * n)) + W * n := by omega
    have e1 : ((y 0).val - b) / W = n := by rw [e0, Nat.add_mul_div_left _ _ hW, Nat.div_eq_of_lt hlt, Nat.zero_add]
    have e2 : ((y 0).val - b) % W = (y 0).val - (b + W * n) := by rw [e0, Nat.add_mul_mod_self_left, Nat.mod_eq_of_lt hlt]
    rw [e1]
    refine congrArg _ (congrArg₂ ix2 (Fin.ext ?_) rfl)
    exact e2.symm
  · rw [View.read_writes_cons_rows_of_not_mem v f inb (g n) L y (o := b + W * n) (W := W) rfl rfl (by omega), h v f y]
    unfold put
    by_cases h' : b ≤ (y 0).val ∧ (y 0).val < b + W * n
    · rw [if_pos h', if_pos (by omega)]
    · rw [if_neg h', if_neg (by omega)]

theorem has_read {L : List (View.Piece (Elt F) (⟨2, ![N, D]⟩ : Shape) e)} {X : Vec F (⟨2, ![N, D]⟩ : Shape) e} (h : Has L X)
    (v : View sig .tc .vmem (⟨2, ![N, D]⟩ : Shape) e) {W o : ℕ} (hN : 0 < N) {off : Fin 2 → ℕ}
    (inb : ∀ a, off a + (⟨2, ![W, D]⟩ : Shape).size a ≤ (⟨2, ![N, D]⟩ : Shape).size a) (hoff : off = ![o, 0]) :
    v.readCov L (Rect.unit (s := ⟨2, ![N, D]⟩) off (⟨2, ![W, D]⟩ : Shape).size inb).toLoadRect = rowsOf W hN X o := by
  subst hoff
  funext z
  show v.read (Elt F) (v.writes (Elt F) v.junk L) _ = _
  rw [h]
  refine congrArg X ?_
  have hz : (z 0).val < W := (z 0).isLt
  have hb : o + W ≤ N := inb 0
  funext a
  apply Fin.ext
  match a with
  | ⟨0, _⟩ => show o + 1 * (z 0).val = (o + (z 0).val) % N; rw [Nat.mod_eq_of_lt (by omega), Nat.one_mul]
  | ⟨1, _⟩ => show 0 + 1 * (z 1).val = (z 1).val; omega

theorem has_row {L : List (View.Piece (Elt F) (⟨2, ![N, D]⟩ : Shape) e)} {X : Vec F (⟨2, ![N, D]⟩ : Shape) e} {b W n : ℕ} (hW : 0 < W)
    {g : ℕ → Vec F (⟨2, ![W, D]⟩ : Shape) e} (h : Has L (put b W n hW g X))
    (v : View sig .tc .vmem (⟨2, ![N, D]⟩ : Shape) e) (hN : 0 < N) {off : Fin 2 → ℕ}
    (inb : ∀ a, off a + (⟨2, ![W, D]⟩ : Shape).size a ≤ (⟨2, ![N, D]⟩ : Shape).size a) (hoff : off = ![b + W * n, 0]) :
    v.readCov L (Rect.unit (s := ⟨2, ![N, D]⟩) off (⟨2, ![W, D]⟩ : Shape).size inb).toLoadRect = rowsOf W hN X (b + W * n) := by
  rw [has_read h v hN inb hoff]
  funext z
  have hz : (z 0).val < W := (z 0).isLt
  have hb : b + W * n + W ≤ N := by subst hoff; exact inb 0
  show put b W n hW g X _ = X _
  unfold put
  rw [if_neg]
  show ¬ (b ≤ (b + W * n + (z 0).val) % N ∧ (b + W * n + (z 0).val) % N < b + W * n)
  rw [Nat.mod_eq_of_lt (by omega)]
  omega

end Has

/-! ## The update of a group of rows by a block of scores -/

/-- The running maximum of 64 rows with their scores taken in. -/
def gMax (s : FVec F S64x256 .f32) (m : FVec F S64x128 .f32) : FVec F S64x128 .f32 :=
  maximumf m (broadcastTo S64x128 (shapeCast S64x1 (multiReduction .maximumf [1] S64 s 0xFF800000#32 reduces_S64x256_S64 (.inl rfl) rfl)
    shapeCasts_S64_S64x1) broadcasts_S64x1_S64x128)
/-- The factor the older sums are rescaled by. -/
def gAlpha (s : FVec F S64x256 .f32) (m : FVec F S64x128 .f32) : FVec F S64x128 .f32 := exp2 (subf m (gMax s m))
/-- The weights of the block's keys. -/
def gP (s : FVec F S64x256 .f32) (m : FVec F S64x128 .f32) : FVec F S64x256 .f32 :=
  exp2 (subf s (concatenate S64x256 1 [⟨S64x128, gMax s m⟩, ⟨S64x128, gMax s m⟩] concatenates_S64x128_S64x128_S64x256_d1))
def updM (s : FVec F S64x256 .f32) (m : FVec F S64x128 .f32) : FVec F S64x128 .f32 := shapeCast S64x128 (gMax s m) shapeCasts_S64x128_S64x128
def updL (s : FVec F S64x256 .f32) (m l : FVec F S64x128 .f32) : FVec F S64x128 .f32 :=
  shapeCast S64x128 (addf (mulf (gAlpha s m) l) (addf (extractStridedSlice S64x128 ![0, 0] (gP s m) slices_S64x256_o0_0_S64x128)
    (extractStridedSlice S64x128 ![0, 128] (gP s m) slices_S64x256_o0_128_S64x128))) shapeCasts_S64x128_S64x128
def updP (s : FVec F S64x256 .f32) (m : FVec F S64x128 .f32) : FVec F S64x256 .bf16 :=
  shapeCast S64x256 (truncf .bf16 (gP s m) bitsLt_bf16_f32) shapeCasts_S64x256_S64x256
def updA (s : FVec F S64x256 .f32) (m : FVec F S64x128 .f32) : FVec F S64x128 .f32 := shapeCast S64x128 (gAlpha s m) shapeCasts_S64x128_S64x128
/-- The accumulator of 512 rows, and of 256, with the block's weighted values added. -/
def acc512 (p : FVec F S512x256 .bf16) (v : FVec F S256x128 .bf16) (a x : FVec F S512x128 .f32) : FVec F S512x128 .f32 :=
  shapeCast S512x128 (addf (mulf a x) (matmul dot_S512x256_S256x128_S512x128_1_0_0_1_n_n none p v (constant S512x128 .f32 0x00000000#32))) shapeCasts_S512x128_S512x128
def acc256 (p : FVec F S256x256 .bf16) (v : FVec F S256x128 .bf16) (a x : FVec F S256x128 .f32) : FVec F S256x128 .f32 :=
  shapeCast S256x128 (addf (mulf a x) (matmul dot_S256x256_S256x128_S256x128_1_0_0_1_n_n none p v (constant S256x128 .f32 0x00000000#32))) shapeCasts_S256x128_S256x128

/-! ## The whole buffers after a block of scores -/

/-- The buffers after the first `n` groups of 64 rows from row `b` on, whose scores are `sg 0`, `sg 1`, and so on. -/
def newM (b n : ℕ) (sg : ℕ → FVec F S64x256 .f32) (M : Vec F S2048x128 .f32) : Vec F S2048x128 .f32 :=
  put b 64 n (by decide) (fun j => updM (sg j) (rowsOf 64 (by decide) M (b + 64 * j))) M
def newL (b n : ℕ) (sg : ℕ → FVec F S64x256 .f32) (M L : Vec F S2048x128 .f32) : Vec F S2048x128 .f32 :=
  put b 64 n (by decide) (fun j => updL (sg j) (rowsOf 64 (by decide) M (b + 64 * j)) (rowsOf 64 (by decide) L (b + 64 * j))) L
def newP (b n : ℕ) (sg : ℕ → FVec F S64x256 .f32) (M : Vec F S2048x128 .f32) (P : Vec F S2048x256 .bf16) : Vec F S2048x256 .bf16 :=
  put b 64 n (by decide) (fun j => updP (sg j) (rowsOf 64 (by decide) M (b + 64 * j))) P
def newA (b n : ℕ) (sg : ℕ → FVec F S64x256 .f32) (M A : Vec F S2048x128 .f32) : Vec F S2048x128 .f32 :=
  put b 64 n (by decide) (fun j => updA (sg j) (rowsOf 64 (by decide) M (b + 64 * j))) A
def new512 (b n : ℕ) (V : Vec F S256x128 .bf16) (P : Vec F S2048x256 .bf16) (A C : Vec F S2048x128 .f32) : Vec F S2048x128 .f32 :=
  put b 512 n (by decide) (fun j => acc512 (rowsOf 512 (by decide) P (b + 512 * j)) V (rowsOf 512 (by decide) A (b + 512 * j)) (rowsOf 512 (by decide) C (b + 512 * j))) C
def new256 (b n : ℕ) (V : Vec F S256x128 .bf16) (P : Vec F S2048x256 .bf16) (A C : Vec F S2048x128 .f32) : Vec F S2048x128 .f32 :=
  put b 256 n (by decide) (fun j => acc256 (rowsOf 256 (by decide) P (b + 256 * j)) V (rowsOf 256 (by decide) A (b + 256 * j)) (rowsOf 256 (by decide) C (b + 256 * j))) C

/-- What the five lists of stores leave. -/
structure St (LM LL : List (View.Piece (Elt F) S2048x128 .f32)) (LP : List (View.Piece (Elt F) S2048x256 .bf16)) (LA LC : List (View.Piece (Elt F) S2048x128 .f32))
    (M L : Vec F S2048x128 .f32) (P : Vec F S2048x256 .bf16) (A C : Vec F S2048x128 .f32) : Prop where
  m : Has LM M
  l : Has LL L
  p : Has LP P
  a : Has LA A
  c : Has LC C

variable {LM LL : List (View.Piece (Elt F) S2048x128 .f32)} {LP : List (View.Piece (Elt F) S2048x256 .bf16)} {LA LC : List (View.Piece (Elt F) S2048x128 .f32)}
  {M L : Vec F S2048x128 .f32} {P : Vec F S2048x256 .bf16} {A C : Vec F S2048x128 .f32}

theorem St.group {b n : ℕ} {sg : ℕ → FVec F S64x256 .f32}
    (h : St LM LL LP LA LC (newM b n sg M) (newL b n sg M L) (newP b n sg M P) (newA b n sg M A) C)
    {off : Fin 2 → ℕ} (hoff : off = ![b + 64 * n, 0])
    (inb : ∀ a, off a + S64x128.size a ≤ S2048x128.size a) (inbP : ∀ a, off a + S64x256.size a ≤ S2048x256.size a)
    {vM vL : View sig .tc .vmem S2048x128 .f32} {X : FVec F S64x256 .f32} (hX : X = sg n) :
    St (F := F) (⟨Rect.unit (s := S2048x128) off S64x128.size inb, updM X (vM.readCov LM (Rect.unit (s := S2048x128) off S64x128.size inb).toLoadRect)⟩ :: LM)
      (⟨Rect.unit (s := S2048x128) off S64x128.size inb, updL X (vM.readCov LM (Rect.unit (s := S2048x128) off S64x128.size inb).toLoadRect)
        (vL.readCov LL (Rect.unit (s := S2048x128) off S64x128.size inb).toLoadRect)⟩ :: LL)
      (⟨Rect.unit (s := S2048x256) off S64x256.size inbP, updP X (vM.readCov LM (Rect.unit (s := S2048x128) off S64x128.size inb).toLoadRect)⟩ :: LP)
      (⟨Rect.unit (s := S2048x128) off S64x128.size inb, updA X (vM.readCov LM (Rect.unit (s := S2048x128) off S64x128.size inb).toLoadRect)⟩ :: LA)
      LC (newM b (n + 1) sg M) (newL b (n + 1) sg M L) (newP b (n + 1) sg M P) (newA b (n + 1) sg M A) C := by
  have eM := has_row (by decide) h.m vM (by decide) inb hoff
  have eL := has_row (by decide) h.l vL (by decide) inb hoff
  subst hX
  refine ⟨has_put_succ _ h.m inb hoff ?_, has_put_succ _ h.l inb hoff ?_, has_put_succ _ h.p inbP hoff ?_, has_put_succ _ h.a inb hoff ?_, h.c⟩
  · exact congrArg _ eM
  · exact congrArg₂ _ eM eL
  · exact congrArg _ eM
  · exact congrArg _ eM

theorem St.start {b : ℕ} {sg : ℕ → FVec F S64x256 .f32} (h : St LM LL LP LA LC M L P A C) :
    St LM LL LP LA LC (newM b 0 sg M) (newL b 0 sg M L) (newP b 0 sg M P) (newA b 0 sg M A) C := by
  unfold newM newL newP newA
  rw [put_zero, put_zero, put_zero, put_zero]
  exact h

theorem St.acc512 {b n : ℕ} {V : Vec F S256x128 .bf16} (h : St LM LL LP LA LC M L P A (new512 b n V P A C))
    {off : Fin 2 → ℕ} (hoff : off = ![b + 512 * n, 0])
    (inb : ∀ a, off a + S512x128.size a ≤ S2048x128.size a) (inbP : ∀ a, off a + S512x256.size a ≤ S2048x256.size a)
    {vP : View sig .tc .vmem S2048x256 .bf16} {vA vC : View sig .tc .vmem S2048x128 .f32} {V' : Vec F S256x128 .bf16} (hV : V' = V) :
    St (F := F) LM LL LP LA (⟨Rect.unit (s := S2048x128) off S512x128.size inb,
      Hand.acc512 (vP.readCov LP (Rect.unit (s := S2048x256) off S512x256.size inbP).toLoadRect) V'
        (vA.readCov LA (Rect.unit (s := S2048x128) off S512x128.size inb).toLoadRect)
        (vC.readCov LC (Rect.unit (s := S2048x128) off S512x128.size inb).toLoadRect)⟩ :: LC) M L P A (new512 b (n + 1) V P A C) := by
  have eP := has_read h.p vP (W := 512) (by decide) inbP hoff
  have eA := has_read h.a vA (W := 512) (by decide) inb hoff
  have eC := has_row (by decide) h.c vC (by decide) inb hoff
  subst hV
  refine ⟨h.m, h.l, h.p, h.a, has_put_succ _ h.c inb hoff ?_⟩
  show Hand.acc512 _ _ _ _ = Hand.acc512 _ _ _ _
  rw [eP, eA, eC]

theorem St.acc256 {b n : ℕ} {V : Vec F S256x128 .bf16} (h : St LM LL LP LA LC M L P A (new256 b n V P A C))
    {off : Fin 2 → ℕ} (hoff : off = ![b + 256 * n, 0])
    (inb : ∀ a, off a + S256x128.size a ≤ S2048x128.size a) (inbP : ∀ a, off a + S256x256.size a ≤ S2048x256.size a)
    {vP : View sig .tc .vmem S2048x256 .bf16} {vA vC : View sig .tc .vmem S2048x128 .f32} {V' : Vec F S256x128 .bf16} (hV : V' = V) :
    St (F := F) LM LL LP LA (⟨Rect.unit (s := S2048x128) off S256x128.size inb,
      Hand.acc256 (vP.readCov LP (Rect.unit (s := S2048x256) off S256x256.size inbP).toLoadRect) V'
        (vA.readCov LA (Rect.unit (s := S2048x128) off S256x128.size inb).toLoadRect)
        (vC.readCov LC (Rect.unit (s := S2048x128) off S256x128.size inb).toLoadRect)⟩ :: LC) M L P A (new256 b (n + 1) V P A C) := by
  have eP := has_read h.p vP (W := 256) (by decide) inbP hoff
  have eA := has_read h.a vA (W := 256) (by decide) inb hoff
  have eC := has_row (by decide) h.c vC (by decide) inb hoff
  subst hV
  refine ⟨h.m, h.l, h.p, h.a, has_put_succ _ h.c inb hoff ?_⟩
  show Hand.acc256 _ _ _ _ = Hand.acc256 _ _ _ _
  rw [eP, eA, eC]

theorem St.start512 {b : ℕ} {V : Vec F S256x128 .bf16} (h : St LM LL LP LA LC M L P A C) : St LM LL LP LA LC M L P A (new512 b 0 V P A C) := by
  unfold new512; rw [put_zero]; exact h
theorem St.start256 {b : ℕ} {V : Vec F S256x128 .bf16} (h : St LM LL LP LA LC M L P A C) : St LM LL LP LA LC M L P A (new256 b 0 V P A C) := by
  unfold new256; rw [put_zero]; exact h

/-! ## The two slots of scores -/

/-- 64 rows of a slot's scores, from the `n`-th group on. -/
def slotRows {R : ℕ} (hR : 0 < R) (w : Vec F (⟨3, ![1, R, 256]⟩ : Shape) .f32) (n : ℕ) : Vec F S1x64x256 .f32 :=
  fun x => w (ix3 ⟨0, by decide⟩ ⟨(64 * n + (x 1).val) % R, Nat.mod_lt _ hR⟩ ⟨(x 2).val, (x 2).isLt⟩)

/-- A group of scores as a 64 by 256 block. -/
abbrev flat (x : Vec F S1x64x256 .f32) : FVec F S64x256 .f32 := shapeCast S64x256 x shapeCasts_S1x64x256_S64x256

theorem slot_here {R : ℕ} (hR : 0 < R) (w : Vec F (⟨3, ![1, R, 256]⟩ : Shape) .f32) {off off' : Fin 3 → ℕ}
    (inb : ∀ a, off a + (⟨3, ![1, R, 256]⟩ : Shape).size a ≤ S2x2048x256.size a) (inb' : ∀ a, off' a + S1x64x256.size a ≤ S2x2048x256.size a)
    (s n : ℕ) (ho : off = ![s, 0, 0]) (ho' : off' = ![s, 64 * n, 0]) (hn : 64 * n + 64 ≤ R)
    (v : View sig .tc .vmem S2x2048x256 .f32) (L : List (View.Piece (Elt F) S2x2048x256 .f32)) :
    v.readCov (⟨Rect.unit (s := S2x2048x256) off (⟨3, ![1, R, 256]⟩ : Shape).size inb, w⟩ :: L)
      (Rect.unit (s := S2x2048x256) off' S1x64x256.size inb').toLoadRect = slotRows hR w n := by
  subst ho ho'
  funext z
  have h0 : (z 0).val < 1 := (z 0).isLt
  have h1 : (z 1).val < 64 := (z 1).isLt
  show v.read (Elt F) (v.writes (Elt F) v.junk _) _ = _
  refine View.read_writes_cons_unit_of_mem v v.junk inb w L _ _ rfl fun a => ?_
  match a with
  | ⟨0, _⟩ => show s + 1 * (z 0).val = s + 0; omega
  | ⟨1, _⟩ => show 64 * n + 1 * (z 1).val = 0 + (64 * n + (z 1).val) % R; rw [Nat.mod_eq_of_lt (by omega)]; omega
  | ⟨2, _⟩ => show 0 + 1 * (z 2).val = 0 + (z 2).val; omega

theorem slot_skip {R : ℕ} (w : Vec F (⟨3, ![1, R, 256]⟩ : Shape) .f32) {off off' : Fin 3 → ℕ}
    (inb : ∀ a, off a + (⟨3, ![1, R, 256]⟩ : Shape).size a ≤ S2x2048x256.size a) (inb' : ∀ a, off' a + S1x64x256.size a ≤ S2x2048x256.size a)
    (s s' n : ℕ) (ho : off = ![s', 0, 0]) (ho' : off' = ![s, 64 * n, 0]) (hs : s ≠ s')
    (v : View sig .tc .vmem S2x2048x256 .f32) (L : List (View.Piece (Elt F) S2x2048x256 .f32)) :
    v.readCov (⟨Rect.unit (s := S2x2048x256) off (⟨3, ![1, R, 256]⟩ : Shape).size inb, w⟩ :: L)
      (Rect.unit (s := S2x2048x256) off' S1x64x256.size inb').toLoadRect
    = v.readCov L (Rect.unit (s := S2x2048x256) off' S1x64x256.size inb').toLoadRect := by
  subst ho ho'
  funext z
  have h0 : (z 0).val < 1 := (z 0).isLt
  show v.read (Elt F) (v.writes (Elt F) v.junk _) _ = v.read (Elt F) (v.writes (Elt F) v.junk _) _
  refine View.read_writes_cons_unit_of_not_mem v v.junk inb w L _ rfl 0 ?_
  show s + 1 * (z 0).val < s' ∨ s' + 1 ≤ s + 1 * (z 0).val
  omega

/-- The scores read back from the slot stored before the last. -/
theorem slot_read {R R' : ℕ} (hR : 0 < R) {w : Vec F (⟨3, ![1, R, 256]⟩ : Shape) .f32} {w' : Vec F (⟨3, ![1, R', 256]⟩ : Shape) .f32} {off1 off2 off' : Fin 3 → ℕ}
    {inb1 : ∀ a, off1 a + (⟨3, ![1, R', 256]⟩ : Shape).size a ≤ S2x2048x256.size a}
    {inb2 : ∀ a, off2 a + (⟨3, ![1, R, 256]⟩ : Shape).size a ≤ S2x2048x256.size a} {inb' : ∀ a, off' a + S1x64x256.size a ≤ S2x2048x256.size a}
    (s s' n : ℕ) (ho1 : off1 = ![s', 0, 0]) (ho2 : off2 = ![s, 0, 0]) (ho' : off' = ![s, 64 * n, 0]) (hs : s ≠ s') (hn : 64 * n + 64 ≤ R)
    {v : View sig .tc .vmem S2x2048x256 .f32} {L : List (View.Piece (Elt F) S2x2048x256 .f32)} :
    v.readCov (⟨Rect.unit (s := S2x2048x256) off1 (⟨3, ![1, R', 256]⟩ : Shape).size inb1, w'⟩
        :: ⟨Rect.unit (s := S2x2048x256) off2 (⟨3, ![1, R, 256]⟩ : Shape).size inb2, w⟩ :: L)
      (Rect.unit (s := S2x2048x256) off' S1x64x256.size inb').toLoadRect = slotRows hR w n :=
  (slot_skip w' inb1 inb' s s' n ho1 ho' hs v _).trans (slot_here hR w inb2 inb' s n ho2 ho' hn v L)

end Cert.Kernel2Ideal.Hand
-- ==== Proof.AttT2.lean ====
module

public import proofs.«01_k».proof.Proof.AttRows
public import proofs.«01_k».proof.Proof.Gen.Kernel2Ideal.Loops

@[expose] public section

set_option maxRecDepth 16384

noncomputable section

/-! One trip of the attention's loop over earlier blocks of keys: eight sub-blocks of 256 keys, each taken into the running
maximum, the running sum and the accumulator of the 2048 query rows, while the next sub-block's scores are written to the other slot. -/

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

/-- The contents of a memref's buffer on core `c`. -/
abbrev BufOf (c : Dev nD) {sp : Space} {S : Shape} {e : EltTy} (M : Memref sig .tc sp S e) : Type := Buf (Elt F) (M.view.loc (c : Thread nD τ))
/-- A memref's whole buffer held at `f`. -/
abbrev at_ (c : Dev nD) {sp : Space} {S : Shape} {e : EltTy} (M : Memref sig .tc sp S e) (f : BufOf (F := F) c M) : sProp 𝕄 :=
  M.view.loc (c : Thread nD τ) ↦{fullShare} f

theorem inb_S2048x256_S2048x256_0_0 : ∀ a : Fin 2, (![0, 0] : Fin 2 → ℕ) a + S2048x256.size a ≤ S2048x256.size a := by decide

/-- The scores of 2048 rows, one slot's contents. -/
def slot0 {α : Type} (x : S2x2048x256.Idx → α) : S1x2048x256.Idx → α :=
  fun y => x ((Rect.unit (s := S2x2048x256) ![0, 0, 0] S1x2048x256.size inb_S2x2048x256_S1x2048x256_0_0_0).toLoadRect.idx y)

/-- The 2048 queries of a trip of the outer loop, and the blocks of keys and values a trip of the inner one takes. -/
def qBlock (t1 : Fin k0_t1_loop.trips) (x : Vec F S4096x256 .bf16) : Vec F S2048x256 .bf16 :=
  fun y => x ((Rect.unit (s := S4096x256) (k0_off2 t1) S2048x256.size (k0_off2_inb t1)).toLoadRect.idx y)
def kBlock (t1 : Fin k0_t1_loop.trips) (t2 : Fin (k0_t2_loop t1).trips) (x : Vec F S4096x256 .bf16) (r : Fin 8) : Vec F S256x256 .bf16 :=
  fun y => x ((Rect.unit (s := S4096x256) (k0_off3 t1 t2 (BitVec.ofNat 32 (256 + 256 * r.val))) S256x256.size (k0_off3_inb t1 t2 r)).toLoadRect.idx y)
def vBlock (t1 : Fin k0_t1_loop.trips) (t2 : Fin (k0_t2_loop t1).trips) (x : Vec F S4096x128 .bf16) (r : Fin 8) : Vec F S256x128 .bf16 :=
  fun y => x ((Rect.unit (s := S4096x128) (k0_off4 t1 t2 (BitVec.ofNat 32 (256 * r.val))) S256x128.size (k0_off4_inb t1 t2 r)).toLoadRect.idx y)

/-- The scores of a block of keys. -/
def scores (q : Vec F S2048x256 .bf16) (k : Vec F S256x256 .bf16) : Vec F S1x2048x256 .f32 :=
  shapeCast S1x2048x256 (matmul dot_S2048x256_S256x256_S2048x256_1_1_0_0_n_n none q k (constant S2048x256 .f32 0x00000000#32)) shapeCasts_S2048x256_S1x2048x256

/-- The scores of the trip's sub-blocks: the first are in the slot already. -/
def trScore (w0 : Vec F S1x2048x256 .f32) (q : Vec F S2048x256 .bf16) (K : Fin 8 → Vec F S256x256 .bf16) : ℕ → Vec F S1x2048x256 .f32
  | 0 => w0
  | t + 1 => scores q (K ⟨t % 8, Nat.mod_lt _ (by decide)⟩)
def grp (w : Vec F S1x2048x256 .f32) : ℕ → FVec F S64x256 .f32 := fun n => flat (slotRows (by decide : 0 < 2048) w n)

/-- The buffers after `t` sub-blocks. -/
def seqM (w : ℕ → Vec F S1x2048x256 .f32) (M : Vec F S2048x128 .f32) : ℕ → Vec F S2048x128 .f32
  | 0 => M
  | t + 1 => newM 0 32 (grp (w t)) (seqM w M t)
def seqL (w : ℕ → Vec F S1x2048x256 .f32) (M L : Vec F S2048x128 .f32) : ℕ → Vec F S2048x128 .f32
  | 0 => L
  | t + 1 => newL 0 32 (grp (w t)) (seqM w M t) (seqL w M L t)
def seqP (w : ℕ → Vec F S1x2048x256 .f32) (M : Vec F S2048x128 .f32) (P : Vec F S2048x256 .bf16) : ℕ → Vec F S2048x256 .bf16
  | 0 => P
  | t + 1 => newP 0 32 (grp (w t)) (seqM w M t) (seqP w M P t)
def seqA (w : ℕ → Vec F S1x2048x256 .f32) (M A : Vec F S2048x128 .f32) : ℕ → Vec F S2048x128 .f32
  | 0 => A
  | t + 1 => newA 0 32 (grp (w t)) (seqM w M t) (seqA w M A t)
def seqC (w : ℕ → Vec F S1x2048x256 .f32) (V : Fin 8 → Vec F S256x128 .bf16) (M : Vec F S2048x128 .f32) (P : Vec F S2048x256 .bf16) (A C : Vec F S2048x128 .f32) :
    ℕ → Vec F S2048x128 .f32
  | 0 => C
  | t + 1 => new512 0 4 (V ⟨t % 8, Nat.mod_lt _ (by decide)⟩) (seqP w M P (t + 1)) (seqA w M A (t + 1)) (seqC w V M P A C t)

theorem St.block {LM LL : List (View.Piece (Elt F) S2048x128 .f32)} {LP : List (View.Piece (Elt F) S2048x256 .bf16)} {LA LC : List (View.Piece (Elt F) S2048x128 .f32)}
    {w : ℕ → Vec F S1x2048x256 .f32} {V : Fin 8 → Vec F S256x128 .bf16} {M L : Vec F S2048x128 .f32} {P : Vec F S2048x256 .bf16} {A C : Vec F S2048x128 .f32} (t : ℕ)
    (h : St LM LL LP LA LC (newM 0 32 (grp (w t)) (seqM w M t)) (newL 0 32 (grp (w t)) (seqM w M t) (seqL w M L t))
      (newP 0 32 (grp (w t)) (seqM w M t) (seqP w M P t)) (newA 0 32 (grp (w t)) (seqM w M t) (seqA w M A t))
      (new512 0 4 (V ⟨t % 8, Nat.mod_lt _ (by decide)⟩) (newP 0 32 (grp (w t)) (seqM w M t) (seqP w M P t)) (newA 0 32 (grp (w t)) (seqM w M t) (seqA w M A t)) (seqC w V M P A C t))) :
    St LM LL LP LA LC (seqM w M (t + 1)) (seqL w M L (t + 1)) (seqP w M P (t + 1)) (seqA w M A (t + 1)) (seqC w V M P A C (t + 1)) := h

/-- The stores of the eight sub-blocks' scores, newest first: the even ones to the first slot, the odd ones to the second. -/
def slotList (w : ℕ → Vec F S1x2048x256 .f32) : List (View.Piece (Elt F) S2x2048x256 .f32) :=
  [⟨Rect.unit (s := S2x2048x256) ![0, 0, 0] S1x2048x256.size inb_S2x2048x256_S1x2048x256_0_0_0, w 8⟩,
   ⟨Rect.unit (s := S2x2048x256) ![1, 0, 0] S1x2048x256.size inb_S2x2048x256_S1x2048x256_1_0_0, w 7⟩,
   ⟨Rect.unit (s := S2x2048x256) ![0, 0, 0] S1x2048x256.size inb_S2x2048x256_S1x2048x256_0_0_0, w 6⟩,
   ⟨Rect.unit (s := S2x2048x256) ![1, 0, 0] S1x2048x256.size inb_S2x2048x256_S1x2048x256_1_0_0, w 5⟩,
   ⟨Rect.unit (s := S2x2048x256) ![0, 0, 0] S1x2048x256.size inb_S2x2048x256_S1x2048x256_0_0_0, w 4⟩,
   ⟨Rect.unit (s := S2x2048x256) ![1, 0, 0] S1x2048x256.size inb_S2x2048x256_S1x2048x256_1_0_0, w 3⟩,
   ⟨Rect.unit (s := S2x2048x256) ![0, 0, 0] S1x2048x256.size inb_S2x2048x256_S1x2048x256_0_0_0, w 2⟩,
   ⟨Rect.unit (s := S2x2048x256) ![1, 0, 0] S1x2048x256.size inb_S2x2048x256_S1x2048x256_1_0_0, w 1⟩,
   ⟨Rect.unit (s := S2x2048x256) ![0, 0, 0] S1x2048x256.size inb_S2x2048x256_S1x2048x256_0_0_0, w 0⟩]

theorem slot0_writes (v : View sig .tc .vmem S2x2048x256 .f32) (f : v.ty.Contents (Elt F)) {w : Vec F S1x2048x256 .f32}
    (L : List (View.Piece (Elt F) S2x2048x256 .f32)) :
    slot0 (v.read (Elt F) (v.writes (Elt F) f
      (⟨Rect.unit (s := S2x2048x256) ![0, 0, 0] S1x2048x256.size inb_S2x2048x256_S1x2048x256_0_0_0, w⟩ :: L))) = w := by
  funext z
  refine View.read_writes_cons_unit_of_mem v f inb_S2x2048x256_S1x2048x256_0_0_0 w L _ z rfl fun a => ?_
  match a with
  | ⟨0, _⟩ => show 0 + 1 * (z 0).val = 0 + (z 0).val; omega
  | ⟨1, _⟩ => show 0 + 1 * (z 1).val = 0 + (z 1).val; omega
  | ⟨2, _⟩ => show 0 + 1 * (z 2).val = 0 + (z 2).val; omega

theorem St.reads {LM LL : List (View.Piece (Elt F) S2048x128 .f32)} {LP : List (View.Piece (Elt F) S2048x256 .bf16)} {LA LC : List (View.Piece (Elt F) S2048x128 .f32)}
    {M L : Vec F S2048x128 .f32} {P : Vec F S2048x256 .bf16} {A C : Vec F S2048x128 .f32}
    {vM vL vA vC : View sig .tc .vmem S2048x128 .f32} {vP : View sig .tc .vmem S2048x256 .bf16}
    (fM : vM.ty.Contents (Elt F)) (fL : vL.ty.Contents (Elt F)) (fP : vP.ty.Contents (Elt F)) (fA : vA.ty.Contents (Elt F)) (fC : vC.ty.Contents (Elt F))
    (h : St LM LL LP LA LC M L P A C) :
    vM.read (Elt F) (vM.writes (Elt F) fM LM) = M ∧ vL.read (Elt F) (vL.writes (Elt F) fL LL) = L ∧ vP.read (Elt F) (vP.writes (Elt F) fP LP) = P
      ∧ vA.read (Elt F) (vA.writes (Elt F) fA LA) = A ∧ vC.read (Elt F) (vC.writes (Elt F) fC LC) = C :=
  ⟨funext (h.m vM fM), funext (h.l vL fL), funext (h.p vP fP), funext (h.a vA fA), funext (h.c vC fC)⟩

attribute [local irreducible] shapeCast truncf exp2 subf addf mulf maximumf multiReduction broadcastTo concatenate extractStridedSlice

set_option maxHeartbeats 400000000 in
theorem t2_run (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (c0_i32 : BitVec 32) (c1_i32 : BitVec 32) (k0_t1 : Fin k0_t1_loop.trips) (v11 : BitVec 32) (k0_t2 : Fin (k0_t2_loop k0_t1).trips)
   (f2 : BufOf (F := F) c arg2) (f3 : BufOf (F := F) c arg3) (f4 : BufOf (F := F) c arg4) (f12 : BufOf (F := F) c arg12) (f13 : BufOf (F := F) c arg13) (f14 : BufOf (F := F) c arg14) (f15 : BufOf (F := F) c arg15) (f16 : BufOf (F := F) c arg16) (f17 : BufOf (F := F) c arg17) (x12 : Vec F S1x2048x256 .f32) (x13 : Vec F S2048x256 .bf16) (x14 : Vec F S2048x128 .f32) (x15 : Vec F S2048x128 .f32) (x16 : Vec F S2048x128 .f32) (x17 : Vec F S2048x128 .f32) :
    iprop(at_ c arg2 f2 ∗ at_ c arg3 f3 ∗ at_ c arg4 f4 ∗ at_ c arg12 (arg12.view.writes (Elt F) f12 [⟨Rect.unit (s := S2x2048x256) ![0, 0, 0] S1x2048x256.size inb_S2x2048x256_S1x2048x256_0_0_0, x12⟩]) ∗ at_ c arg13 (arg13.view.writes (Elt F) f13 [⟨Rect.unit (s := S2048x256) ![0, 0] S2048x256.size inb_S2048x256_S2048x256_0_0, x13⟩]) ∗ at_ c arg14 (arg14.view.writes (Elt F) f14 [⟨Rect.unit (s := S2048x128) ![0, 0] S2048x128.size inb_S2048x128_S2048x128_0_0, x14⟩]) ∗ at_ c arg15 (arg15.view.writes (Elt F) f15 [⟨Rect.unit (s := S2048x128) ![0, 0] S2048x128.size inb_S2048x128_S2048x128_0_0, x15⟩]) ∗ at_ c arg16 (arg16.view.writes (Elt F) f16 [⟨Rect.unit (s := S2048x128) ![0, 0] S2048x128.size inb_S2048x128_S2048x128_0_0, x16⟩]) ∗ at_ c arg17 (arg17.view.writes (Elt F) f17 [⟨Rect.unit (s := S2048x128) ![0, 0] S2048x128.size inb_S2048x128_S2048x128_0_0, x17⟩]))
    ⊢ wp frame (wpE (defs₀ (F := F)) Variants.none c none) Set.univ
       (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 k0_t2 ()) (fun _ => iprop(at_ c arg2 f2 ∗ at_ c arg3 f3 ∗ at_ c arg4 f4 ∗ (∃ (g12 : BufOf (F := F) c arg12) (g13 : BufOf (F := F) c arg13) (g14 : BufOf (F := F) c arg14) (g15 : BufOf (F := F) c arg15) (g16 : BufOf (F := F) c arg16) (g17 : BufOf (F := F) c arg17), at_ c arg12 g12 ∗ at_ c arg13 g13 ∗ at_ c arg14 g14 ∗ at_ c arg15 g15 ∗ at_ c arg16 g16 ∗ at_ c arg17 g17 ∗
          ⌜g12 = arg12.view.writes (Elt F) f12 (slotList (trScore x12 (qBlock k0_t1 (arg2.view.read (Elt F) f2)) (kBlock k0_t1 k0_t2 (arg3.view.read (Elt F) f3))))
            ∧ arg15.view.read (Elt F) g15 = seqM (trScore x12 (qBlock k0_t1 (arg2.view.read (Elt F) f2)) (kBlock k0_t1 k0_t2 (arg3.view.read (Elt F) f3))) x15 8
            ∧ arg16.view.read (Elt F) g16 = seqL (trScore x12 (qBlock k0_t1 (arg2.view.read (Elt F) f2)) (kBlock k0_t1 k0_t2 (arg3.view.read (Elt F) f3))) x15 x16 8
            ∧ arg13.view.read (Elt F) g13 = seqP (trScore x12 (qBlock k0_t1 (arg2.view.read (Elt F) f2)) (kBlock k0_t1 k0_t2 (arg3.view.read (Elt F) f3))) x15 x13 8
            ∧ arg14.view.read (Elt F) g14 = seqA (trScore x12 (qBlock k0_t1 (arg2.view.read (Elt F) f2)) (kBlock k0_t1 k0_t2 (arg3.view.read (Elt F) f3))) x15 x14 8
            ∧ arg17.view.read (Elt F) g17 = seqC (trScore x12 (qBlock k0_t1 (arg2.view.read (Elt F) f2)) (kBlock k0_t1 k0_t2 (arg3.view.read (Elt F) f3))) (vBlock k0_t1 k0_t2 (arg4.view.read (Elt F) f4)) x15 x13 x14 x17 8⌝))) := by
  unfold k0_t2_body
  iintro ⟨H2, H3, H4, H12, H13, H14, H15, H16, H17⟩
  sl_exec_parts
  sl_step
  isplitl [H2]; · iexact H2
  isplitl [H3]; · iexact H3
  isplitl [H4]; · iexact H4
  iexists _, _, _, _, _, _
  isplitl [H12]; · iexact H12
  isplitl [H13]; · iexact H13
  isplitl [H14]; · iexact H14
  isplitl [H15]; · iexact H15
  isplitl [H16]; · iexact H16
  isplitl [H17]; · iexact H17
  ipureintro
  refine ⟨by rfl, ?_⟩
  refine St.reads _ _ _ _ _ ?_
  refine St.block 7 ?_
  refine St.acc512 (F := F) (b := 0) (n := 3) ?_ (by rfl) _ _ (by rfl)
  refine St.acc512 (F := F) (b := 0) (n := 2) ?_ (by rfl) _ _ (by rfl)
  refine St.acc512 (F := F) (b := 0) (n := 1) ?_ (by rfl) _ _ (by rfl)
  refine St.acc512 (F := F) (b := 0) (n := 0) ?_ (by rfl) _ _ (by rfl)
  refine St.start512 ?_
  refine St.group (F := F) (b := 0) (n := 31) ?_ (by rfl) _ _ (congrArg flat (slot_read (by decide) 1 0 31 (by rfl) (by rfl) (by rfl) (by decide) (by decide)))
  refine St.group (F := F) (b := 0) (n := 30) ?_ (by rfl) _ _ (congrArg flat (slot_read (by decide) 1 0 30 (by rfl) (by rfl) (by rfl) (by decide) (by decide)))
  refine St.group (F := F) (b := 0) (n := 29) ?_ (by rfl) _ _ (congrArg flat (slot_read (by decide) 1 0 29 (by rfl) (by rfl) (by rfl) (by decide) (by decide)))
  refine St.group (F := F) (b := 0) (n := 28) ?_ (by rfl) _ _ (congrArg flat (slot_read (by decide) 1 0 28 (by rfl) (by rfl) (by rfl) (by decide) (by decide)))
  refine St.group (F := F) (b := 0) (n := 27) ?_ (by rfl) _ _ (congrArg flat (slot_read (by decide) 1 0 27 (by rfl) (by rfl) (by rfl) (by decide) (by decide)))
  refine St.group (F := F) (b := 0) (n := 26) ?_ (by rfl) _ _ (congrArg flat (slot_read (by decide) 1 0 26 (by rfl) (by rfl) (by rfl) (by decide) (by decide)))
  refine St.group (F := F) (b := 0) (n := 25) ?_ (by rfl) _ _ (congrArg flat (slot_read (by decide) 1 0 25 (by rfl) (by rfl) (by rfl) (by decide) (by decide)))
  refine St.group (F := F) (b := 0) (n := 24) ?_ (by rfl) _ _ (congrArg flat (slot_read (by decide) 1 0 24 (by rfl) (by rfl) (by rfl) (by decide) (by decide)))
  refine St.group (F := F) (b := 0) (n := 23) ?_ (by rfl) _ _ (congrArg flat (slot_read (by decide) 1 0 23 (by rfl) (by rfl) (by rfl) (by decide) (by decide)))
  refine St.group (F := F) (b := 0) (n := 22) ?_ (by rfl) _ _ (congrArg flat (slot_read (by decide) 1 0 22 (by rfl) (by rfl) (by rfl) (by decide) (by decide)))
  refine St.group (F := F) (b := 0) (n := 21) ?_ (by rfl) _ _ (congrArg flat (slot_read (by decide) 1 0 21 (by rfl) (by rfl) (by rfl) (by decide) (by decide)))
  refine St.group (F := F) (b := 0) (n := 20) ?_ (by rfl) _ _ (congrArg flat (slot_read (by decide) 1 0 20 (by rfl) (by rfl) (by rfl) (by decide) (by decide)))
  refine St.group (F := F) (b := 0) (n := 19) ?_ (by rfl) _ _ (congrArg flat (slot_read (by decide) 1 0 19 (by rfl) (by rfl) (by rfl) (by decide) (by decide)))
  refine St.group (F := F) (b := 0) (n := 18) ?_ (by rfl) _ _ (congrArg flat (slot_read (by decide) 1 0 18 (by rfl) (by rfl) (by rfl) (by decide) (by decide)))
  refine St.group (F := F) (b := 0) (n := 17) ?_ (by rfl) _ _ (congrArg flat (slot_read (by decide) 1 0 17 (by rfl) (by rfl) (by rfl) (by decide) (by decide)))
  refine St.group (F := F) (b := 0) (n := 16) ?_ (by rfl) _ _ (congrArg flat (slot_read (by decide) 1 0 16 (by rfl) (by rfl) (by rfl) (by decide) (by decide)))
  refine St.group (F := F) (b := 0) (n := 15) ?_ (by rfl) _ _ (congrArg flat (slot_read (by decide) 1 0 15 (by rfl) (by rfl) (by rfl) (by decide) (by decide)))
  refine St.group (F := F) (b := 0) (n := 14) ?_ (by rfl) _ _ (congrArg flat (slot_read (by decide) 1 0 14 (by rfl) (by rfl) (by rfl) (by decide) (by decide)))
  refine St.group (F := F) (b := 0) (n := 13) ?_ (by rfl) _ _ (congrArg flat (slot_read (by decide) 1 0 13 (by rfl) (by rfl) (by rfl) (by decide) (by decide)))
  refine St.group (F := F) (b := 0) (n := 12) ?_ (by rfl) _ _ (congrArg flat (slot_read (by decide) 1 0 12 (by rfl) (by rfl) (by rfl) (by decide) (by decide)))
  refine St.group (F := F) (b := 0) (n := 11) ?_ (by rfl) _ _ (congrArg flat (slot_read (by decide) 1 0 11 (by rfl) (by rfl) (by rfl) (by decide) (by decide)))
  refine St.group (F := F) (b := 0) (n := 10) ?_ (by rfl) _ _ (congrArg flat (slot_read (by decide) 1 0 10 (by rfl) (by rfl) (by rfl) (by decide) (by decide)))
  refine St.group (F := F) (b := 0) (n := 9) ?_ (by rfl) _ _ (congrArg flat (slot_read (by decide) 1 0 9 (by rfl) (by rfl) (by rfl) (by decide) (by decide)))
  refine St.group (F := F) (b := 0) (n := 8) ?_ (by rfl) _ _ (congrArg flat (slot_read (by decide) 1 0 8 (by rfl) (by rfl) (by rfl) (by decide) (by decide)))
  refine St.group (F := F) (b := 0) (n := 7) ?_ (by rfl) _ _ (congrArg flat (slot_read (by decide) 1 0 7 (by rfl) (by rfl) (by rfl) (by decide) (by decide)))
  refine St.group (F := F) (b := 0) (n := 6) ?_ (by rfl) _ _ (congrArg flat (slot_read (by decide) 1 0 6 (by rfl) (by rfl) (by rfl) (by decide) (by decide)))
  refine St.group (F := F) (b := 0) (n := 5) ?_ (by rfl) _ _ (congrArg flat (slot_read (by decide) 1 0 5 (by rfl) (by rfl) (by rfl) (by decide) (by decide)))
  refine St.group (F := F) (b := 0) (n := 4) ?_ (by rfl) _ _ (congrArg flat (slot_read (by decide) 1 0 4 (by rfl) (by rfl) (by rfl) (by decide) (by decide)))
  refine St.group (F := F) (b := 0) (n := 3) ?_ (by rfl) _ _ (congrArg flat (slot_read (by decide) 1 0 3 (by rfl) (by rfl) (by rfl) (by decide) (by decide)))
  refine St.group (F := F) (b := 0) (n := 2) ?_ (by rfl) _ _ (congrArg flat (slot_read (by decide) 1 0 2 (by rfl) (by rfl) (by rfl) (by decide) (by decide)))
  refine St.group (F := F) (b := 0) (n := 1) ?_ (by rfl) _ _ (congrArg flat (slot_read (by decide) 1 0 1 (by rfl) (by rfl) (by rfl) (by decide) (by decide)))
  refine St.group (F := F) (b := 0) (n := 0) ?_ (by rfl) _ _ (congrArg flat (slot_read (by decide) 1 0 0 (by rfl) (by rfl) (by rfl) (by decide) (by decide)))
  refine St.start ?_
  refine St.block 6 ?_
  refine St.acc512 (F := F) (b := 0) (n := 3) ?_ (by rfl) _ _ (by rfl)
  refine St.acc512 (F := F) (b := 0) (n := 2) ?_ (by rfl) _ _ (by rfl)
  refine St.acc512 (F := F) (b := 0) (n := 1) ?_ (by rfl) _ _ (by rfl)
  refine St.acc512 (F := F) (b := 0) (n := 0) ?_ (by rfl) _ _ (by rfl)
  refine St.start512 ?_
  refine St.group (F := F) (b := 0) (n := 31) ?_ (by rfl) _ _ (congrArg flat (slot_read (by decide) 0 1 31 (by rfl) (by rfl) (by rfl) (by decide) (by decide)))
  refine St.group (F := F) (b := 0) (n := 30) ?_ (by rfl) _ _ (congrArg flat (slot_read (by decide) 0 1 30 (by rfl) (by rfl) (by rfl) (by decide) (by decide)))
  refine St.group (F := F) (b := 0) (n := 29) ?_ (by rfl) _ _ (congrArg flat (slot_read (by decide) 0 1 29 (by rfl) (by rfl) (by rfl) (by decide) (by decide)))
  refine St.group (F := F) (b := 0) (n := 28) ?_ (by rfl) _ _ (congrArg flat (slot_read (by decide) 0 1 28 (by rfl) (by rfl) (by rfl) (by decide) (by decide)))
  refine St.group (F := F) (b := 0) (n := 27) ?_ (by rfl) _ _ (congrArg flat (slot_read (by decide) 0 1 27 (by rfl) (by rfl) (by rfl) (by decide) (by decide)))
  refine St.group (F := F) (b := 0) (n := 26) ?_ (by rfl) _ _ (congrArg flat (slot_read (by decide) 0 1 26 (by rfl) (by rfl) (by rfl) (by decide) (by decide)))
  refine St.group (F := F) (b := 0) (n := 25) ?_ (by rfl) _ _ (congrArg flat (slot_read (by decide) 0 1 25 (by rfl) (by rfl) (by rfl) (by decide) (by decide)))
  refine St.group (F := F) (b := 0) (n := 24) ?_ (by rfl) _ _ (congrArg flat (slot_read (by decide) 0 1 24 (by rfl) (by rfl) (by rfl) (by decide) (by decide)))
  refine St.group (F := F) (b := 0) (n := 23) ?_ (by rfl) _ _ (congrArg flat (slot_read (by decide) 0 1 23 (by rfl) (by rfl) (by rfl) (by decide) (by decide)))
  refine St.group (F := F) (b := 0) (n := 22) ?_ (by rfl) _ _ (congrArg flat (slot_read (by decide) 0 1 22 (by rfl) (by rfl) (by rfl) (by decide) (by decide)))
  refine St.group (F := F) (b := 0) (n := 21) ?_ (by rfl) _ _ (congrArg flat (slot_read (by decide) 0 1 21 (by rfl) (by rfl) (by rfl) (by decide) (by decide)))
  refine St.group (F := F) (b := 0) (n := 20) ?_ (by rfl) _ _ (congrArg flat (slot_read (by decide) 0 1 20 (by rfl) (by rfl) (by rfl) (by decide) (by decide)))
  refine St.group (F := F) (b := 0) (n := 19) ?_ (by rfl) _ _ (congrArg flat (slot_read (by decide) 0 1 19 (by rfl) (by rfl) (by rfl) (by decide) (by decide)))
  refine St.group (F := F) (b := 0) (n := 18) ?_ (by rfl) _ _ (congrArg flat (slot_read (by decide) 0 1 18 (by rfl) (by rfl) (by rfl) (by decide) (by decide)))
  refine St.group (F := F) (b := 0) (n := 17) ?_ (by rfl) _ _ (congrArg flat (slot_read (by decide) 0 1 17 (by rfl) (by rfl) (by rfl) (by decide) (by decide)))
  refine St.group (F := F) (b := 0) (n := 16) ?_ (by rfl) _ _ (congrArg flat (slot_read (by decide) 0 1 16 (by rfl) (by rfl) (by rfl) (by decide) (by decide)))
  refine St.group (F := F) (b := 0) (n := 15) ?_ (by rfl) _ _ (congrArg flat (slot_read (by decide) 0 1 15 (by rfl) (by rfl) (by rfl) (by decide) (by decide)))
  refine St.group (F := F) (b := 0) (n := 14) ?_ (by rfl) _ _ (congrArg flat (slot_read (by decide) 0 1 14 (by rfl) (by rfl) (by rfl) (by decide) (by decide)))
  refine St.group (F := F) (b := 0) (n := 13) ?_ (by rfl) _ _ (congrArg flat (slot_read (by decide) 0 1 13 (by rfl) (by rfl) (by rfl) (by decide) (by decide)))
  refine St.group (F := F) (b := 0) (n := 12) ?_ (by rfl) _ _ (congrArg flat (slot_read (by decide) 0 1 12 (by rfl) (by rfl) (by rfl) (by decide) (by decide)))
  refine St.group (F := F) (b := 0) (n := 11) ?_ (by rfl) _ _ (congrArg flat (slot_read (by decide) 0 1 11 (by rfl) (by rfl) (by rfl) (by decide) (by decide)))
  refine St.group (F := F) (b := 0) (n := 10) ?_ (by rfl) _ _ (congrArg flat (slot_read (by decide) 0 1 10 (by rfl) (by rfl) (by rfl) (by decide) (by decide)))
  refine St.group (F := F) (b := 0) (n := 9) ?_ (by rfl) _ _ (congrArg flat (slot_read (by decide) 0 1 9 (by rfl) (by rfl) (by rfl) (by decide) (by decide)))
  refine St.group (F := F) (b := 0) (n := 8) ?_ (by rfl) _ _ (congrArg flat (slot_read (by decide) 0 1 8 (by rfl) (by rfl) (by rfl) (by decide) (by decide)))
  refine St.group (F := F) (b := 0) (n := 7) ?_ (by rfl) _ _ (congrArg flat (slot_read (by decide) 0 1 7 (by rfl) (by rfl) (by rfl) (by decide) (by decide)))
  refine St.group (F := F) (b := 0) (n := 6) ?_ (by rfl) _ _ (congrArg flat (slot_read (by decide) 0 1 6 (by rfl) (by rfl) (by rfl) (by decide) (by decide)))
  refine St.group (F := F) (b := 0) (n := 5) ?_ (by rfl) _ _ (congrArg flat (slot_read (by decide) 0 1 5 (by rfl) (by rfl) (by rfl) (by decide) (by decide)))
  refine St.group (F := F) (b := 0) (n := 4) ?_ (by rfl) _ _ (congrArg flat (slot_read (by decide) 0 1 4 (by rfl) (by rfl) (by rfl) (by decide) (by decide)))
  refine St.group (F := F) (b := 0) (n := 3) ?_ (by rfl) _ _ (congrArg flat (slot_read (by decide) 0 1 3 (by rfl) (by rfl) (by rfl) (by decide) (by decide)))
  refine St.group (F := F) (b := 0) (n := 2) ?_ (by rfl) _ _ (congrArg flat (slot_read (by decide) 0 1 2 (by rfl) (by rfl) (by rfl) (by decide) (by decide)))
  refine St.group (F := F) (b := 0) (n := 1) ?_ (by rfl) _ _ (congrArg flat (slot_read (by decide) 0 1 1 (by rfl) (by rfl) (by rfl) (by decide) (by decide)))
  refine St.group (F := F) (b := 0) (n := 0) ?_ (by rfl) _ _ (congrArg flat (slot_read (by decide) 0 1 0 (by rfl) (by rfl) (by rfl) (by decide) (by decide)))
  refine St.start ?_
  refine St.block 5 ?_
  refine St.acc512 (F := F) (b := 0) (n := 3) ?_ (by rfl) _ _ (by rfl)
  refine St.acc512 (F := F) (b := 0) (n := 2) ?_ (by rfl) _ _ (by rfl)
  refine St.acc512 (F := F) (b := 0) (n := 1) ?_ (by rfl) _ _ (by rfl)
  refine St.acc512 (F := F) (b := 0) (n := 0) ?_ (by rfl) _ _ (by rfl)
  refine St.start512 ?_
  refine St.group (F := F) (b := 0) (n := 31) ?_ (by rfl) _ _ (congrArg flat (slot_read (by decide) 1 0 31 (by rfl) (by rfl) (by rfl) (by decide) (by decide)))
  refine St.group (F := F) (b := 0) (n := 30) ?_ (by rfl) _ _ (congrArg flat (slot_read (by decide) 1 0 30 (by rfl) (by rfl) (by rfl) (by decide) (by decide)))
  refine St.group (F := F) (b := 0) (n := 29) ?_ (by rfl) _ _ (congrArg flat (slot_read (by decide) 1 0 29 (by rfl) (by rfl) (by rfl) (by decide) (by decide)))
  refine St.group (F := F) (b := 0) (n := 28) ?_ (by rfl) _ _ (congrArg flat (slot_read (by decide) 1 0 28 (by rfl) (by rfl) (by rfl) (by decide) (by decide)))
  refine St.group (F := F) (b := 0) (n := 27) ?_ (by rfl) _ _ (congrArg flat (slot_read (by decide) 1 0 27 (by rfl) (by rfl) (by rfl) (by decide) (by decide)))
  refine St.group (F := F) (b := 0) (n := 26) ?_ (by rfl) _ _ (congrArg flat (slot_read (by decide) 1 0 26 (by rfl) (by rfl) (by rfl) (by decide) (by decide)))
  refine St.group (F := F) (b := 0) (n := 25) ?_ (by rfl) _ _ (congrArg flat (slot_read (by decide) 1 0 25 (by rfl) (by rfl) (by rfl) (by decide) (by decide)))
  refine St.group (F := F) (b := 0) (n := 24) ?_ (by rfl) _ _ (congrArg flat (slot_read (by decide) 1 0 24 (by rfl) (by rfl) (by rfl) (by decide) (by decide)))
  refine St.group (F := F) (b := 0) (n := 23) ?_ (by rfl) _ _ (congrArg flat (slot_read (by decide) 1 0 23 (by rfl) (by rfl) (by rfl) (by decide) (by decide)))
  refine St.group (F := F) (b := 0) (n := 22) ?_ (by rfl) _ _ (congrArg flat (slot_read (by decide) 1 0 22 (by rfl) (by rfl) (by rfl) (by decide) (by decide)))
  refine St.group (F := F) (b := 0) (n := 21) ?_ (by rfl) _ _ (congrArg flat (slot_read (by decide) 1 0 21 (by rfl) (by rfl) (by rfl) (by decide) (by decide)))
  refine St.group (F := F) (b := 0) (n := 20) ?_ (by rfl) _ _ (congrArg flat (slot_read (by decide) 1 0 20 (by rfl) (by rfl) (by rfl) (by decide) (by decide)))
  refine St.group (F := F) (b := 0) (n := 19) ?_ (by rfl) _ _ (congrArg flat (slot_read (by decide) 1 0 19 (by rfl) (by rfl) (by rfl) (by decide) (by decide)))
  refine St.group (F := F) (b := 0) (n := 18) ?_ (by rfl) _ _ (congrArg flat (slot_read (by decide) 1 0 18 (by rfl) (by rfl) (by rfl) (by decide) (by decide)))
  refine St.group (F := F) (b := 0) (n := 17) ?_ (by rfl) _ _ (congrArg flat (slot_read (by decide) 1 0 17 (by rfl) (by rfl) (by rfl) (by decide) (by decide)))
  refine St.group (F := F) (b := 0) (n := 16) ?_ (by rfl) _ _ (congrArg flat (slot_read (by decide) 1 0 16 (by rfl) (by rfl) (by rfl) (by decide) (by decide)))
  refine St.group (F := F) (b := 0) (n := 15) ?_ (by rfl) _ _ (congrArg flat (slot_read (by decide) 1 0 15 (by rfl) (by rfl) (by rfl) (by decide) (by decide)))
  refine St.group (F := F) (b := 0) (n := 14) ?_ (by rfl) _ _ (congrArg flat (slot_read (by decide) 1 0 14 (by rfl) (by rfl) (by rfl) (by decide) (by decide)))
  refine St.group (F := F) (b := 0) (n := 13) ?_ (by rfl) _ _ (congrArg flat (slot_read (by decide) 1 0 13 (by rfl) (by rfl) (by rfl) (by decide) (by decide)))
  refine St.group (F := F) (b := 0) (n := 12) ?_ (by rfl) _ _ (congrArg flat (slot_read (by decide) 1 0 12 (by rfl) (by rfl) (by rfl) (by decide) (by decide)))
  refine St.group (F := F) (b := 0) (n := 11) ?_ (by rfl) _ _ (congrArg flat (slot_read (by decide) 1 0 11 (by rfl) (by rfl) (by rfl) (by decide) (by decide)))
  refine St.group (F := F) (b := 0) (n := 10) ?_ (by rfl) _ _ (congrArg flat (slot_read (by decide) 1 0 10 (by rfl) (by rfl) (by rfl) (by decide) (by decide)))
  refine St.group (F := F) (b := 0) (n := 9) ?_ (by rfl) _ _ (congrArg flat (slot_read (by decide) 1 0 9 (by rfl) (by rfl) (by rfl) (by decide) (by decide)))
  refine St.group (F := F) (b := 0) (n := 8) ?_ (by rfl) _ _ (congrArg flat (slot_read (by decide) 1 0 8 (by rfl) (by rfl) (by rfl) (by decide) (by decide)))
  refine St.group (F := F) (b := 0) (n := 7) ?_ (by rfl) _ _ (congrArg flat (slot_read (by decide) 1 0 7 (by rfl) (by rfl) (by rfl) (by decide) (by decide)))
  refine St.group (F := F) (b := 0) (n := 6) ?_ (by rfl) _ _ (congrArg flat (slot_read (by decide) 1 0 6 (by rfl) (by rfl) (by rfl) (by decide) (by decide)))
  refine St.group (F := F) (b := 0) (n := 5) ?_ (by rfl) _ _ (congrArg flat (slot_read (by decide) 1 0 5 (by rfl) (by rfl) (by rfl) (by decide) (by decide)))
  refine St.group (F := F) (b := 0) (n := 4) ?_ (by rfl) _ _ (congrArg flat (slot_read (by decide) 1 0 4 (by rfl) (by rfl) (by rfl) (by decide) (by decide)))
  refine St.group (F := F) (b := 0) (n := 3) ?_ (by rfl) _ _ (congrArg flat (slot_read (by decide) 1 0 3 (by rfl) (by rfl) (by rfl) (by decide) (by decide)))
  refine St.group (F := F) (b := 0) (n := 2) ?_ (by rfl) _ _ (congrArg flat (slot_read (by decide) 1 0 2 (by rfl) (by rfl) (by rfl) (by decide) (by decide)))
  refine St.group (F := F) (b := 0) (n := 1) ?_ (by rfl) _ _ (congrArg flat (slot_read (by decide) 1 0 1 (by rfl) (by rfl) (by rfl) (by decide) (by decide)))
  refine St.group (F := F) (b := 0) (n := 0) ?_ (by rfl) _ _ (congrArg flat (slot_read (by decide) 1 0 0 (by rfl) (by rfl) (by rfl) (by decide) (by decide)))
  refine St.start ?_
  refine St.block 4 ?_
  refine St.acc512 (F := F) (b := 0) (n := 3) ?_ (by rfl) _ _ (by rfl)
  refine St.acc512 (F := F) (b := 0) (n := 2) ?_ (by rfl) _ _ (by rfl)
  refine St.acc512 (F := F) (b := 0) (n := 1) ?_ (by rfl) _ _ (by rfl)
  refine St.acc512 (F := F) (b := 0) (n := 0) ?_ (by rfl) _ _ (by rfl)
  refine St.start512 ?_
  refine St.group (F := F) (b := 0) (n := 31) ?_ (by rfl) _ _ (congrArg flat (slot_read (by decide) 0 1 31 (by rfl) (by rfl) (by rfl) (by decide) (by decide)))
  refine St.group (F := F) (b := 0) (n := 30) ?_ (by rfl) _ _ (congrArg flat (slot_read (by decide) 0 1 30 (by rfl) (by rfl) (by rfl) (by decide) (by decide)))
  refine St.group (F := F) (b := 0) (n := 29) ?_ (by rfl) _ _ (congrArg flat (slot_read (by decide) 0 1 29 (by rfl) (by rfl) (by rfl) (by decide) (by decide)))
  refine St.group (F := F) (b := 0) (n := 28) ?_ (by rfl) _ _ (congrArg flat (slot_read (by decide) 0 1 28 (by rfl) (by rfl) (by rfl) (by decide) (by decide)))
  refine St.group (F := F) (b := 0) (n := 27) ?_ (by rfl) _ _ (congrArg flat (slot_read (by decide) 0 1 27 (by rfl) (by rfl) (by rfl) (by decide) (by decide)))
  refine St.group (F := F) (b := 0) (n := 26) ?_ (by rfl) _ _ (congrArg flat (slot_read (by decide) 0 1 26 (by rfl) (by rfl) (by rfl) (by decide) (by decide)))
  refine St.group (F := F) (b := 0) (n := 25) ?_ (by rfl) _ _ (congrArg flat (slot_read (by decide) 0 1 25 (by rfl) (by rfl) (by rfl) (by decide) (by decide)))
  refine St.group (F := F) (b := 0) (n := 24) ?_ (by rfl) _ _ (congrArg flat (slot_read (by decide) 0 1 24 (by rfl) (by rfl) (by rfl) (by decide) (by decide)))
  refine St.group (F := F) (b := 0) (n := 23) ?_ (by rfl) _ _ (congrArg flat (slot_read (by decide) 0 1 23 (by rfl) (by rfl) (by rfl) (by decide) (by decide)))
  refine St.group (F := F) (b := 0) (n := 22) ?_ (by rfl) _ _ (congrArg flat (slot_read (by decide) 0 1 22 (by rfl) (by rfl) (by rfl) (by decide) (by decide)))
  refine St.group (F := F) (b := 0) (n := 21) ?_ (by rfl) _ _ (congrArg flat (slot_read (by decide) 0 1 21 (by rfl) (by rfl) (by rfl) (by decide) (by decide)))
  refine St.group (F := F) (b := 0) (n := 20) ?_ (by rfl) _ _ (congrArg flat (slot_read (by decide) 0 1 20 (by rfl) (by rfl) (by rfl) (by decide) (by decide)))
  refine St.group (F := F) (b := 0) (n := 19) ?_ (by rfl) _ _ (congrArg flat (slot_read (by decide) 0 1 19 (by rfl) (by rfl) (by rfl) (by decide) (by decide)))
  refine St.group (F := F) (b := 0) (n := 18) ?_ (by rfl) _ _ (congrArg flat (slot_read (by decide) 0 1 18 (by rfl) (by rfl) (by rfl) (by decide) (by decide)))
  refine St.group (F := F) (b := 0) (n := 17) ?_ (by rfl) _ _ (congrArg flat (slot_read (by decide) 0 1 17 (by rfl) (by rfl) (by rfl) (by decide) (by decide)))
  refine St.group (F := F) (b := 0) (n := 16) ?_ (by rfl) _ _ (congrArg flat (slot_read (by decide) 0 1 16 (by rfl) (by rfl) (by rfl) (by decide) (by decide)))
  refine St.group (F := F) (b := 0) (n := 15) ?_ (by rfl) _ _ (congrArg flat (slot_read (by decide) 0 1 15 (by rfl) (by rfl) (by rfl) (by decide) (by decide)))
  refine St.group (F := F) (b := 0) (n := 14) ?_ (by rfl) _ _ (congrArg flat (slot_read (by decide) 0 1 14 (by rfl) (by rfl) (by rfl) (by decide) (by decide)))
  refine St.group (F := F) (b := 0) (n := 13) ?_ (by rfl) _ _ (congrArg flat (slot_read (by decide) 0 1 13 (by rfl) (by rfl) (by rfl) (by decide) (by decide)))
  refine St.group (F := F) (b := 0) (n := 12) ?_ (by rfl) _ _ (congrArg flat (slot_read (by decide) 0 1 12 (by rfl) (by rfl) (by rfl) (by decide) (by decide)))
  refine St.group (F := F) (b := 0) (n := 11) ?_ (by rfl) _ _ (congrArg flat (slot_read (by decide) 0 1 11 (by rfl) (by rfl) (by rfl) (by decide) (by decide)))
  refine St.group (F := F) (b := 0) (n := 10) ?_ (by rfl) _ _ (congrArg flat (slot_read (by decide) 0 1 10 (by rfl) (by rfl) (by rfl) (by decide) (by decide)))
  refine St.group (F := F) (b := 0) (n := 9) ?_ (by rfl) _ _ (congrArg flat (slot_read (by decide) 0 1 9 (by rfl) (by rfl) (by rfl) (by decide) (by decide)))
  refine St.group (F := F) (b := 0) (n := 8) ?_ (by rfl) _ _ (congrArg flat (slot_read (by decide) 0 1 8 (by rfl) (by rfl) (by rfl) (by decide) (by decide)))
  refine St.group (F := F) (b := 0) (n := 7) ?_ (by rfl) _ _ (congrArg flat (slot_read (by decide) 0 1 7 (by rfl) (by rfl) (by rfl) (by decide) (by decide)))
  refine St.group (F := F) (b := 0) (n := 6) ?_ (by rfl) _ _ (congrArg flat (slot_read (by decide) 0 1 6 (by rfl) (by rfl) (by rfl) (by decide) (by decide)))
  refine St.group (F := F) (b := 0) (n := 5) ?_ (by rfl) _ _ (congrArg flat (slot_read (by decide) 0 1 5 (by rfl) (by rfl) (by rfl) (by decide) (by decide)))
  refine St.group (F := F) (b := 0) (n := 4) ?_ (by rfl) _ _ (congrArg flat (slot_read (by decide) 0 1 4 (by rfl) (by rfl) (by rfl) (by decide) (by decide)))
  refine St.group (F := F) (b := 0) (n := 3) ?_ (by rfl) _ _ (congrArg flat (slot_read (by decide) 0 1 3 (by rfl) (by rfl) (by rfl) (by decide) (by decide)))
  refine St.group (F := F) (b := 0) (n := 2) ?_ (by rfl) _ _ (congrArg flat (slot_read (by decide) 0 1 2 (by rfl) (by rfl) (by rfl) (by decide) (by decide)))
  refine St.group (F := F) (b := 0) (n := 1) ?_ (by rfl) _ _ (congrArg flat (slot_read (by decide) 0 1 1 (by rfl) (by rfl) (by rfl) (by decide) (by decide)))
  refine St.group (F := F) (b := 0) (n := 0) ?_ (by rfl) _ _ (congrArg flat (slot_read (by decide) 0 1 0 (by rfl) (by rfl) (by rfl) (by decide) (by decide)))
  refine St.start ?_
  refine St.block 3 ?_
  refine St.acc512 (F := F) (b := 0) (n := 3) ?_ (by rfl) _ _ (by rfl)
  refine St.acc512 (F := F) (b := 0) (n := 2) ?_ (by rfl) _ _ (by rfl)
  refine St.acc512 (F := F) (b := 0) (n := 1) ?_ (by rfl) _ _ (by rfl)
  refine St.acc512 (F := F) (b := 0) (n := 0) ?_ (by rfl) _ _ (by rfl)
  refine St.start512 ?_
  refine St.group (F := F) (b := 0) (n := 31) ?_ (by rfl) _ _ (congrArg flat (slot_read (by decide) 1 0 31 (by rfl) (by rfl) (by rfl) (by decide) (by decide)))
  refine St.group (F := F) (b := 0) (n := 30) ?_ (by rfl) _ _ (congrArg flat (slot_read (by decide) 1 0 30 (by rfl) (by rfl) (by rfl) (by decide) (by decide)))
  refine St.group (F := F) (b := 0) (n := 29) ?_ (by rfl) _ _ (congrArg flat (slot_read (by decide) 1 0 29 (by rfl) (by rfl) (by rfl) (by decide) (by decide)))
  refine St.group (F := F) (b := 0) (n := 28) ?_ (by rfl) _ _ (congrArg flat (slot_read (by decide) 1 0 28 (by rfl) (by rfl) (by rfl) (by decide) (by decide)))
  refine St.group (F := F) (b := 0) (n := 27) ?_ (by rfl) _ _ (congrArg flat (slot_read (by decide) 1 0 27 (by rfl) (by rfl) (by rfl) (by decide) (by decide)))
  refine St.group (F := F) (b := 0) (n := 26) ?_ (by rfl) _ _ (congrArg flat (slot_read (by decide) 1 0 26 (by rfl) (by rfl) (by rfl) (by decide) (by decide)))
  refine St.group (F := F) (b := 0) (n := 25) ?_ (by rfl) _ _ (congrArg flat (slot_read (by decide) 1 0 25 (by rfl) (by rfl) (by rfl) (by decide) (by decide)))
  refine St.group (F := F) (b := 0) (n := 24) ?_ (by rfl) _ _ (congrArg flat (slot_read (by decide) 1 0 24 (by rfl) (by rfl) (by rfl) (by decide) (by decide)))
  refine St.group (F := F) (b := 0) (n := 23) ?_ (by rfl) _ _ (congrArg flat (slot_read (by decide) 1 0 23 (by rfl) (by rfl) (by rfl) (by decide) (by decide)))
  refine St.group (F := F) (b := 0) (n := 22) ?_ (by rfl) _ _ (congrArg flat (slot_read (by decide) 1 0 22 (by rfl) (by rfl) (by rfl) (by decide) (by decide)))
  refine St.group (F := F) (b := 0) (n := 21) ?_ (by rfl) _ _ (congrArg flat (slot_read (by decide) 1 0 21 (by rfl) (by rfl) (by rfl) (by decide) (by decide)))
  refine St.group (F := F) (b := 0) (n := 20) ?_ (by rfl) _ _ (congrArg flat (slot_read (by decide) 1 0 20 (by rfl) (by rfl) (by rfl) (by decide) (by decide)))
  refine St.group (F := F) (b := 0) (n := 19) ?_ (by rfl) _ _ (congrArg flat (slot_read (by decide) 1 0 19 (by rfl) (by rfl) (by rfl) (by decide) (by decide)))
  refine St.group (F := F) (b := 0) (n := 18) ?_ (by rfl) _ _ (congrArg flat (slot_read (by decide) 1 0 18 (by rfl) (by rfl) (by rfl) (by decide) (by decide)))
  refine St.group (F := F) (b := 0) (n := 17) ?_ (by rfl) _ _ (congrArg flat (slot_read (by decide) 1 0 17 (by rfl) (by rfl) (by rfl) (by decide) (by decide)))
  refine St.group (F := F) (b := 0) (n := 16) ?_ (by rfl) _ _ (congrArg flat (slot_read (by decide) 1 0 16 (by rfl) (by rfl) (by rfl) (by decide) (by decide)))
  refine St.group (F := F) (b := 0) (n := 15) ?_ (by rfl) _ _ (congrArg flat (slot_read (by decide) 1 0 15 (by rfl) (by rfl) (by rfl) (by decide) (by decide)))
  refine St.group (F := F) (b := 0) (n := 14) ?_ (by rfl) _ _ (congrArg flat (slot_read (by decide) 1 0 14 (by rfl) (by rfl) (by rfl) (by decide) (by decide)))
  refine St.group (F := F) (b := 0) (n := 13) ?_ (by rfl) _ _ (congrArg flat (slot_read (by decide) 1 0 13 (by rfl) (by rfl) (by rfl) (by decide) (by decide)))
  refine St.group (F := F) (b := 0) (n := 12) ?_ (by rfl) _ _ (congrArg flat (slot_read (by decide) 1 0 12 (by rfl) (by rfl) (by rfl) (by decide) (by decide)))
  refine St.group (F := F) (b := 0) (n := 11) ?_ (by rfl) _ _ (congrArg flat (slot_read (by decide) 1 0 11 (by rfl) (by rfl) (by rfl) (by decide) (by decide)))
  refine St.group (F := F) (b := 0) (n := 10) ?_ (by rfl) _ _ (congrArg flat (slot_read (by decide) 1 0 10 (by rfl) (by rfl) (by rfl) (by decide) (by decide)))
  refine St.group (F := F) (b := 0) (n := 9) ?_ (by rfl) _ _ (congrArg flat (slot_read (by decide) 1 0 9 (by rfl) (by rfl) (by rfl) (by decide) (by decide)))
  refine St.group (F := F) (b := 0) (n := 8) ?_ (by rfl) _ _ (congrArg flat (slot_read (by decide) 1 0 8 (by rfl) (by rfl) (by rfl) (by decide) (by decide)))
  refine St.group (F := F) (b := 0) (n := 7) ?_ (by rfl) _ _ (congrArg flat (slot_read (by decide) 1 0 7 (by rfl) (by rfl) (by rfl) (by decide) (by decide)))
  refine St.group (F := F) (b := 0) (n := 6) ?_ (by rfl) _ _ (congrArg flat (slot_read (by decide) 1 0 6 (by rfl) (by rfl) (by rfl) (by decide) (by decide)))
  refine St.group (F := F) (b := 0) (n := 5) ?_ (by rfl) _ _ (congrArg flat (slot_read (by decide) 1 0 5 (by rfl) (by rfl) (by rfl) (by decide) (by decide)))
  refine St.group (F := F) (b := 0) (n := 4) ?_ (by rfl) _ _ (congrArg flat (slot_read (by decide) 1 0 4 (by rfl) (by rfl) (by rfl) (by decide) (by decide)))
  refine St.group (F := F) (b := 0) (n := 3) ?_ (by rfl) _ _ (congrArg flat (slot_read (by decide) 1 0 3 (by rfl) (by rfl) (by rfl) (by decide) (by decide)))
  refine St.group (F := F) (b := 0) (n := 2) ?_ (by rfl) _ _ (congrArg flat (slot_read (by decide) 1 0 2 (by rfl) (by rfl) (by rfl) (by decide) (by decide)))
  refine St.group (F := F) (b := 0) (n := 1) ?_ (by rfl) _ _ (congrArg flat (slot_read (by decide) 1 0 1 (by rfl) (by rfl) (by rfl) (by decide) (by decide)))
  refine St.group (F := F) (b := 0) (n := 0) ?_ (by rfl) _ _ (congrArg flat (slot_read (by decide) 1 0 0 (by rfl) (by rfl) (by rfl) (by decide) (by decide)))
  refine St.start ?_
  refine St.block 2 ?_
  refine St.acc512 (F := F) (b := 0) (n := 3) ?_ (by rfl) _ _ (by rfl)
  refine St.acc512 (F := F) (b := 0) (n := 2) ?_ (by rfl) _ _ (by rfl)
  refine St.acc512 (F := F) (b := 0) (n := 1) ?_ (by rfl) _ _ (by rfl)
  refine St.acc512 (F := F) (b := 0) (n := 0) ?_ (by rfl) _ _ (by rfl)
  refine St.start512 ?_
  refine St.group (F := F) (b := 0) (n := 31) ?_ (by rfl) _ _ (congrArg flat (slot_read (by decide) 0 1 31 (by rfl) (by rfl) (by rfl) (by decide) (by decide)))
  refine St.group (F := F) (b := 0) (n := 30) ?_ (by rfl) _ _ (congrArg flat (slot_read (by decide) 0 1 30 (by rfl) (by rfl) (by rfl) (by decide) (by decide)))
  refine St.group (F := F) (b := 0) (n := 29) ?_ (by rfl) _ _ (congrArg flat (slot_read (by decide) 0 1 29 (by rfl) (by rfl) (by rfl) (by decide) (by decide)))
  refine St.group (F := F) (b := 0) (n := 28) ?_ (by rfl) _ _ (congrArg flat (slot_read (by decide) 0 1 28 (by rfl) (by rfl) (by rfl) (by decide) (by decide)))
  refine St.group (F := F) (b := 0) (n := 27) ?_ (by rfl) _ _ (congrArg flat (slot_read (by decide) 0 1 27 (by rfl) (by rfl) (by rfl) (by decide) (by decide)))
  refine St.group (F := F) (b := 0) (n := 26) ?_ (by rfl) _ _ (congrArg flat (slot_read (by decide) 0 1 26 (by rfl) (by rfl) (by rfl) (by decide) (by decide)))
  refine St.group (F := F) (b := 0) (n := 25) ?_ (by rfl) _ _ (congrArg flat (slot_read (by decide) 0 1 25 (by rfl) (by rfl) (by rfl) (by decide) (by decide)))
  refine St.group (F := F) (b := 0) (n := 24) ?_ (by rfl) _ _ (congrArg flat (slot_read (by decide) 0 1 24 (by rfl) (by rfl) (by rfl) (by decide) (by decide)))
  refine St.group (F := F) (b := 0) (n := 23) ?_ (by rfl) _ _ (congrArg flat (slot_read (by decide) 0 1 23 (by rfl) (by rfl) (by rfl) (by decide) (by decide)))
  refine St.group (F := F) (b := 0) (n := 22) ?_ (by rfl) _ _ (congrArg flat (slot_read (by decide) 0 1 22 (by rfl) (by rfl) (by rfl) (by decide) (by decide)))
  refine St.group (F := F) (b := 0) (n := 21) ?_ (by rfl) _ _ (congrArg flat (slot_read (by decide) 0 1 21 (by rfl) (by rfl) (by rfl) (by decide) (by decide)))
  refine St.group (F := F) (b := 0) (n := 20) ?_ (by rfl) _ _ (congrArg flat (slot_read (by decide) 0 1 20 (by rfl) (by rfl) (by rfl) (by decide) (by decide)))
  refine St.group (F := F) (b := 0) (n := 19) ?_ (by rfl) _ _ (congrArg flat (slot_read (by decide) 0 1 19 (by rfl) (by rfl) (by rfl) (by decide) (by decide)))
  refine St.group (F := F) (b := 0) (n := 18) ?_ (by rfl) _ _ (congrArg flat (slot_read (by decide) 0 1 18 (by rfl) (by rfl) (by rfl) (by decide) (by decide)))
  refine St.group (F := F) (b := 0) (n := 17) ?_ (by rfl) _ _ (congrArg flat (slot_read (by decide) 0 1 17 (by rfl) (by rfl) (by rfl) (by decide) (by decide)))
  refine St.group (F := F) (b := 0) (n := 16) ?_ (by rfl) _ _ (congrArg flat (slot_read (by decide) 0 1 16 (by rfl) (by rfl) (by rfl) (by decide) (by decide)))
  refine St.group (F := F) (b := 0) (n := 15) ?_ (by rfl) _ _ (congrArg flat (slot_read (by decide) 0 1 15 (by rfl) (by rfl) (by rfl) (by decide) (by decide)))
  refine St.group (F := F) (b := 0) (n := 14) ?_ (by rfl) _ _ (congrArg flat (slot_read (by decide) 0 1 14 (by rfl) (by rfl) (by rfl) (by decide) (by decide)))
  refine St.group (F := F) (b := 0) (n := 13) ?_ (by rfl) _ _ (congrArg flat (slot_read (by decide) 0 1 13 (by rfl) (by rfl) (by rfl) (by decide) (by decide)))
  refine St.group (F := F) (b := 0) (n := 12) ?_ (by rfl) _ _ (congrArg flat (slot_read (by decide) 0 1 12 (by rfl) (by rfl) (by rfl) (by decide) (by decide)))
  refine St.group (F := F) (b := 0) (n := 11) ?_ (by rfl) _ _ (congrArg flat (slot_read (by decide) 0 1 11 (by rfl) (by rfl) (by rfl) (by decide) (by decide)))
  refine St.group (F := F) (b := 0) (n := 10) ?_ (by rfl) _ _ (congrArg flat (slot_read (by decide) 0 1 10 (by rfl) (by rfl) (by rfl) (by decide) (by decide)))
  refine St.group (F := F) (b := 0) (n := 9) ?_ (by rfl) _ _ (congrArg flat (slot_read (by decide) 0 1 9 (by rfl) (by rfl) (by rfl) (by decide) (by decide)))
  refine St.group (F := F) (b := 0) (n := 8) ?_ (by rfl) _ _ (congrArg flat (slot_read (by decide) 0 1 8 (by rfl) (by rfl) (by rfl) (by decide) (by decide)))
  refine St.group (F := F) (b := 0) (n := 7) ?_ (by rfl) _ _ (congrArg flat (slot_read (by decide) 0 1 7 (by rfl) (by rfl) (by rfl) (by decide) (by decide)))
  refine St.group (F := F) (b := 0) (n := 6) ?_ (by rfl) _ _ (congrArg flat (slot_read (by decide) 0 1 6 (by rfl) (by rfl) (by rfl) (by decide) (by decide)))
  refine St.group (F := F) (b := 0) (n := 5) ?_ (by rfl) _ _ (congrArg flat (slot_read (by decide) 0 1 5 (by rfl) (by rfl) (by rfl) (by decide) (by decide)))
  refine St.group (F := F) (b := 0) (n := 4) ?_ (by rfl) _ _ (congrArg flat (slot_read (by decide) 0 1 4 (by rfl) (by rfl) (by rfl) (by decide) (by decide)))
  refine St.group (F := F) (b := 0) (n := 3) ?_ (by rfl) _ _ (congrArg flat (slot_read (by decide) 0 1 3 (by rfl) (by rfl) (by rfl) (by decide) (by decide)))
  refine St.group (F := F) (b := 0) (n := 2) ?_ (by rfl) _ _ (congrArg flat (slot_read (by decide) 0 1 2 (by rfl) (by rfl) (by rfl) (by decide) (by decide)))
  refine St.group (F := F) (b := 0) (n := 1) ?_ (by rfl) _ _ (congrArg flat (slot_read (by decide) 0 1 1 (by rfl) (by rfl) (by rfl) (by decide) (by decide)))
  refine St.group (F := F) (b := 0) (n := 0) ?_ (by rfl) _ _ (congrArg flat (slot_read (by decide) 0 1 0 (by rfl) (by rfl) (by rfl) (by decide) (by decide)))
  refine St.start ?_
  refine St.block 1 ?_
  refine St.acc512 (F := F) (b := 0) (n := 3) ?_ (by rfl) _ _ (by rfl)
  refine St.acc512 (F := F) (b := 0) (n := 2) ?_ (by rfl) _ _ (by rfl)
  refine St.acc512 (F := F) (b := 0) (n := 1) ?_ (by rfl) _ _ (by rfl)
  refine St.acc512 (F := F) (b := 0) (n := 0) ?_ (by rfl) _ _ (by rfl)
  refine St.start512 ?_
  refine St.group (F := F) (b := 0) (n := 31) ?_ (by rfl) _ _ (congrArg flat (slot_read (by decide) 1 0 31 (by rfl) (by rfl) (by rfl) (by decide) (by decide)))
  refine St.group (F := F) (b := 0) (n := 30) ?_ (by rfl) _ _ (congrArg flat (slot_read (by decide) 1 0 30 (by rfl) (by rfl) (by rfl) (by decide) (by decide)))
  refine St.group (F := F) (b := 0) (n := 29) ?_ (by rfl) _ _ (congrArg flat (slot_read (by decide) 1 0 29 (by rfl) (by rfl) (by rfl) (by decide) (by decide)))
  refine St.group (F := F) (b := 0) (n := 28) ?_ (by rfl) _ _ (congrArg flat (slot_read (by decide) 1 0 28 (by rfl) (by rfl) (by rfl) (by decide) (by decide)))
  refine St.group (F := F) (b := 0) (n := 27) ?_ (by rfl) _ _ (congrArg flat (slot_read (by decide) 1 0 27 (by rfl) (by rfl) (by rfl) (by decide) (by decide)))
  refine St.group (F := F) (b := 0) (n := 26) ?_ (by rfl) _ _ (congrArg flat (slot_read (by decide) 1 0 26 (by rfl) (by rfl) (by rfl) (by decide) (by decide)))
  refine St.group (F := F) (b := 0) (n := 25) ?_ (by rfl) _ _ (congrArg flat (slot_read (by decide) 1 0 25 (by rfl) (by rfl) (by rfl) (by decide) (by decide)))
  refine St.group (F := F) (b := 0) (n := 24) ?_ (by rfl) _ _ (congrArg flat (slot_read (by decide) 1 0 24 (by rfl) (by rfl) (by rfl) (by decide) (by decide)))
  refine St.group (F := F) (b := 0) (n := 23) ?_ (by rfl) _ _ (congrArg flat (slot_read (by decide) 1 0 23 (by rfl) (by rfl) (by rfl) (by decide) (by decide)))
  refine St.group (F := F) (b := 0) (n := 22) ?_ (by rfl) _ _ (congrArg flat (slot_read (by decide) 1 0 22 (by rfl) (by rfl) (by rfl) (by decide) (by decide)))
  refine St.group (F := F) (b := 0) (n := 21) ?_ (by rfl) _ _ (congrArg flat (slot_read (by decide) 1 0 21 (by rfl) (by rfl) (by rfl) (by decide) (by decide)))
  refine St.group (F := F) (b := 0) (n := 20) ?_ (by rfl) _ _ (congrArg flat (slot_read (by decide) 1 0 20 (by rfl) (by rfl) (by rfl) (by decide) (by decide)))
  refine St.group (F := F) (b := 0) (n := 19) ?_ (by rfl) _ _ (congrArg flat (slot_read (by decide) 1 0 19 (by rfl) (by rfl) (by rfl) (by decide) (by decide)))
  refine St.group (F := F) (b := 0) (n := 18) ?_ (by rfl) _ _ (congrArg flat (slot_read (by decide) 1 0 18 (by rfl) (by rfl) (by rfl) (by decide) (by decide)))
  refine St.group (F := F) (b := 0) (n := 17) ?_ (by rfl) _ _ (congrArg flat (slot_read (by decide) 1 0 17 (by rfl) (by rfl) (by rfl) (by decide) (by decide)))
  refine St.group (F := F) (b := 0) (n := 16) ?_ (by rfl) _ _ (congrArg flat (slot_read (by decide) 1 0 16 (by rfl) (by rfl) (by rfl) (by decide) (by decide)))
  refine St.group (F := F) (b := 0) (n := 15) ?_ (by rfl) _ _ (congrArg flat (slot_read (by decide) 1 0 15 (by rfl) (by rfl) (by rfl) (by decide) (by decide)))
  refine St.group (F := F) (b := 0) (n := 14) ?_ (by rfl) _ _ (congrArg flat (slot_read (by decide) 1 0 14 (by rfl) (by rfl) (by rfl) (by decide) (by decide)))
  refine St.group (F := F) (b := 0) (n := 13) ?_ (by rfl) _ _ (congrArg flat (slot_read (by decide) 1 0 13 (by rfl) (by rfl) (by rfl) (by decide) (by decide)))
  refine St.group (F := F) (b := 0) (n := 12) ?_ (by rfl) _ _ (congrArg flat (slot_read (by decide) 1 0 12 (by rfl) (by rfl) (by rfl) (by decide) (by decide)))
  refine St.group (F := F) (b := 0) (n := 11) ?_ (by rfl) _ _ (congrArg flat (slot_read (by decide) 1 0 11 (by rfl) (by rfl) (by rfl) (by decide) (by decide)))
  refine St.group (F := F) (b := 0) (n := 10) ?_ (by rfl) _ _ (congrArg flat (slot_read (by decide) 1 0 10 (by rfl) (by rfl) (by rfl) (by decide) (by decide)))
  refine St.group (F := F) (b := 0) (n := 9) ?_ (by rfl) _ _ (congrArg flat (slot_read (by decide) 1 0 9 (by rfl) (by rfl) (by rfl) (by decide) (by decide)))
  refine St.group (F := F) (b := 0) (n := 8) ?_ (by rfl) _ _ (congrArg flat (slot_read (by decide) 1 0 8 (by rfl) (by rfl) (by rfl) (by decide) (by decide)))
  refine St.group (F := F) (b := 0) (n := 7) ?_ (by rfl) _ _ (congrArg flat (slot_read (by decide) 1 0 7 (by rfl) (by rfl) (by rfl) (by decide) (by decide)))
  refine St.group (F := F) (b := 0) (n := 6) ?_ (by rfl) _ _ (congrArg flat (slot_read (by decide) 1 0 6 (by rfl) (by rfl) (by rfl) (by decide) (by decide)))
  refine St.group (F := F) (b := 0) (n := 5) ?_ (by rfl) _ _ (congrArg flat (slot_read (by decide) 1 0 5 (by rfl) (by rfl) (by rfl) (by decide) (by decide)))
  refine St.group (F := F) (b := 0) (n := 4) ?_ (by rfl) _ _ (congrArg flat (slot_read (by decide) 1 0 4 (by rfl) (by rfl) (by rfl) (by decide) (by decide)))
  refine St.group (F := F) (b := 0) (n := 3) ?_ (by rfl) _ _ (congrArg flat (slot_read (by decide) 1 0 3 (by rfl) (by rfl) (by rfl) (by decide) (by decide)))
  refine St.group (F := F) (b := 0) (n := 2) ?_ (by rfl) _ _ (congrArg flat (slot_read (by decide) 1 0 2 (by rfl) (by rfl) (by rfl) (by decide) (by decide)))
  refine St.group (F := F) (b := 0) (n := 1) ?_ (by rfl) _ _ (congrArg flat (slot_read (by decide) 1 0 1 (by rfl) (by rfl) (by rfl) (by decide) (by decide)))
  refine St.group (F := F) (b := 0) (n := 0) ?_ (by rfl) _ _ (congrArg flat (slot_read (by decide) 1 0 0 (by rfl) (by rfl) (by rfl) (by decide) (by decide)))
  refine St.start ?_
  refine St.block 0 ?_
  refine St.acc512 (F := F) (b := 0) (n := 3) ?_ (by rfl) _ _ (by rfl)
  refine St.acc512 (F := F) (b := 0) (n := 2) ?_ (by rfl) _ _ (by rfl)
  refine St.acc512 (F := F) (b := 0) (n := 1) ?_ (by rfl) _ _ (by rfl)
  refine St.acc512 (F := F) (b := 0) (n := 0) ?_ (by rfl) _ _ (by rfl)
  refine St.start512 ?_
  refine St.group (F := F) (b := 0) (n := 31) ?_ (by rfl) _ _ (congrArg flat (slot_read (by decide) 0 1 31 (by rfl) (by rfl) (by rfl) (by decide) (by decide)))
  refine St.group (F := F) (b := 0) (n := 30) ?_ (by rfl) _ _ (congrArg flat (slot_read (by decide) 0 1 30 (by rfl) (by rfl) (by rfl) (by decide) (by decide)))
  refine St.group (F := F) (b := 0) (n := 29) ?_ (by rfl) _ _ (congrArg flat (slot_read (by decide) 0 1 29 (by rfl) (by rfl) (by rfl) (by decide) (by decide)))
  refine St.group (F := F) (b := 0) (n := 28) ?_ (by rfl) _ _ (congrArg flat (slot_read (by decide) 0 1 28 (by rfl) (by rfl) (by rfl) (by decide) (by decide)))
  refine St.group (F := F) (b := 0) (n := 27) ?_ (by rfl) _ _ (congrArg flat (slot_read (by decide) 0 1 27 (by rfl) (by rfl) (by rfl) (by decide) (by decide)))
  refine St.group (F := F) (b := 0) (n := 26) ?_ (by rfl) _ _ (congrArg flat (slot_read (by decide) 0 1 26 (by rfl) (by rfl) (by rfl) (by decide) (by decide)))
  refine St.group (F := F) (b := 0) (n := 25) ?_ (by rfl) _ _ (congrArg flat (slot_read (by decide) 0 1 25 (by rfl) (by rfl) (by rfl) (by decide) (by decide)))
  refine St.group (F := F) (b := 0) (n := 24) ?_ (by rfl) _ _ (congrArg flat (slot_read (by decide) 0 1 24 (by rfl) (by rfl) (by rfl) (by decide) (by decide)))
  refine St.group (F := F) (b := 0) (n := 23) ?_ (by rfl) _ _ (congrArg flat (slot_read (by decide) 0 1 23 (by rfl) (by rfl) (by rfl) (by decide) (by decide)))
  refine St.group (F := F) (b := 0) (n := 22) ?_ (by rfl) _ _ (congrArg flat (slot_read (by decide) 0 1 22 (by rfl) (by rfl) (by rfl) (by decide) (by decide)))
  refine St.group (F := F) (b := 0) (n := 21) ?_ (by rfl) _ _ (congrArg flat (slot_read (by decide) 0 1 21 (by rfl) (by rfl) (by rfl) (by decide) (by decide)))
  refine St.group (F := F) (b := 0) (n := 20) ?_ (by rfl) _ _ (congrArg flat (slot_read (by decide) 0 1 20 (by rfl) (by rfl) (by rfl) (by decide) (by decide)))
  refine St.group (F := F) (b := 0) (n := 19) ?_ (by rfl) _ _ (congrArg flat (slot_read (by decide) 0 1 19 (by rfl) (by rfl) (by rfl) (by decide) (by decide)))
  refine St.group (F := F) (b := 0) (n := 18) ?_ (by rfl) _ _ (congrArg flat (slot_read (by decide) 0 1 18 (by rfl) (by rfl) (by rfl) (by decide) (by decide)))
  refine St.group (F := F) (b := 0) (n := 17) ?_ (by rfl) _ _ (congrArg flat (slot_read (by decide) 0 1 17 (by rfl) (by rfl) (by rfl) (by decide) (by decide)))
  refine St.group (F := F) (b := 0) (n := 16) ?_ (by rfl) _ _ (congrArg flat (slot_read (by decide) 0 1 16 (by rfl) (by rfl) (by rfl) (by decide) (by decide)))
  refine St.group (F := F) (b := 0) (n := 15) ?_ (by rfl) _ _ (congrArg flat (slot_read (by decide) 0 1 15 (by rfl) (by rfl) (by rfl) (by decide) (by decide)))
  refine St.group (F := F) (b := 0) (n := 14) ?_ (by rfl) _ _ (congrArg flat (slot_read (by decide) 0 1 14 (by rfl) (by rfl) (by rfl) (by decide) (by decide)))
  refine St.group (F := F) (b := 0) (n := 13) ?_ (by rfl) _ _ (congrArg flat (slot_read (by decide) 0 1 13 (by rfl) (by rfl) (by rfl) (by decide) (by decide)))
  refine St.group (F := F) (b := 0) (n := 12) ?_ (by rfl) _ _ (congrArg flat (slot_read (by decide) 0 1 12 (by rfl) (by rfl) (by rfl) (by decide) (by decide)))
  refine St.group (F := F) (b := 0) (n := 11) ?_ (by rfl) _ _ (congrArg flat (slot_read (by decide) 0 1 11 (by rfl) (by rfl) (by rfl) (by decide) (by decide)))
  refine St.group (F := F) (b := 0) (n := 10) ?_ (by rfl) _ _ (congrArg flat (slot_read (by decide) 0 1 10 (by rfl) (by rfl) (by rfl) (by decide) (by decide)))
  refine St.group (F := F) (b := 0) (n := 9) ?_ (by rfl) _ _ (congrArg flat (slot_read (by decide) 0 1 9 (by rfl) (by rfl) (by rfl) (by decide) (by decide)))
  refine St.group (F := F) (b := 0) (n := 8) ?_ (by rfl) _ _ (congrArg flat (slot_read (by decide) 0 1 8 (by rfl) (by rfl) (by rfl) (by decide) (by decide)))
  refine St.group (F := F) (b := 0) (n := 7) ?_ (by rfl) _ _ (congrArg flat (slot_read (by decide) 0 1 7 (by rfl) (by rfl) (by rfl) (by decide) (by decide)))
  refine St.group (F := F) (b := 0) (n := 6) ?_ (by rfl) _ _ (congrArg flat (slot_read (by decide) 0 1 6 (by rfl) (by rfl) (by rfl) (by decide) (by decide)))
  refine St.group (F := F) (b := 0) (n := 5) ?_ (by rfl) _ _ (congrArg flat (slot_read (by decide) 0 1 5 (by rfl) (by rfl) (by rfl) (by decide) (by decide)))
  refine St.group (F := F) (b := 0) (n := 4) ?_ (by rfl) _ _ (congrArg flat (slot_read (by decide) 0 1 4 (by rfl) (by rfl) (by rfl) (by decide) (by decide)))
  refine St.group (F := F) (b := 0) (n := 3) ?_ (by rfl) _ _ (congrArg flat (slot_read (by decide) 0 1 3 (by rfl) (by rfl) (by rfl) (by decide) (by decide)))
  refine St.group (F := F) (b := 0) (n := 2) ?_ (by rfl) _ _ (congrArg flat (slot_read (by decide) 0 1 2 (by rfl) (by rfl) (by rfl) (by decide) (by decide)))
  refine St.group (F := F) (b := 0) (n := 1) ?_ (by rfl) _ _ (congrArg flat (slot_read (by decide) 0 1 1 (by rfl) (by rfl) (by rfl) (by decide) (by decide)))
  refine St.group (F := F) (b := 0) (n := 0) ?_ (by rfl) _ _ (congrArg flat (slot_read (by decide) 0 1 0 (by rfl) (by rfl) (by rfl) (by decide) (by decide)))
  refine St.start ?_
  exact ⟨has_whole _ _, has_whole _ _, has_whole _ _, has_whole _ _, has_whole _ _⟩

end Cert.Kernel2Ideal.Hand
-- ==== Proof.AttInv.lean ====
module

public import proofs.«01_k».proof.Proof.AttT2

@[expose] public section

set_option maxRecDepth 16384

noncomputable section

/-! The attention's loop over earlier blocks of keys: what its scratch buffers hold before each trip, and its invariant. -/

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

/-- The scores in the first slot and the five buffers a trip changes. -/
structure Sc (F : FTy → Type) [FloatOps F] where
  w : Vec F S1x2048x256 .f32
  p : Vec F S2048x256 .bf16
  a : Vec F S2048x128 .f32
  m : Vec F S2048x128 .f32
  l : Vec F S2048x128 .f32
  c : Vec F S2048x128 .f32

/-- What one trip makes of them. -/
def t2Next (q : Vec F S2048x256 .bf16) (K : Fin 8 → Vec F S256x256 .bf16) (V : Fin 8 → Vec F S256x128 .bf16) (s : Sc F) : Sc F where
  w := trScore s.w q K 8
  p := seqP (trScore s.w q K) s.m s.p 8
  a := seqA (trScore s.w q K) s.m s.a 8
  m := seqM (trScore s.w q K) s.m 8
  l := seqL (trScore s.w q K) s.m s.l 8
  c := seqC (trScore s.w q K) V s.m s.p s.a s.c 8

/-- What they are before trip `k`, from what they were before the first. -/
def t2St (t1 : Fin k0_t1_loop.trips) (x2 x3 : Vec F S4096x256 .bf16) (x4 : Vec F S4096x128 .bf16) (s : Sc F) : ℕ → Sc F
  | 0 => s
  | k + 1 => if h : k < (k0_t2_loop t1).trips then t2Next (qBlock t1 x2) (kBlock t1 ⟨k, h⟩ x3) (vBlock t1 ⟨k, h⟩ x4) (t2St t1 x2 x3 x4 s k) else t2St t1 x2 x3 x4 s k

/-- A whole buffer holding `X` is any contents with `X` stored over them. -/
theorem full_writes {S : Shape} {e : EltTy} {M : Memref sig .tc .vmem S e} (h : M.IsWhole) (f g : M.view.ty.Contents (Elt F))
    {off : Fin S.rank → ℕ} (inb : ∀ a, off a + S.size a ≤ S.size a) {X : Vec F S e} (hg : M.view.read (Elt F) g = X) :
    g = M.view.writes (Elt F) f [⟨Rect.unit (s := S) off S.size inb, X⟩] := by
  refine (h.read_bijective (Val := Elt F)).1 ?_
  rw [hg]
  funext y
  rw [View.read_writes_full]

/-- Storing what the first slot holds into it changes nothing. -/
theorem slot_same {M : Memref sig .tc .vmem S2x2048x256 .f32} (h : M.IsWhole) (g : M.view.ty.Contents (Elt F)) {X : Vec F S1x2048x256 .f32}
    (hg : slot0 (M.view.read (Elt F) g) = X) :
    g = M.view.writes (Elt F) g [⟨Rect.unit (s := S2x2048x256) ![0, 0, 0] S1x2048x256.size inb_S2x2048x256_S1x2048x256_0_0_0, X⟩] := by
  refine (h.read_bijective (Val := Elt F)).1 ?_
  funext y
  by_cases hy : (y 0).val = 0
  · have e := congrFun (slot0_writes (F := F) M.view g (w := X) []) (ix3 ⟨0, by decide⟩ ⟨(y 1).val, (y 1).isLt⟩ ⟨(y 2).val, (y 2).isLt⟩)
    have e' := congrFun hg (ix3 ⟨0, by decide⟩ ⟨(y 1).val, (y 1).isLt⟩ ⟨(y 2).val, (y 2).isLt⟩)
    have hi : (Rect.unit (s := S2x2048x256) ![0, 0, 0] S1x2048x256.size inb_S2x2048x256_S1x2048x256_0_0_0).toLoadRect.idx
        (ix3 ⟨0, by decide⟩ ⟨(y 1).val, (y 1).isLt⟩ ⟨(y 2).val, (y 2).isLt⟩) = y := by
      funext a
      apply Fin.ext
      match a with
      | ⟨0, _⟩ => show 0 + 1 * 0 = (y 0).val; omega
      | ⟨1, _⟩ => show 0 + 1 * (y 1).val = (y 1).val; omega
      | ⟨2, _⟩ => show 0 + 1 * (y 2).val = (y 2).val; omega
    unfold slot0 at e e'
    rw [hi] at e e'
    rw [e, e']
  · symm
    refine (View.read_writes_cons_unit_of_not_mem M.view g inb_S2x2048x256_S1x2048x256_0_0_0 X [] y rfl 0 ?_).trans rfl
    show (y 0).val < 0 ∨ 0 + 1 ≤ (y 0).val
    omega

section Bufs
variable (c : Dev nD) {arg2 arg3 : Memref sig .tc .vmem S4096x256 .bf16} {arg4 : Memref sig .tc .vmem S4096x128 .bf16}
  {arg12 : Memref sig .tc .vmem S2x2048x256 .f32} {arg13 : Memref sig .tc .vmem S2048x256 .bf16} {arg14 : Memref sig .tc .vmem S2048x128 .f32} {arg15 : Memref sig .tc .vmem S2048x128 .f32} {arg16 : Memref sig .tc .vmem S2048x128 .f32} {arg17 : Memref sig .tc .vmem S2048x128 .f32}
  (t1 : Fin k0_t1_loop.trips) (f2 : BufOf (F := F) c arg2) (f3 : BufOf (F := F) c arg3) (f4 : BufOf (F := F) c arg4) (G12 : BufOf (F := F) c arg12) (G13 : BufOf (F := F) c arg13) (G14 : BufOf (F := F) c arg14) (G15 : BufOf (F := F) c arg15) (G16 : BufOf (F := F) c arg16) (G17 : BufOf (F := F) c arg17)

/-- What the buffers hold when the loop is reached. -/
def scOf : Sc F where
  w := slot0 (arg12.view.read (Elt F) G12)
  p := arg13.view.read (Elt F) G13
  a := arg14.view.read (Elt F) G14
  m := arg15.view.read (Elt F) G15
  l := arg16.view.read (Elt F) G16
  c := arg17.view.read (Elt F) G17

/-- The trips' values from the buffers. -/
def t2At (k : ℕ) : Sc F :=
  t2St t1 (arg2.view.read (Elt F) f2) (arg3.view.read (Elt F) f3) (arg4.view.read (Elt F) f4) (scOf c G12 G13 G14 G15 G16 G17) k

/-- The buffers before trip `k`. -/
def t2B12 : ℕ → BufOf (F := F) c arg12
  | 0 => G12
  | k + 1 => if h : k < (k0_t2_loop t1).trips then
      arg12.view.writes (Elt F) (t2B12 k) (slotList (trScore (t2At c t1 f2 f3 f4 G12 G13 G14 G15 G16 G17 k).w (qBlock t1 (arg2.view.read (Elt F) f2)) (kBlock t1 ⟨k, h⟩ (arg3.view.read (Elt F) f3))))
    else t2B12 k
def t2B13 : ℕ → BufOf (F := F) c arg13
  | 0 => G13
  | k + 1 => arg13.view.writes (Elt F) G13 [⟨Rect.unit (s := S2048x256) ![0, 0] S2048x256.size inb_S2048x256_S2048x256_0_0, (t2At c t1 f2 f3 f4 G12 G13 G14 G15 G16 G17 (k + 1)).p⟩]
def t2B14 : ℕ → BufOf (F := F) c arg14
  | 0 => G14
  | k + 1 => arg14.view.writes (Elt F) G14 [⟨Rect.unit (s := S2048x128) ![0, 0] S2048x128.size inb_S2048x128_S2048x128_0_0, (t2At c t1 f2 f3 f4 G12 G13 G14 G15 G16 G17 (k + 1)).a⟩]
def t2B15 : ℕ → BufOf (F := F) c arg15
  | 0 => G15
  | k + 1 => arg15.view.writes (Elt F) G15 [⟨Rect.unit (s := S2048x128) ![0, 0] S2048x128.size inb_S2048x128_S2048x128_0_0, (t2At c t1 f2 f3 f4 G12 G13 G14 G15 G16 G17 (k + 1)).m⟩]
def t2B16 : ℕ → BufOf (F := F) c arg16
  | 0 => G16
  | k + 1 => arg16.view.writes (Elt F) G16 [⟨Rect.unit (s := S2048x128) ![0, 0] S2048x128.size inb_S2048x128_S2048x128_0_0, (t2At c t1 f2 f3 f4 G12 G13 G14 G15 G16 G17 (k + 1)).l⟩]
def t2B17 : ℕ → BufOf (F := F) c arg17
  | 0 => G17
  | k + 1 => arg17.view.writes (Elt F) G17 [⟨Rect.unit (s := S2048x128) ![0, 0] S2048x128.size inb_S2048x128_S2048x128_0_0, (t2At c t1 f2 f3 f4 G12 G13 G14 G15 G16 G17 (k + 1)).c⟩]

theorem t2B12_read (k : ℕ) : slot0 (arg12.view.read (Elt F) (t2B12 c t1 f2 f3 f4 G12 G13 G14 G15 G16 G17 k)) = (t2At c t1 f2 f3 f4 G12 G13 G14 G15 G16 G17 k).w := by
  induction k with
  | zero => rfl
  | succ k ih =>
    by_cases h : k < (k0_t2_loop t1).trips
    · rw [show t2B12 c t1 f2 f3 f4 G12 G13 G14 G15 G16 G17 (k + 1) = _ from dif_pos h,
        show t2At c t1 f2 f3 f4 G12 G13 G14 G15 G16 G17 (k + 1) = t2Next (qBlock t1 (arg2.view.read (Elt F) f2)) (kBlock t1 ⟨k, h⟩ (arg3.view.read (Elt F) f3)) (vBlock t1 ⟨k, h⟩ (arg4.view.read (Elt F) f4)) (t2At c t1 f2 f3 f4 G12 G13 G14 G15 G16 G17 k) from dif_pos h]
      exact slot0_writes _ _ _
    · rw [show t2B12 c t1 f2 f3 f4 G12 G13 G14 G15 G16 G17 (k + 1) = _ from dif_neg h, show t2At c t1 f2 f3 f4 G12 G13 G14 G15 G16 G17 (k + 1) = t2At c t1 f2 f3 f4 G12 G13 G14 G15 G16 G17 k from dif_neg h]
      exact ih
theorem t2B13_read (k : ℕ) : arg13.view.read (Elt F) (t2B13 c t1 f2 f3 f4 G12 G13 G14 G15 G16 G17 k) = (t2At c t1 f2 f3 f4 G12 G13 G14 G15 G16 G17 k).p := by
  cases k with
  | zero => rfl
  | succ k => exact View.read_writes_full _ _ _ _ _
theorem t2B14_read (k : ℕ) : arg14.view.read (Elt F) (t2B14 c t1 f2 f3 f4 G12 G13 G14 G15 G16 G17 k) = (t2At c t1 f2 f3 f4 G12 G13 G14 G15 G16 G17 k).a := by
  cases k with
  | zero => rfl
  | succ k => exact View.read_writes_full _ _ _ _ _
theorem t2B15_read (k : ℕ) : arg15.view.read (Elt F) (t2B15 c t1 f2 f3 f4 G12 G13 G14 G15 G16 G17 k) = (t2At c t1 f2 f3 f4 G12 G13 G14 G15 G16 G17 k).m := by
  cases k with
  | zero => rfl
  | succ k => exact View.read_writes_full _ _ _ _ _
theorem t2B16_read (k : ℕ) : arg16.view.read (Elt F) (t2B16 c t1 f2 f3 f4 G12 G13 G14 G15 G16 G17 k) = (t2At c t1 f2 f3 f4 G12 G13 G14 G15 G16 G17 k).l := by
  cases k with
  | zero => rfl
  | succ k => exact View.read_writes_full _ _ _ _ _
theorem t2B17_read (k : ℕ) : arg17.view.read (Elt F) (t2B17 c t1 f2 f3 f4 G12 G13 G14 G15 G16 G17 k) = (t2At c t1 f2 f3 f4 G12 G13 G14 G15 G16 G17 k).c := by
  cases k with
  | zero => rfl
  | succ k => exact View.read_writes_full _ _ _ _ _

end Bufs

/-- The resources of the loop before trip `k`. -/
def t2Inv (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (c0_i32 : BitVec 32) (c1_i32 : BitVec 32) (k0_t1 : Fin k0_t1_loop.trips) (v11 : BitVec 32)
    (f2 : BufOf (F := F) c arg2) (f3 : BufOf (F := F) c arg3) (f4 : BufOf (F := F) c arg4) (G12 : BufOf (F := F) c arg12) (G13 : BufOf (F := F) c arg13) (G14 : BufOf (F := F) c arg14) (G15 : BufOf (F := F) c arg15) (G16 : BufOf (F := F) c arg16) (G17 : BufOf (F := F) c arg17) (k : ℕ) : sProp 𝕄 := iprop(at_ c arg2 f2 ∗ at_ c arg3 f3 ∗ at_ c arg4 f4 ∗ at_ c arg12 (t2B12 c k0_t1 f2 f3 f4 G12 G13 G14 G15 G16 G17 k) ∗ at_ c arg13 (t2B13 c k0_t1 f2 f3 f4 G12 G13 G14 G15 G16 G17 k) ∗ at_ c arg14 (t2B14 c k0_t1 f2 f3 f4 G12 G13 G14 G15 G16 G17 k) ∗ at_ c arg15 (t2B15 c k0_t1 f2 f3 f4 G12 G13 G14 G15 G16 G17 k) ∗ at_ c arg16 (t2B16 c k0_t1 f2 f3 f4 G12 G13 G14 G15 G16 G17 k) ∗ at_ c arg17 (t2B17 c k0_t1 f2 f3 f4 G12 G13 G14 G15 G16 G17 k))

theorem t2_lists (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (c0_i32 : BitVec 32) (c1_i32 : BitVec 32) (k0_t1 : Fin k0_t1_loop.trips) (v11 : BitVec 32)
    (f2 : BufOf (F := F) c arg2) (f3 : BufOf (F := F) c arg3) (f4 : BufOf (F := F) c arg4) (G12 : BufOf (F := F) c arg12) (G13 : BufOf (F := F) c arg13) (G14 : BufOf (F := F) c arg14) (G15 : BufOf (F := F) c arg15) (G16 : BufOf (F := F) c arg16) (G17 : BufOf (F := F) c arg17) (k : ℕ) :
    t2Inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 f2 f3 f4 G12 G13 G14 G15 G16 G17 k ⊢ iprop(at_ c arg2 f2 ∗ at_ c arg3 f3 ∗ at_ c arg4 f4 ∗ at_ c arg12 (arg12.view.writes (Elt F) (t2B12 c k0_t1 f2 f3 f4 G12 G13 G14 G15 G16 G17 k) [⟨Rect.unit (s := S2x2048x256) ![0, 0, 0] S1x2048x256.size inb_S2x2048x256_S1x2048x256_0_0_0, (t2At c k0_t1 f2 f3 f4 G12 G13 G14 G15 G16 G17 k).w⟩]) ∗ at_ c arg13 (arg13.view.writes (Elt F) G13 [⟨Rect.unit (s := S2048x256) ![0, 0] S2048x256.size inb_S2048x256_S2048x256_0_0, (t2At c k0_t1 f2 f3 f4 G12 G13 G14 G15 G16 G17 k).p⟩]) ∗ at_ c arg14 (arg14.view.writes (Elt F) G14 [⟨Rect.unit (s := S2048x128) ![0, 0] S2048x128.size inb_S2048x128_S2048x128_0_0, (t2At c k0_t1 f2 f3 f4 G12 G13 G14 G15 G16 G17 k).a⟩]) ∗ at_ c arg15 (arg15.view.writes (Elt F) G15 [⟨Rect.unit (s := S2048x128) ![0, 0] S2048x128.size inb_S2048x128_S2048x128_0_0, (t2At c k0_t1 f2 f3 f4 G12 G13 G14 G15 G16 G17 k).m⟩]) ∗ at_ c arg16 (arg16.view.writes (Elt F) G16 [⟨Rect.unit (s := S2048x128) ![0, 0] S2048x128.size inb_S2048x128_S2048x128_0_0, (t2At c k0_t1 f2 f3 f4 G12 G13 G14 G15 G16 G17 k).l⟩]) ∗ at_ c arg17 (arg17.view.writes (Elt F) G17 [⟨Rect.unit (s := S2048x128) ![0, 0] S2048x128.size inb_S2048x128_S2048x128_0_0, (t2At c k0_t1 f2 f3 f4 G12 G13 G14 G15 G16 G17 k).c⟩])) := by
  unfold t2Inv
  have e12 := slot_same (F := F) harg12 _ (t2B12_read c k0_t1 f2 f3 f4 G12 G13 G14 G15 G16 G17 k)
  have e13 := full_writes (F := F) harg13 G13 _ inb_S2048x256_S2048x256_0_0 (t2B13_read c k0_t1 f2 f3 f4 G12 G13 G14 G15 G16 G17 k)
  have e14 := full_writes (F := F) harg14 G14 _ inb_S2048x128_S2048x128_0_0 (t2B14_read c k0_t1 f2 f3 f4 G12 G13 G14 G15 G16 G17 k)
  have e15 := full_writes (F := F) harg15 G15 _ inb_S2048x128_S2048x128_0_0 (t2B15_read c k0_t1 f2 f3 f4 G12 G13 G14 G15 G16 G17 k)
  have e16 := full_writes (F := F) harg16 G16 _ inb_S2048x128_S2048x128_0_0 (t2B16_read c k0_t1 f2 f3 f4 G12 G13 G14 G15 G16 G17 k)
  have e17 := full_writes (F := F) harg17 G17 _ inb_S2048x128_S2048x128_0_0 (t2B17_read c k0_t1 f2 f3 f4 G12 G13 G14 G15 G16 G17 k)
  rw [← e12, ← e13, ← e14, ← e15, ← e16, ← e17]

theorem t2_step (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (c0_i32 : BitVec 32) (c1_i32 : BitVec 32) (k0_t1 : Fin k0_t1_loop.trips) (v11 : BitVec 32)
    (f2 : BufOf (F := F) c arg2) (f3 : BufOf (F := F) c arg3) (f4 : BufOf (F := F) c arg4) (G12 : BufOf (F := F) c arg12) (G13 : BufOf (F := F) c arg13) (G14 : BufOf (F := F) c arg14) (G15 : BufOf (F := F) c arg15) (G16 : BufOf (F := F) c arg16) (G17 : BufOf (F := F) c arg17) (k : Fin (k0_t2_loop k0_t1).trips) (u : Unit) :
    t2Inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 f2 f3 f4 G12 G13 G14 G15 G16 G17 k.val
    ⊢ wp frame (wpE (defs₀ (F := F)) Variants.none c none) Set.univ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 k u)
      (fun _ => t2Inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 f2 f3 f4 G12 G13 G14 G15 G16 G17 (k.val + 1)) := by
  have hu : u = () := rfl
  subst hu
  refine (t2_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 f2 f3 f4 G12 G13 G14 G15 G16 G17 k.val).trans ?_
  refine (t2_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 k f2 f3 f4 (t2B12 c k0_t1 f2 f3 f4 G12 G13 G14 G15 G16 G17 k.val) G13 G14 G15 G16 G17 (t2At c k0_t1 f2 f3 f4 G12 G13 G14 G15 G16 G17 k.val).w (t2At c k0_t1 f2 f3 f4 G12 G13 G14 G15 G16 G17 k.val).p (t2At c k0_t1 f2 f3 f4 G12 G13 G14 G15 G16 G17 k.val).a (t2At c k0_t1 f2 f3 f4 G12 G13 G14 G15 G16 G17 k.val).m (t2At c k0_t1 f2 f3 f4 G12 G13 G14 G15 G16 G17 k.val).l (t2At c k0_t1 f2 f3 f4 G12 G13 G14 G15 G16 G17 k.val).c).trans ?_
  refine wp_mono _ _ _ fun _ => ?_
  iintro ⟨H2, H3, H4, %g12, %g13, %g14, %g15, %g16, %g17, H12, H13, H14, H15, H16, H17, %e⟩
  obtain ⟨e12, e15, e16, e13, e14, e17⟩ := e
  have hN : t2At c k0_t1 f2 f3 f4 G12 G13 G14 G15 G16 G17 (k.val + 1) = t2Next (qBlock k0_t1 (arg2.view.read (Elt F) f2)) (kBlock k0_t1 k (arg3.view.read (Elt F) f3)) (vBlock k0_t1 k (arg4.view.read (Elt F) f4)) (t2At c k0_t1 f2 f3 f4 G12 G13 G14 G15 G16 G17 k.val) := dif_pos k.isLt
  have d12 : g12 = t2B12 c k0_t1 f2 f3 f4 G12 G13 G14 G15 G16 G17 (k.val + 1) := e12.trans (show t2B12 c k0_t1 f2 f3 f4 G12 G13 G14 G15 G16 G17 (k.val + 1) = _ from dif_pos k.isLt).symm
  have d13 : g13 = t2B13 c k0_t1 f2 f3 f4 G12 G13 G14 G15 G16 G17 (k.val + 1) :=
    full_writes (F := F) harg13 G13 g13 inb_S2048x256_S2048x256_0_0 (e13.trans (congrArg Sc.p hN.symm))
  have d14 : g14 = t2B14 c k0_t1 f2 f3 f4 G12 G13 G14 G15 G16 G17 (k.val + 1) :=
    full_writes (F := F) harg14 G14 g14 inb_S2048x128_S2048x128_0_0 (e14.trans (congrArg Sc.a hN.symm))
  have d15 : g15 = t2B15 c k0_t1 f2 f3 f4 G12 G13 G14 G15 G16 G17 (k.val + 1) :=
    full_writes (F := F) harg15 G15 g15 inb_S2048x128_S2048x128_0_0 (e15.trans (congrArg Sc.m hN.symm))
  have d16 : g16 = t2B16 c k0_t1 f2 f3 f4 G12 G13 G14 G15 G16 G17 (k.val + 1) :=
    full_writes (F := F) harg16 G16 g16 inb_S2048x128_S2048x128_0_0 (e16.trans (congrArg Sc.l hN.symm))
  have d17 : g17 = t2B17 c k0_t1 f2 f3 f4 G12 G13 G14 G15 G16 G17 (k.val + 1) :=
    full_writes (F := F) harg17 G17 g17 inb_S2048x128_S2048x128_0_0 (e17.trans (congrArg Sc.c hN.symm))
  unfold t2Inv
  rw [← d12, ← d13, ← d14, ← d15, ← d16, ← d17]
  isplitl [H2]; · iexact H2
  isplitl [H3]; · iexact H3
  isplitl [H4]; · iexact H4
  isplitl [H12]; · iexact H12
  isplitl [H13]; · iexact H13
  isplitl [H14]; · iexact H14
  isplitl [H15]; · iexact H15
  isplitl [H16]; · iexact H16
  iexact H17

/-- The invariant of the loop over earlier blocks of keys. -/
@[sl_loop, instance_reducible] def loopInv_k0_t2 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (c0_i32 : BitVec 32) (c1_i32 : BitVec 32) (k0_t1 : Fin k0_t1_loop.trips) (v11 : BitVec 32)
    (f2 : BufOf (F := F) c arg2) (f3 : BufOf (F := F) c arg3) (f4 : BufOf (F := F) c arg4) (G12 : BufOf (F := F) c arg12) (G13 : BufOf (F := F) c arg13) (G14 : BufOf (F := F) c arg14) (G15 : BufOf (F := F) c arg15) (G16 : BufOf (F := F) c arg16) (G17 : BufOf (F := F) c arg17) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 where
  inv := fun k _ => t2Inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 f2 f3 f4 G12 G13 G14 G15 G16 G17 k
  step k u := by
    have h := t2_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 f2 f3 f4 G12 G13 G14 G15 G16 G17 k u
    convert h using 2

instance exit_k0_t2 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (c0_i32 : BitVec 32) (c1_i32 : BitVec 32) (k0_t1 : Fin k0_t1_loop.trips) (v11 : BitVec 32)
    (f2 : BufOf (F := F) c arg2) (f3 : BufOf (F := F) c arg3) (f4 : BufOf (F := F) c arg4) (G12 : BufOf (F := F) c arg12) (G13 : BufOf (F := F) c arg13) (G14 : BufOf (F := F) c arg14) (G15 : BufOf (F := F) c arg15) (G16 : BufOf (F := F) c arg16) (G17 : BufOf (F := F) c arg17) :
    LoopExit (loopInv_k0_t2 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 f2 f3 f4 G12 G13 G14 G15 G16 G17) where
  post _ := iprop(at_ c arg2 f2 ∗ at_ c arg3 f3 ∗ at_ c arg4 f4 ∗ at_ c arg12 (arg12.view.writes (Elt F) (t2B12 c k0_t1 f2 f3 f4 G12 G13 G14 G15 G16 G17 (k0_t2_loop k0_t1).trips) [⟨Rect.unit (s := S2x2048x256) ![0, 0, 0] S1x2048x256.size inb_S2x2048x256_S1x2048x256_0_0_0, (t2At c k0_t1 f2 f3 f4 G12 G13 G14 G15 G16 G17 (k0_t2_loop k0_t1).trips).w⟩]) ∗ at_ c arg13 (arg13.view.writes (Elt F) G13 [⟨Rect.unit (s := S2048x256) ![0, 0] S2048x256.size inb_S2048x256_S2048x256_0_0, (t2At c k0_t1 f2 f3 f4 G12 G13 G14 G15 G16 G17 (k0_t2_loop k0_t1).trips).p⟩]) ∗ at_ c arg14 (arg14.view.writes (Elt F) G14 [⟨Rect.unit (s := S2048x128) ![0, 0] S2048x128.size inb_S2048x128_S2048x128_0_0, (t2At c k0_t1 f2 f3 f4 G12 G13 G14 G15 G16 G17 (k0_t2_loop k0_t1).trips).a⟩]) ∗ at_ c arg15 (arg15.view.writes (Elt F) G15 [⟨Rect.unit (s := S2048x128) ![0, 0] S2048x128.size inb_S2048x128_S2048x128_0_0, (t2At c k0_t1 f2 f3 f4 G12 G13 G14 G15 G16 G17 (k0_t2_loop k0_t1).trips).m⟩]) ∗ at_ c arg16 (arg16.view.writes (Elt F) G16 [⟨Rect.unit (s := S2048x128) ![0, 0] S2048x128.size inb_S2048x128_S2048x128_0_0, (t2At c k0_t1 f2 f3 f4 G12 G13 G14 G15 G16 G17 (k0_t2_loop k0_t1).trips).l⟩]) ∗ at_ c arg17 (arg17.view.writes (Elt F) G17 [⟨Rect.unit (s := S2048x128) ![0, 0] S2048x128.size inb_S2048x128_S2048x128_0_0, (t2At c k0_t1 f2 f3 f4 G12 G13 G14 G15 G16 G17 (k0_t2_loop k0_t1).trips).c⟩]))
  exit _ := t2_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 f2 f3 f4 G12 G13 G14 G15 G16 G17 (k0_t2_loop k0_t1).trips

theorem t3_trips (t1 : Fin k0_t1_loop.trips) : (k0_t3_loop t1).trips = 0 := by
  revert t1; decide

/-- The remainder of that loop, which has no trip. -/
@[sl_loop, instance_reducible] def loopInv_k0_t3 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (c0_i32 : BitVec 32) (c1_i32 : BitVec 32) (k0_t1 : Fin k0_t1_loop.trips) (v11 : BitVec 32) (v35 : BitVec 32) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32 c1_i32 k0_t1 v11 v35 where
  inv := fun _ _ => iprop(emp)
  step := fun k _ => absurd k.isLt (by have h := t3_trips k0_t1; show ¬ k.val < (k0_t3_loop k0_t1).trips; omega)

end Cert.Kernel2Ideal.Hand
-- ==== Proof.AttT1.lean ====
module

public import proofs.«01_k».proof.Proof.AttInv

@[expose] public section

set_option maxRecDepth 16384

noncomputable section

/-! One trip of the attention's outer loop: after the loop over earlier blocks of keys come the blocks on the diagonal, masked
where a key's chunk is after the query's. -/

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

/-! ## The mask -/

/-- A position's number, from the constant `K` on along axis `d`, divided by the length of a chunk. -/
def chunkOf (v : IVec S64x256 32) : IVec S64x256 32 :=
  select (andi (cmpi .ne (subi (extui 32 (cmpi .sgt v (broadcast S64x256 0#32)) natLt_1_32) (extui 32 (cmpi .slt v (broadcast S64x256 0#32)) natLt_1_32))
      (broadcast S64x256 (Scalar.subi (Scalar.extui (Scalar.cmpi .sgt 64#32 0#32)) (Scalar.extui (Scalar.cmpi .slt 64#32 0#32)))))
    (cmpi .ne (remsi v (broadcast S64x256 64#32)) (broadcast S64x256 0#32)))
    (subi (divsi v (broadcast S64x256 64#32)) (broadcast S64x256 1#32)) (divsi v (broadcast S64x256 64#32))
/-- The mask of a group of 64 queries from number `R` on against 256 keys from number `C` on. -/
def maskC (R C : BitVec 32) : IVec S64x256 1 :=
  cmpi .sle (chunkOf (addi (broadcast S64x256 C) (iota .tc S64x256 32 [1] iota_S64x256_d1_w32)))
    (chunkOf (addi (broadcast S64x256 R) (iota .tc S64x256 32 [0] iota_S64x256_d0_w32)))
/-- Scores with the masked ones replaced by minus infinity. -/
def maskW (R C : BitVec 32) (s : FVec F S64x256 .f32) : FVec F S64x256 .f32 :=
  select (maskC R C) s (broadcast S64x256 (Scalar.ofBits .f32 0xFF800000#32))
/-- The first three groups of a diagonal block are masked. -/
def grpMask (C R1 R2 : BitVec 32) (g : ℕ → FVec F S64x256 .f32) : ℕ → FVec F S64x256 .f32
  | 0 => maskW C C (g 0)
  | 1 => maskW R1 C (g 1)
  | 2 => maskW R2 C (g 2)
  | n + 3 => g (n + 3)

/-! ## The blocks on the diagonal -/

def dk (t1 : Fin k0_t1_loop.trips) (x : Vec F S4096x256 .bf16) (r : Fin 7) : Vec F S256x256 .bf16 :=
  fun y => x ((Rect.unit (s := S4096x256) (k0_off9 t1 (BitVec.ofNat 32 (256 + 256 * r.val))) S256x256.size (k0_off9_inb t1 r)).toLoadRect.idx y)
def dv (t1 : Fin k0_t1_loop.trips) (x : Vec F S4096x128 .bf16) (r : Fin 8) : Vec F S256x128 .bf16 :=
  fun y => x ((Rect.unit (s := S4096x128) (k0_off10 t1 (BitVec.ofNat 32 (256 * r.val))) S256x128.size (k0_off10_inb t1 r)).toLoadRect.idx y)
def dq1 (t1 : Fin k0_t1_loop.trips) (x : Vec F S4096x256 .bf16) : Vec F S1792x256 .bf16 :=
  fun y => x ((Rect.unit (s := S4096x256) (k0_off8 t1) S1792x256.size (k0_off8_inb t1)).toLoadRect.idx y)
def dS1 (t1 : Fin k0_t1_loop.trips) (x2 x3 : Vec F S4096x256 .bf16) : Vec F S1x1792x256 .f32 :=
  shapeCast S1x1792x256 (matmul dot_S1792x256_S256x256_S1792x256_1_1_0_0_n_n none (dq1 t1 x2) (dk t1 x3 0) (constant S1792x256 .f32 0x00000000#32)) shapeCasts_S1792x256_S1x1792x256
def dq2 (t1 : Fin k0_t1_loop.trips) (x : Vec F S4096x256 .bf16) : Vec F S1536x256 .bf16 :=
  fun y => x ((Rect.unit (s := S4096x256) (k0_off11 t1) S1536x256.size (k0_off11_inb t1)).toLoadRect.idx y)
def dS2 (t1 : Fin k0_t1_loop.trips) (x2 x3 : Vec F S4096x256 .bf16) : Vec F S1x1536x256 .f32 :=
  shapeCast S1x1536x256 (matmul dot_S1536x256_S256x256_S1536x256_1_1_0_0_n_n none (dq2 t1 x2) (dk t1 x3 1) (constant S1536x256 .f32 0x00000000#32)) shapeCasts_S1536x256_S1x1536x256
def dq3 (t1 : Fin k0_t1_loop.trips) (x : Vec F S4096x256 .bf16) : Vec F S1280x256 .bf16 :=
  fun y => x ((Rect.unit (s := S4096x256) (k0_off12 t1) S1280x256.size (k0_off12_inb t1)).toLoadRect.idx y)
def dS3 (t1 : Fin k0_t1_loop.trips) (x2 x3 : Vec F S4096x256 .bf16) : Vec F S1x1280x256 .f32 :=
  shapeCast S1x1280x256 (matmul dot_S1280x256_S256x256_S1280x256_1_1_0_0_n_n none (dq3 t1 x2) (dk t1 x3 2) (constant S1280x256 .f32 0x00000000#32)) shapeCasts_S1280x256_S1x1280x256
def dq4 (t1 : Fin k0_t1_loop.trips) (x : Vec F S4096x256 .bf16) : Vec F S1024x256 .bf16 :=
  fun y => x ((Rect.unit (s := S4096x256) (k0_off13 t1) S1024x256.size (k0_off13_inb t1)).toLoadRect.idx y)
def dS4 (t1 : Fin k0_t1_loop.trips) (x2 x3 : Vec F S4096x256 .bf16) : Vec F S1x1024x256 .f32 :=
  shapeCast S1x1024x256 (matmul dot_S1024x256_S256x256_S1024x256_1_1_0_0_n_n none (dq4 t1 x2) (dk t1 x3 3) (constant S1024x256 .f32 0x00000000#32)) shapeCasts_S1024x256_S1x1024x256
def dq5 (t1 : Fin k0_t1_loop.trips) (x : Vec F S4096x256 .bf16) : Vec F S768x256 .bf16 :=
  fun y => x ((Rect.unit (s := S4096x256) (k0_off14 t1) S768x256.size (k0_off14_inb t1)).toLoadRect.idx y)
def dS5 (t1 : Fin k0_t1_loop.trips) (x2 x3 : Vec F S4096x256 .bf16) : Vec F S1x768x256 .f32 :=
  shapeCast S1x768x256 (matmul dot_S768x256_S256x256_S768x256_1_1_0_0_n_n none (dq5 t1 x2) (dk t1 x3 4) (constant S768x256 .f32 0x00000000#32)) shapeCasts_S768x256_S1x768x256
def dq6 (t1 : Fin k0_t1_loop.trips) (x : Vec F S4096x256 .bf16) : Vec F S512x256 .bf16 :=
  fun y => x ((Rect.unit (s := S4096x256) (k0_off15 t1) S512x256.size (k0_off15_inb t1)).toLoadRect.idx y)
def dS6 (t1 : Fin k0_t1_loop.trips) (x2 x3 : Vec F S4096x256 .bf16) : Vec F S1x512x256 .f32 :=
  shapeCast S1x512x256 (matmul dot_S512x256_S256x256_S512x256_1_1_0_0_n_n none (dq6 t1 x2) (dk t1 x3 5) (constant S512x256 .f32 0x00000000#32)) shapeCasts_S512x256_S1x512x256
def dq7 (t1 : Fin k0_t1_loop.trips) (x : Vec F S4096x256 .bf16) : Vec F S256x256 .bf16 :=
  fun y => x ((Rect.unit (s := S4096x256) (k0_off16 t1) S256x256.size (k0_off16_inb t1)).toLoadRect.idx y)
def dS7 (t1 : Fin k0_t1_loop.trips) (x2 x3 : Vec F S4096x256 .bf16) : Vec F S1x256x256 .f32 :=
  shapeCast S1x256x256 (matmul dot_S256x256_S256x256_S256x256_1_1_0_0_n_n none (dq7 t1 x2) (dk t1 x3 6) (constant S256x256 .f32 0x00000000#32)) shapeCasts_S256x256_S1x256x256

/-- The groups of scores of the diagonal's blocks. -/
def dG0 (w : Vec F S1x2048x256 .f32) : ℕ → FVec F S64x256 .f32 := grpMask 0#32 64#32 128#32 (grp w)
def dG1 (t1 : Fin k0_t1_loop.trips) (x2 x3 : Vec F S4096x256 .bf16) : ℕ → FVec F S64x256 .f32 :=
  grpMask 256#32 320#32 384#32 (fun n => flat (slotRows (by decide : 0 < 1792) (dS1 t1 x2 x3) n))
def dG2 (t1 : Fin k0_t1_loop.trips) (x2 x3 : Vec F S4096x256 .bf16) : ℕ → FVec F S64x256 .f32 :=
  grpMask 512#32 576#32 640#32 (fun n => flat (slotRows (by decide : 0 < 1536) (dS2 t1 x2 x3) n))
def dG3 (t1 : Fin k0_t1_loop.trips) (x2 x3 : Vec F S4096x256 .bf16) : ℕ → FVec F S64x256 .f32 :=
  grpMask 768#32 832#32 896#32 (fun n => flat (slotRows (by decide : 0 < 1280) (dS3 t1 x2 x3) n))
def dG4 (t1 : Fin k0_t1_loop.trips) (x2 x3 : Vec F S4096x256 .bf16) : ℕ → FVec F S64x256 .f32 :=
  grpMask 1024#32 1088#32 1152#32 (fun n => flat (slotRows (by decide : 0 < 1024) (dS4 t1 x2 x3) n))
def dG5 (t1 : Fin k0_t1_loop.trips) (x2 x3 : Vec F S4096x256 .bf16) : ℕ → FVec F S64x256 .f32 :=
  grpMask 1280#32 1344#32 1408#32 (fun n => flat (slotRows (by decide : 0 < 768) (dS5 t1 x2 x3) n))
def dG6 (t1 : Fin k0_t1_loop.trips) (x2 x3 : Vec F S4096x256 .bf16) : ℕ → FVec F S64x256 .f32 :=
  grpMask 1536#32 1600#32 1664#32 (fun n => flat (slotRows (by decide : 0 < 512) (dS6 t1 x2 x3) n))
def dG7 (t1 : Fin k0_t1_loop.trips) (x2 x3 : Vec F S4096x256 .bf16) : ℕ → FVec F S64x256 .f32 :=
  grpMask 1792#32 1856#32 1920#32 (fun n => flat (slotRows (by decide : 0 < 256) (dS7 t1 x2 x3) n))

/-- A diagonal block's update of the rows from `b` on: `n` groups of 64 rows, then `m` of 512 or of 256. -/
def dStep512 (b n m : ℕ) (g : ℕ → FVec F S64x256 .f32) (V : Vec F S256x128 .bf16) (s : Sc F) : Sc F where
  w := s.w
  p := newP b n g s.m s.p
  a := newA b n g s.m s.a
  m := newM b n g s.m
  l := newL b n g s.m s.l
  c := new512 b m V (newP b n g s.m s.p) (newA b n g s.m s.a) s.c
def dStep256 (b n m : ℕ) (g : ℕ → FVec F S64x256 .f32) (V : Vec F S256x128 .bf16) (s : Sc F) : Sc F where
  w := s.w
  p := newP b n g s.m s.p
  a := newA b n g s.m s.a
  m := newM b n g s.m
  l := newL b n g s.m s.l
  c := new256 b m V (newP b n g s.m s.p) (newA b n g s.m s.a) s.c

def dSt1 (t1 : Fin k0_t1_loop.trips) (x2 x3 : Vec F S4096x256 .bf16) (x4 : Vec F S4096x128 .bf16) (s : Sc F) : Sc F := dStep512 0 32 4 (dG0 s.w) (dv t1 x4 0) s
def dSt2 (t1 : Fin k0_t1_loop.trips) (x2 x3 : Vec F S4096x256 .bf16) (x4 : Vec F S4096x128 .bf16) (s : Sc F) : Sc F := dStep256 256 28 7 (dG1 t1 x2 x3) (dv t1 x4 1) (dSt1 t1 x2 x3 x4 s)
def dSt3 (t1 : Fin k0_t1_loop.trips) (x2 x3 : Vec F S4096x256 .bf16) (x4 : Vec F S4096x128 .bf16) (s : Sc F) : Sc F := dStep512 512 24 3 (dG2 t1 x2 x3) (dv t1 x4 2) (dSt2 t1 x2 x3 x4 s)
def dSt4 (t1 : Fin k0_t1_loop.trips) (x2 x3 : Vec F S4096x256 .bf16) (x4 : Vec F S4096x128 .bf16) (s : Sc F) : Sc F := dStep256 768 20 5 (dG3 t1 x2 x3) (dv t1 x4 3) (dSt3 t1 x2 x3 x4 s)
def dSt5 (t1 : Fin k0_t1_loop.trips) (x2 x3 : Vec F S4096x256 .bf16) (x4 : Vec F S4096x128 .bf16) (s : Sc F) : Sc F := dStep512 1024 16 2 (dG4 t1 x2 x3) (dv t1 x4 4) (dSt4 t1 x2 x3 x4 s)
def dSt6 (t1 : Fin k0_t1_loop.trips) (x2 x3 : Vec F S4096x256 .bf16) (x4 : Vec F S4096x128 .bf16) (s : Sc F) : Sc F := dStep256 1280 12 3 (dG5 t1 x2 x3) (dv t1 x4 5) (dSt5 t1 x2 x3 x4 s)
def dSt7 (t1 : Fin k0_t1_loop.trips) (x2 x3 : Vec F S4096x256 .bf16) (x4 : Vec F S4096x128 .bf16) (s : Sc F) : Sc F := dStep512 1536 8 1 (dG6 t1 x2 x3) (dv t1 x4 6) (dSt6 t1 x2 x3 x4 s)
def dSt8 (t1 : Fin k0_t1_loop.trips) (x2 x3 : Vec F S4096x256 .bf16) (x4 : Vec F S4096x128 .bf16) (s : Sc F) : Sc F := dStep256 1792 4 1 (dG7 t1 x2 x3) (dv t1 x4 7) (dSt7 t1 x2 x3 x4 s)

/-- The trip's tile of results. -/
def oTile (t1 : Fin k0_t1_loop.trips) (x2 x3 : Vec F S4096x256 .bf16) (x4 : Vec F S4096x128 .bf16) (s : Sc F) : FVec F S2048x128 .bf16 :=
  k0_pay4 (k0_pay5786 (dSt8 t1 x2 x3 x4 s).l) (dSt8 t1 x2 x3 x4 s).c

/-- What the scratch buffers hold before the trip's first block of keys. -/
def sInit (t1 : Fin k0_t1_loop.trips) (x2 x3 : Vec F S4096x256 .bf16) (p : Vec F S2048x256 .bf16) (a : Vec F S2048x128 .f32) : Sc F where
  w := k0_pay4414 (fun y => x2 ((Rect.unit (s := S4096x256) (k0_off1 t1) S2048x256.size (k0_off1_inb t1)).toLoadRect.idx y))
    (fun y => x3 ((Rect.unit (s := S4096x256) ![0, 0] S256x256.size inb_S4096x256_S256x256_0_0).toLoadRect.idx y))
  p := p
  a := a
  m := k0_pay4411
  l := k0_pay4412
  c := k0_pay4413

section Chain
variable {LM LL : List (View.Piece (Elt F) S2048x128 .f32)} {LP : List (View.Piece (Elt F) S2048x256 .bf16)} {LA LC : List (View.Piece (Elt F) S2048x128 .f32)}
theorem St.diag512 (b n m : ℕ) {g : ℕ → FVec F S64x256 .f32} {V : Vec F S256x128 .bf16} {s : Sc F}
    (h : St LM LL LP LA LC (newM b n g s.m) (newL b n g s.m s.l) (newP b n g s.m s.p) (newA b n g s.m s.a)
      (new512 b m V (newP b n g s.m s.p) (newA b n g s.m s.a) s.c)) :
    St LM LL LP LA LC (dStep512 b n m g V s).m (dStep512 b n m g V s).l (dStep512 b n m g V s).p (dStep512 b n m g V s).a (dStep512 b n m g V s).c := h
theorem St.diag256 (b n m : ℕ) {g : ℕ → FVec F S64x256 .f32} {V : Vec F S256x128 .bf16} {s : Sc F}
    (h : St LM LL LP LA LC (newM b n g s.m) (newL b n g s.m s.l) (newP b n g s.m s.p) (newA b n g s.m s.a)
      (new256 b m V (newP b n g s.m s.p) (newA b n g s.m s.a) s.c)) :
    St LM LL LP LA LC (dStep256 b n m g V s).m (dStep256 b n m g V s).l (dStep256 b n m g V s).p (dStep256 b n m g V s).a (dStep256 b n m g V s).c := h

theorem rowsOf_all {α : Type} {N D : ℕ} (hN : 0 < N) (X : (⟨2, ![N, D]⟩ : Shape).Idx → α) : rowsOf N hN X 0 = X := by
  funext z
  unfold rowsOf
  refine congrArg X ?_
  have hz : (z 0).val < N := (z 0).isLt
  funext a
  apply Fin.ext
  match a with
  | ⟨0, _⟩ => show (0 + (z 0).val) % N = (z 0).val; rw [Nat.zero_add, Nat.mod_eq_of_lt hz]
  | ⟨1, _⟩ => rfl

/-- What the chain of stores leaves, and the tile read off it. -/
theorem St.out {t1 : Fin k0_t1_loop.trips} {x2 x3 : Vec F S4096x256 .bf16} {x4 : Vec F S4096x128 .bf16} {s : Sc F}
    {vM vL vA vC vL' vC' : View sig .tc .vmem S2048x128 .f32} {vP : View sig .tc .vmem S2048x256 .bf16}
    (fM : vM.ty.Contents (Elt F)) (fL : vL.ty.Contents (Elt F)) (fP : vP.ty.Contents (Elt F)) (fA : vA.ty.Contents (Elt F)) (fC : vC.ty.Contents (Elt F))
    {v8 : View sig .tc .vmem S4096x128 .bf16} {f8 : v8.ty.Contents (Elt F)}
    (h : St LM LL LP LA LC (dSt8 t1 x2 x3 x4 s).m (dSt8 t1 x2 x3 x4 s).l (dSt8 t1 x2 x3 x4 s).p (dSt8 t1 x2 x3 x4 s).a (dSt8 t1 x2 x3 x4 s).c) :
    (vM.read (Elt F) (vM.writes (Elt F) fM LM) = (dSt8 t1 x2 x3 x4 s).m ∧ vL.read (Elt F) (vL.writes (Elt F) fL LL) = (dSt8 t1 x2 x3 x4 s).l
      ∧ vP.read (Elt F) (vP.writes (Elt F) fP LP) = (dSt8 t1 x2 x3 x4 s).p
      ∧ vA.read (Elt F) (vA.writes (Elt F) fA LA) = (dSt8 t1 x2 x3 x4 s).a ∧ vC.read (Elt F) (vC.writes (Elt F) fC LC) = (dSt8 t1 x2 x3 x4 s).c)
    ∧ v8.writes (Elt F) f8 [⟨Rect.unit (s := S4096x128) (k0_off17 t1) S2048x128.size (k0_off17_inb t1),
        k0_pay4 (k0_pay5786 (vL'.readCov LL (Rect.unit (s := S2048x128) ![0, 0] S2048x128.size inb_S2048x128_S2048x128_0_0).toLoadRect))
          (vC'.readCov LC (Rect.unit (s := S2048x128) ![0, 0] S2048x128.size inb_S2048x128_S2048x128_0_0).toLoadRect)⟩]
      = v8.writes (Elt F) f8 [⟨Rect.unit (s := S4096x128) (k0_off17 t1) S2048x128.size (k0_off17_inb t1), oTile t1 x2 x3 x4 s⟩] := by
  refine ⟨St.reads fM fL fP fA fC h, ?_⟩
  have eL := has_read h.l vL' (W := 2048) (o := 0) (by decide) inb_S2048x128_S2048x128_0_0 rfl
  have eC := has_read h.c vC' (W := 2048) (o := 0) (by decide) inb_S2048x128_S2048x128_0_0 rfl
  rw [rowsOf_all] at eL eC
  exact congrArg (fun w => v8.writes (Elt F) f8 [⟨Rect.unit (s := S4096x128) (k0_off17 t1) S2048x128.size (k0_off17_inb t1), w⟩])
    (congrArg₂ (fun a b => k0_pay4 (k0_pay5786 a) b) eL eC)
end Chain

theorem sc_init (c : Dev nD)
  {arg12 : Memref sig .tc .vmem S2x2048x256 .f32} {arg13 : Memref sig .tc .vmem S2048x256 .bf16} {arg14 : Memref sig .tc .vmem S2048x128 .f32} {arg15 : Memref sig .tc .vmem S2048x128 .f32} {arg16 : Memref sig .tc .vmem S2048x128 .f32} {arg17 : Memref sig .tc .vmem S2048x128 .f32}
    (t1 : Fin k0_t1_loop.trips) {x2 x3 : Vec F S4096x256 .bf16} (G12 : BufOf (F := F) c arg12) (G13 : BufOf (F := F) c arg13) (G14 : BufOf (F := F) c arg14)
    (G15 : BufOf (F := F) c arg15) (G16 : BufOf (F := F) c arg16) (G17 : BufOf (F := F) c arg17)
    (h12 : slot0 (arg12.view.read (Elt F) G12) = k0_pay4414 (fun y => x2 ((Rect.unit (s := S4096x256) (k0_off1 t1) S2048x256.size (k0_off1_inb t1)).toLoadRect.idx y))
      (fun y => x3 ((Rect.unit (s := S4096x256) ![0, 0] S256x256.size inb_S4096x256_S256x256_0_0).toLoadRect.idx y)))
    (h15 : arg15.view.read (Elt F) G15 = k0_pay4411) (h16 : arg16.view.read (Elt F) G16 = k0_pay4412) (h17 : arg17.view.read (Elt F) G17 = k0_pay4413) :
    scOf c G12 G13 G14 G15 G16 G17 = sInit t1 x2 x3 (arg13.view.read (Elt F) G13) (arg14.view.read (Elt F) G14) := by
  unfold scOf sInit
  rw [h12, h15, h16, h17]

attribute [local irreducible] shapeCast truncf exp2 subf addf mulf maximumf multiReduction broadcastTo concatenate extractStridedSlice

set_option maxHeartbeats 400000000 in
theorem t1_run (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (k0_t1 : Fin k0_t1_loop.trips) (u : Unit)
   (f2 : BufOf (F := F) c arg2) (f3 : BufOf (F := F) c arg3) (f4 : BufOf (F := F) c arg4) (f8 : BufOf (F := F) c arg8) (f12 : BufOf (F := F) c arg12) (f13 : BufOf (F := F) c arg13) (f14 : BufOf (F := F) c arg14) (f15 : BufOf (F := F) c arg15) (f16 : BufOf (F := F) c arg16) (f17 : BufOf (F := F) c arg17) :
    iprop(at_ c arg2 f2 ∗ at_ c arg3 f3 ∗ at_ c arg4 f4 ∗ at_ c arg8 f8 ∗ at_ c arg12 f12 ∗ at_ c arg13 f13 ∗ at_ c arg14 f14 ∗ at_ c arg15 f15 ∗ at_ c arg16 f16 ∗ at_ c arg17 f17)
    ⊢ wp frame (wpE (defs₀ (F := F)) Variants.none c none) Set.univ
       (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 u) (fun _ => iprop(at_ c arg2 f2 ∗ at_ c arg3 f3 ∗ at_ c arg4 f4 ∗ ∃ g8 g12 g13 g14 g15 g16 g17, at_ c arg8 g8 ∗ at_ c arg12 g12 ∗ at_ c arg13 g13 ∗ at_ c arg14 g14 ∗ at_ c arg15 g15 ∗ at_ c arg16 g16 ∗ at_ c arg17 g17 ∗
          ⌜∃ S : Sc F, ((arg15.view.read (Elt F) g15 = (dSt8 k0_t1 (arg2.view.read (Elt F) f2) (arg3.view.read (Elt F) f3) (arg4.view.read (Elt F) f4) S).m ∧ arg16.view.read (Elt F) g16 = (dSt8 k0_t1 (arg2.view.read (Elt F) f2) (arg3.view.read (Elt F) f3) (arg4.view.read (Elt F) f4) S).l
            ∧ arg13.view.read (Elt F) g13 = (dSt8 k0_t1 (arg2.view.read (Elt F) f2) (arg3.view.read (Elt F) f3) (arg4.view.read (Elt F) f4) S).p ∧ arg14.view.read (Elt F) g14 = (dSt8 k0_t1 (arg2.view.read (Elt F) f2) (arg3.view.read (Elt F) f3) (arg4.view.read (Elt F) f4) S).a ∧ arg17.view.read (Elt F) g17 = (dSt8 k0_t1 (arg2.view.read (Elt F) f2) (arg3.view.read (Elt F) f3) (arg4.view.read (Elt F) f4) S).c)
            ∧ g8 = arg8.view.writes (Elt F) f8 [⟨Rect.unit (s := S4096x128) (k0_off17 k0_t1) S2048x128.size (k0_off17_inb k0_t1), oTile k0_t1 (arg2.view.read (Elt F) f2) (arg3.view.read (Elt F) f3) (arg4.view.read (Elt F) f4) S⟩])
            ∧ S = t2St k0_t1 (arg2.view.read (Elt F) f2) (arg3.view.read (Elt F) f3) (arg4.view.read (Elt F) f4) (sInit k0_t1 (arg2.view.read (Elt F) f2) (arg3.view.read (Elt F) f3) (arg13.view.read (Elt F) f13) (arg14.view.read (Elt F) f14)) (k0_t2_loop k0_t1).trips⌝)) := by
  unfold k0_t1_body
  iintro ⟨H2, H3, H4, H8, H12, H13, H14, H15, H16, H17⟩
  sl_exec_parts
  sl_step
  isplitl [H2]; · iexact H2
  isplitl [H3]; · iexact H3
  isplitl [H4]; · iexact H4
  iexists _, _, _, _, _, _, _
  isplitl [H8]; · iexact H8
  isplitl [H12]; · iexact H12
  isplitl [H13]; · iexact H13
  isplitl [H14]; · iexact H14
  isplitl [H15]; · iexact H15
  isplitl [H16]; · iexact H16
  isplitl [H17]; · iexact H17
  ipureintro
  refine ⟨t2At c k0_t1 f2 f3 f4 (arg12.view.writes (Elt F) f12 [⟨Rect.unit (s := S2x2048x256) ![0, 0, 0] S1x2048x256.size inb_S2x2048x256_S1x2048x256_0_0_0,
        k0_pay4414 (fun y => arg2.view.read (Elt F) f2 ((Rect.unit (s := S4096x256) (k0_off1 k0_t1) S2048x256.size (k0_off1_inb k0_t1)).toLoadRect.idx y))
          (fun y => arg3.view.read (Elt F) f3 ((Rect.unit (s := S4096x256) ![0, 0] S256x256.size inb_S4096x256_S256x256_0_0).toLoadRect.idx y))⟩]) f13 f14
      (arg15.view.writes (Elt F) arg15.view.junk [⟨Rect.unit (s := S2048x128) ![0, 0] S2048x128.size inb_S2048x128_S2048x128_0_0, k0_pay4411⟩])
      (arg16.view.writes (Elt F) arg16.view.junk [⟨Rect.unit (s := S2048x128) ![0, 0] S2048x128.size inb_S2048x128_S2048x128_0_0, k0_pay4412⟩])
      (arg17.view.writes (Elt F) arg17.view.junk [⟨Rect.unit (s := S2048x128) ![0, 0] S2048x128.size inb_S2048x128_S2048x128_0_0, k0_pay4413⟩])
      (k0_t2_loop k0_t1).trips, ?_, ?_⟩
  · refine St.out _ _ _ _ _ ?_
    refine St.diag256 (F := F) 1792 4 1 ?_
    refine St.acc256 (F := F) (b := 1792) (n := 0) ?_ (by rfl) _ _ (by rfl)
    refine St.start256 ?_
    refine St.group (F := F) (b := 1792) (n := 3) ?_ (by rfl) _ _ (congrArg flat (slot_here (by decide) _ _ _ 1 3 (by rfl) (by rfl) (by decide) _ _))
    refine St.group (F := F) (b := 1792) (n := 2) ?_ (by rfl) _ _ (congrArg (maskW 1920#32 1792#32) (congrArg flat (slot_here (by decide) _ _ _ 1 2 (by rfl) (by rfl) (by decide) _ _)))
    refine St.group (F := F) (b := 1792) (n := 1) ?_ (by rfl) _ _ (congrArg (maskW 1856#32 1792#32) (congrArg flat (slot_here (by decide) _ _ _ 1 1 (by rfl) (by rfl) (by decide) _ _)))
    refine St.group (F := F) (b := 1792) (n := 0) ?_ (by rfl) _ _ (congrArg (maskW 1792#32 1792#32) (congrArg flat (slot_here (by decide) _ _ _ 1 0 (by rfl) (by rfl) (by decide) _ _)))
    refine St.start ?_
    refine St.diag512 (F := F) 1536 8 1 ?_
    refine St.acc512 (F := F) (b := 1536) (n := 0) ?_ (by rfl) _ _ (by rfl)
    refine St.start512 ?_
    refine St.group (F := F) (b := 1536) (n := 7) ?_ (by rfl) _ _ (congrArg flat (slot_read (by decide) 0 1 7 (by rfl) (by rfl) (by rfl) (by decide) (by decide)))
    refine St.group (F := F) (b := 1536) (n := 6) ?_ (by rfl) _ _ (congrArg flat (slot_read (by decide) 0 1 6 (by rfl) (by rfl) (by rfl) (by decide) (by decide)))
    refine St.group (F := F) (b := 1536) (n := 5) ?_ (by rfl) _ _ (congrArg flat (slot_read (by decide) 0 1 5 (by rfl) (by rfl) (by rfl) (by decide) (by decide)))
    refine St.group (F := F) (b := 1536) (n := 4) ?_ (by rfl) _ _ (congrArg flat (slot_read (by decide) 0 1 4 (by rfl) (by rfl) (by rfl) (by decide) (by decide)))
    refine St.group (F := F) (b := 1536) (n := 3) ?_ (by rfl) _ _ (congrArg flat (slot_read (by decide) 0 1 3 (by rfl) (by rfl) (by rfl) (by decide) (by decide)))
    refine St.group (F := F) (b := 1536) (n := 2) ?_ (by rfl) _ _ (congrArg (maskW 1664#32 1536#32) (congrArg flat (slot_read (by decide) 0 1 2 (by rfl) (by rfl) (by rfl) (by decide) (by decide))))
    refine St.group (F := F) (b := 1536) (n := 1) ?_ (by rfl) _ _ (congrArg (maskW 1600#32 1536#32) (congrArg flat (slot_read (by decide) 0 1 1 (by rfl) (by rfl) (by rfl) (by decide) (by decide))))
    refine St.group (F := F) (b := 1536) (n := 0) ?_ (by rfl) _ _ (congrArg (maskW 1536#32 1536#32) (congrArg flat (slot_read (by decide) 0 1 0 (by rfl) (by rfl) (by rfl) (by decide) (by decide))))
    refine St.start ?_
    refine St.diag256 (F := F) 1280 12 3 ?_
    refine St.acc256 (F := F) (b := 1280) (n := 2) ?_ (by rfl) _ _ (by rfl)
    refine St.acc256 (F := F) (b := 1280) (n := 1) ?_ (by rfl) _ _ (by rfl)
    refine St.acc256 (F := F) (b := 1280) (n := 0) ?_ (by rfl) _ _ (by rfl)
    refine St.start256 ?_
    refine St.group (F := F) (b := 1280) (n := 11) ?_ (by rfl) _ _ (congrArg flat (slot_read (by decide) 1 0 11 (by rfl) (by rfl) (by rfl) (by decide) (by decide)))
    refine St.group (F := F) (b := 1280) (n := 10) ?_ (by rfl) _ _ (congrArg flat (slot_read (by decide) 1 0 10 (by rfl) (by rfl) (by rfl) (by decide) (by decide)))
    refine St.group (F := F) (b := 1280) (n := 9) ?_ (by rfl) _ _ (congrArg flat (slot_read (by decide) 1 0 9 (by rfl) (by rfl) (by rfl) (by decide) (by decide)))
    refine St.group (F := F) (b := 1280) (n := 8) ?_ (by rfl) _ _ (congrArg flat (slot_read (by decide) 1 0 8 (by rfl) (by rfl) (by rfl) (by decide) (by decide)))
    refine St.group (F := F) (b := 1280) (n := 7) ?_ (by rfl) _ _ (congrArg flat (slot_read (by decide) 1 0 7 (by rfl) (by rfl) (by rfl) (by decide) (by decide)))
    refine St.group (F := F) (b := 1280) (n := 6) ?_ (by rfl) _ _ (congrArg flat (slot_read (by decide) 1 0 6 (by rfl) (by rfl) (by rfl) (by decide) (by decide)))
    refine St.group (F := F) (b := 1280) (n := 5) ?_ (by rfl) _ _ (congrArg flat (slot_read (by decide) 1 0 5 (by rfl) (by rfl) (by rfl) (by decide) (by decide)))
    refine St.group (F := F) (b := 1280) (n := 4) ?_ (by rfl) _ _ (congrArg flat (slot_read (by decide) 1 0 4 (by rfl) (by rfl) (by rfl) (by decide) (by decide)))
    refine St.group (F := F) (b := 1280) (n := 3) ?_ (by rfl) _ _ (congrArg flat (slot_read (by decide) 1 0 3 (by rfl) (by rfl) (by rfl) (by decide) (by decide)))
    refine St.group (F := F) (b := 1280) (n := 2) ?_ (by rfl) _ _ (congrArg (maskW 1408#32 1280#32) (congrArg flat (slot_read (by decide) 1 0 2 (by rfl) (by rfl) (by rfl) (by decide) (by decide))))
    refine St.group (F := F) (b := 1280) (n := 1) ?_ (by rfl) _ _ (congrArg (maskW 1344#32 1280#32) (congrArg flat (slot_read (by decide) 1 0 1 (by rfl) (by rfl) (by rfl) (by decide) (by decide))))
    refine St.group (F := F) (b := 1280) (n := 0) ?_ (by rfl) _ _ (congrArg (maskW 1280#32 1280#32) (congrArg flat (slot_read (by decide) 1 0 0 (by rfl) (by rfl) (by rfl) (by decide) (by decide))))
    refine St.start ?_
    refine St.diag512 (F := F) 1024 16 2 ?_
    refine St.acc512 (F := F) (b := 1024) (n := 1) ?_ (by rfl) _ _ (by rfl)
    refine St.acc512 (F := F) (b := 1024) (n := 0) ?_ (by rfl) _ _ (by rfl)
    refine St.start512 ?_
    refine St.group (F := F) (b := 1024) (n := 15) ?_ (by rfl) _ _ (congrArg flat (slot_read (by decide) 0 1 15 (by rfl) (by rfl) (by rfl) (by decide) (by decide)))
    refine St.group (F := F) (b := 1024) (n := 14) ?_ (by rfl) _ _ (congrArg flat (slot_read (by decide) 0 1 14 (by rfl) (by rfl) (by rfl) (by decide) (by decide)))
    refine St.group (F := F) (b := 1024) (n := 13) ?_ (by rfl) _ _ (congrArg flat (slot_read (by decide) 0 1 13 (by rfl) (by rfl) (by rfl) (by decide) (by decide)))
    refine St.group (F := F) (b := 1024) (n := 12) ?_ (by rfl) _ _ (congrArg flat (slot_read (by decide) 0 1 12 (by rfl) (by rfl) (by rfl) (by decide) (by decide)))
    refine St.group (F := F) (b := 1024) (n := 11) ?_ (by rfl) _ _ (congrArg flat (slot_read (by decide) 0 1 11 (by rfl) (by rfl) (by rfl) (by decide) (by decide)))
    refine St.group (F := F) (b := 1024) (n := 10) ?_ (by rfl) _ _ (congrArg flat (slot_read (by decide) 0 1 10 (by rfl) (by rfl) (by rfl) (by decide) (by decide)))
    refine St.group (F := F) (b := 1024) (n := 9) ?_ (by rfl) _ _ (congrArg flat (slot_read (by decide) 0 1 9 (by rfl) (by rfl) (by rfl) (by decide) (by decide)))
    refine St.group (F := F) (b := 1024) (n := 8) ?_ (by rfl) _ _ (congrArg flat (slot_read (by decide) 0 1 8 (by rfl) (by rfl) (by rfl) (by decide) (by decide)))
    refine St.group (F := F) (b := 1024) (n := 7) ?_ (by rfl) _ _ (congrArg flat (slot_read (by decide) 0 1 7 (by rfl) (by rfl) (by rfl) (by decide) (by decide)))
    refine St.group (F := F) (b := 1024) (n := 6) ?_ (by rfl) _ _ (congrArg flat (slot_read (by decide) 0 1 6 (by rfl) (by rfl) (by rfl) (by decide) (by decide)))
    refine St.group (F := F) (b := 1024) (n := 5) ?_ (by rfl) _ _ (congrArg flat (slot_read (by decide) 0 1 5 (by rfl) (by rfl) (by rfl) (by decide) (by decide)))
    refine St.group (F := F) (b := 1024) (n := 4) ?_ (by rfl) _ _ (congrArg flat (slot_read (by decide) 0 1 4 (by rfl) (by rfl) (by rfl) (by decide) (by decide)))
    refine St.group (F := F) (b := 1024) (n := 3) ?_ (by rfl) _ _ (congrArg flat (slot_read (by decide) 0 1 3 (by rfl) (by rfl) (by rfl) (by decide) (by decide)))
    refine St.group (F := F) (b := 1024) (n := 2) ?_ (by rfl) _ _ (congrArg (maskW 1152#32 1024#32) (congrArg flat (slot_read (by decide) 0 1 2 (by rfl) (by rfl) (by rfl) (by decide) (by decide))))
    refine St.group (F := F) (b := 1024) (n := 1) ?_ (by rfl) _ _ (congrArg (maskW 1088#32 1024#32) (congrArg flat (slot_read (by decide) 0 1 1 (by rfl) (by rfl) (by rfl) (by decide) (by decide))))
    refine St.group (F := F) (b := 1024) (n := 0) ?_ (by rfl) _ _ (congrArg (maskW 1024#32 1024#32) (congrArg flat (slot_read (by decide) 0 1 0 (by rfl) (by rfl) (by rfl) (by decide) (by decide))))
    refine St.start ?_
    refine St.diag256 (F := F) 768 20 5 ?_
    refine St.acc256 (F := F) (b := 768) (n := 4) ?_ (by rfl) _ _ (by rfl)
    refine St.acc256 (F := F) (b := 768) (n := 3) ?_ (by rfl) _ _ (by rfl)
    refine St.acc256 (F := F) (b := 768) (n := 2) ?_ (by rfl) _ _ (by rfl)
    refine St.acc256 (F := F) (b := 768) (n := 1) ?_ (by rfl) _ _ (by rfl)
    refine St.acc256 (F := F) (b := 768) (n := 0) ?_ (by rfl) _ _ (by rfl)
    refine St.start256 ?_
    refine St.group (F := F) (b := 768) (n := 19) ?_ (by rfl) _ _ (congrArg flat (slot_read (by decide) 1 0 19 (by rfl) (by rfl) (by rfl) (by decide) (by decide)))
    refine St.group (F := F) (b := 768) (n := 18) ?_ (by rfl) _ _ (congrArg flat (slot_read (by decide) 1 0 18 (by rfl) (by rfl) (by rfl) (by decide) (by decide)))
    refine St.group (F := F) (b := 768) (n := 17) ?_ (by rfl) _ _ (congrArg flat (slot_read (by decide) 1 0 17 (by rfl) (by rfl) (by rfl) (by decide) (by decide)))
    refine St.group (F := F) (b := 768) (n := 16) ?_ (by rfl) _ _ (congrArg flat (slot_read (by decide) 1 0 16 (by rfl) (by rfl) (by rfl) (by decide) (by decide)))
    refine St.group (F := F) (b := 768) (n := 15) ?_ (by rfl) _ _ (congrArg flat (slot_read (by decide) 1 0 15 (by rfl) (by rfl) (by rfl) (by decide) (by decide)))
    refine St.group (F := F) (b := 768) (n := 14) ?_ (by rfl) _ _ (congrArg flat (slot_read (by decide) 1 0 14 (by rfl) (by rfl) (by rfl) (by decide) (by decide)))
    refine St.group (F := F) (b := 768) (n := 13) ?_ (by rfl) _ _ (congrArg flat (slot_read (by decide) 1 0 13 (by rfl) (by rfl) (by rfl) (by decide) (by decide)))
    refine St.group (F := F) (b := 768) (n := 12) ?_ (by rfl) _ _ (congrArg flat (slot_read (by decide) 1 0 12 (by rfl) (by rfl) (by rfl) (by decide) (by decide)))
    refine St.group (F := F) (b := 768) (n := 11) ?_ (by rfl) _ _ (congrArg flat (slot_read (by decide) 1 0 11 (by rfl) (by rfl) (by rfl) (by decide) (by decide)))
    refine St.group (F := F) (b := 768) (n := 10) ?_ (by rfl) _ _ (congrArg flat (slot_read (by decide) 1 0 10 (by rfl) (by rfl) (by rfl) (by decide) (by decide)))
    refine St.group (F := F) (b := 768) (n := 9) ?_ (by rfl) _ _ (congrArg flat (slot_read (by decide) 1 0 9 (by rfl) (by rfl) (by rfl) (by decide) (by decide)))
    refine St.group (F := F) (b := 768) (n := 8) ?_ (by rfl) _ _ (congrArg flat (slot_read (by decide) 1 0 8 (by rfl) (by rfl) (by rfl) (by decide) (by decide)))
    refine St.group (F := F) (b := 768) (n := 7) ?_ (by rfl) _ _ (congrArg flat (slot_read (by decide) 1 0 7 (by rfl) (by rfl) (by rfl) (by decide) (by decide)))
    refine St.group (F := F) (b := 768) (n := 6) ?_ (by rfl) _ _ (congrArg flat (slot_read (by decide) 1 0 6 (by rfl) (by rfl) (by rfl) (by decide) (by decide)))
    refine St.group (F := F) (b := 768) (n := 5) ?_ (by rfl) _ _ (congrArg flat (slot_read (by decide) 1 0 5 (by rfl) (by rfl) (by rfl) (by decide) (by decide)))
    refine St.group (F := F) (b := 768) (n := 4) ?_ (by rfl) _ _ (congrArg flat (slot_read (by decide) 1 0 4 (by rfl) (by rfl) (by rfl) (by decide) (by decide)))
    refine St.group (F := F) (b := 768) (n := 3) ?_ (by rfl) _ _ (congrArg flat (slot_read (by decide) 1 0 3 (by rfl) (by rfl) (by rfl) (by decide) (by decide)))
    refine St.group (F := F) (b := 768) (n := 2) ?_ (by rfl) _ _ (congrArg (maskW 896#32 768#32) (congrArg flat (slot_read (by decide) 1 0 2 (by rfl) (by rfl) (by rfl) (by decide) (by decide))))
    refine St.group (F := F) (b := 768) (n := 1) ?_ (by rfl) _ _ (congrArg (maskW 832#32 768#32) (congrArg flat (slot_read (by decide) 1 0 1 (by rfl) (by rfl) (by rfl) (by decide) (by decide))))
    refine St.group (F := F) (b := 768) (n := 0) ?_ (by rfl) _ _ (congrArg (maskW 768#32 768#32) (congrArg flat (slot_read (by decide) 1 0 0 (by rfl) (by rfl) (by rfl) (by decide) (by decide))))
    refine St.start ?_
    refine St.diag512 (F := F) 512 24 3 ?_
    refine St.acc512 (F := F) (b := 512) (n := 2) ?_ (by rfl) _ _ (by rfl)
    refine St.acc512 (F := F) (b := 512) (n := 1) ?_ (by rfl) _ _ (by rfl)
    refine St.acc512 (F := F) (b := 512) (n := 0) ?_ (by rfl) _ _ (by rfl)
    refine St.start512 ?_
    refine St.group (F := F) (b := 512) (n := 23) ?_ (by rfl) _ _ (congrArg flat (slot_read (by decide) 0 1 23 (by rfl) (by rfl) (by rfl) (by decide) (by decide)))
    refine St.group (F := F) (b := 512) (n := 22) ?_ (by rfl) _ _ (congrArg flat (slot_read (by decide) 0 1 22 (by rfl) (by rfl) (by rfl) (by decide) (by decide)))
    refine St.group (F := F) (b := 512) (n := 21) ?_ (by rfl) _ _ (congrArg flat (slot_read (by decide) 0 1 21 (by rfl) (by rfl) (by rfl) (by decide) (by decide)))
    refine St.group (F := F) (b := 512) (n := 20) ?_ (by rfl) _ _ (congrArg flat (slot_read (by decide) 0 1 20 (by rfl) (by rfl) (by rfl) (by decide) (by decide)))
    refine St.group (F := F) (b := 512) (n := 19) ?_ (by rfl) _ _ (congrArg flat (slot_read (by decide) 0 1 19 (by rfl) (by rfl) (by rfl) (by decide) (by decide)))
    refine St.group (F := F) (b := 512) (n := 18) ?_ (by rfl) _ _ (congrArg flat (slot_read (by decide) 0 1 18 (by rfl) (by rfl) (by rfl) (by decide) (by decide)))
    refine St.group (F := F) (b := 512) (n := 17) ?_ (by rfl) _ _ (congrArg flat (slot_read (by decide) 0 1 17 (by rfl) (by rfl) (by rfl) (by decide) (by decide)))
    refine St.group (F := F) (b := 512) (n := 16) ?_ (by rfl) _ _ (congrArg flat (slot_read (by decide) 0 1 16 (by rfl) (by rfl) (by rfl) (by decide) (by decide)))
    refine St.group (F := F) (b := 512) (n := 15) ?_ (by rfl) _ _ (congrArg flat (slot_read (by decide) 0 1 15 (by rfl) (by rfl) (by rfl) (by decide) (by decide)))
    refine St.group (F := F) (b := 512) (n := 14) ?_ (by rfl) _ _ (congrArg flat (slot_read (by decide) 0 1 14 (by rfl) (by rfl) (by rfl) (by decide) (by decide)))
    refine St.group (F := F) (b := 512) (n := 13) ?_ (by rfl) _ _ (congrArg flat (slot_read (by decide) 0 1 13 (by rfl) (by rfl) (by rfl) (by decide) (by decide)))
    refine St.group (F := F) (b := 512) (n := 12) ?_ (by rfl) _ _ (congrArg flat (slot_read (by decide) 0 1 12 (by rfl) (by rfl) (by rfl) (by decide) (by decide)))
    refine St.group (F := F) (b := 512) (n := 11) ?_ (by rfl) _ _ (congrArg flat (slot_read (by decide) 0 1 11 (by rfl) (by rfl) (by rfl) (by decide) (by decide)))
    refine St.group (F := F) (b := 512) (n := 10) ?_ (by rfl) _ _ (congrArg flat (slot_read (by decide) 0 1 10 (by rfl) (by rfl) (by rfl) (by decide) (by decide)))
    refine St.group (F := F) (b := 512) (n := 9) ?_ (by rfl) _ _ (congrArg flat (slot_read (by decide) 0 1 9 (by rfl) (by rfl) (by rfl) (by decide) (by decide)))
    refine St.group (F := F) (b := 512) (n := 8) ?_ (by rfl) _ _ (congrArg flat (slot_read (by decide) 0 1 8 (by rfl) (by rfl) (by rfl) (by decide) (by decide)))
    refine St.group (F := F) (b := 512) (n := 7) ?_ (by rfl) _ _ (congrArg flat (slot_read (by decide) 0 1 7 (by rfl) (by rfl) (by rfl) (by decide) (by decide)))
    refine St.group (F := F) (b := 512) (n := 6) ?_ (by rfl) _ _ (congrArg flat (slot_read (by decide) 0 1 6 (by rfl) (by rfl) (by rfl) (by decide) (by decide)))
    refine St.group (F := F) (b := 512) (n := 5) ?_ (by rfl) _ _ (congrArg flat (slot_read (by decide) 0 1 5 (by rfl) (by rfl) (by rfl) (by decide) (by decide)))
    refine St.group (F := F) (b := 512) (n := 4) ?_ (by rfl) _ _ (congrArg flat (slot_read (by decide) 0 1 4 (by rfl) (by rfl) (by rfl) (by decide) (by decide)))
    refine St.group (F := F) (b := 512) (n := 3) ?_ (by rfl) _ _ (congrArg flat (slot_read (by decide) 0 1 3 (by rfl) (by rfl) (by rfl) (by decide) (by decide)))
    refine St.group (F := F) (b := 512) (n := 2) ?_ (by rfl) _ _ (congrArg (maskW 640#32 512#32) (congrArg flat (slot_read (by decide) 0 1 2 (by rfl) (by rfl) (by rfl) (by decide) (by decide))))
    refine St.group (F := F) (b := 512) (n := 1) ?_ (by rfl) _ _ (congrArg (maskW 576#32 512#32) (congrArg flat (slot_read (by decide) 0 1 1 (by rfl) (by rfl) (by rfl) (by decide) (by decide))))
    refine St.group (F := F) (b := 512) (n := 0) ?_ (by rfl) _ _ (congrArg (maskW 512#32 512#32) (congrArg flat (slot_read (by decide) 0 1 0 (by rfl) (by rfl) (by rfl) (by decide) (by decide))))
    refine St.start ?_
    refine St.diag256 (F := F) 256 28 7 ?_
    refine St.acc256 (F := F) (b := 256) (n := 6) ?_ (by rfl) _ _ (by rfl)
    refine St.acc256 (F := F) (b := 256) (n := 5) ?_ (by rfl) _ _ (by rfl)
    refine St.acc256 (F := F) (b := 256) (n := 4) ?_ (by rfl) _ _ (by rfl)
    refine St.acc256 (F := F) (b := 256) (n := 3) ?_ (by rfl) _ _ (by rfl)
    refine St.acc256 (F := F) (b := 256) (n := 2) ?_ (by rfl) _ _ (by rfl)
    refine St.acc256 (F := F) (b := 256) (n := 1) ?_ (by rfl) _ _ (by rfl)
    refine St.acc256 (F := F) (b := 256) (n := 0) ?_ (by rfl) _ _ (by rfl)
    refine St.start256 ?_
    refine St.group (F := F) (b := 256) (n := 27) ?_ (by rfl) _ _ (congrArg flat (slot_read (by decide) 1 0 27 (by rfl) (by rfl) (by rfl) (by decide) (by decide)))
    refine St.group (F := F) (b := 256) (n := 26) ?_ (by rfl) _ _ (congrArg flat (slot_read (by decide) 1 0 26 (by rfl) (by rfl) (by rfl) (by decide) (by decide)))
    refine St.group (F := F) (b := 256) (n := 25) ?_ (by rfl) _ _ (congrArg flat (slot_read (by decide) 1 0 25 (by rfl) (by rfl) (by rfl) (by decide) (by decide)))
    refine St.group (F := F) (b := 256) (n := 24) ?_ (by rfl) _ _ (congrArg flat (slot_read (by decide) 1 0 24 (by rfl) (by rfl) (by rfl) (by decide) (by decide)))
    refine St.group (F := F) (b := 256) (n := 23) ?_ (by rfl) _ _ (congrArg flat (slot_read (by decide) 1 0 23 (by rfl) (by rfl) (by rfl) (by decide) (by decide)))
    refine St.group (F := F) (b := 256) (n := 22) ?_ (by rfl) _ _ (congrArg flat (slot_read (by decide) 1 0 22 (by rfl) (by rfl) (by rfl) (by decide) (by decide)))
    refine St.group (F := F) (b := 256) (n := 21) ?_ (by rfl) _ _ (congrArg flat (slot_read (by decide) 1 0 21 (by rfl) (by rfl) (by rfl) (by decide) (by decide)))
    refine St.group (F := F) (b := 256) (n := 20) ?_ (by rfl) _ _ (congrArg flat (slot_read (by decide) 1 0 20 (by rfl) (by rfl) (by rfl) (by decide) (by decide)))
    refine St.group (F := F) (b := 256) (n := 19) ?_ (by rfl) _ _ (congrArg flat (slot_read (by decide) 1 0 19 (by rfl) (by rfl) (by rfl) (by decide) (by decide)))
    refine St.group (F := F) (b := 256) (n := 18) ?_ (by rfl) _ _ (congrArg flat (slot_read (by decide) 1 0 18 (by rfl) (by rfl) (by rfl) (by decide) (by decide)))
    refine St.group (F := F) (b := 256) (n := 17) ?_ (by rfl) _ _ (congrArg flat (slot_read (by decide) 1 0 17 (by rfl) (by rfl) (by rfl) (by decide) (by decide)))
    refine St.group (F := F) (b := 256) (n := 16) ?_ (by rfl) _ _ (congrArg flat (slot_read (by decide) 1 0 16 (by rfl) (by rfl) (by rfl) (by decide) (by decide)))
    refine St.group (F := F) (b := 256) (n := 15) ?_ (by rfl) _ _ (congrArg flat (slot_read (by decide) 1 0 15 (by rfl) (by rfl) (by rfl) (by decide) (by decide)))
    refine St.group (F := F) (b := 256) (n := 14) ?_ (by rfl) _ _ (congrArg flat (slot_read (by decide) 1 0 14 (by rfl) (by rfl) (by rfl) (by decide) (by decide)))
    refine St.group (F := F) (b := 256) (n := 13) ?_ (by rfl) _ _ (congrArg flat (slot_read (by decide) 1 0 13 (by rfl) (by rfl) (by rfl) (by decide) (by decide)))
    refine St.group (F := F) (b := 256) (n := 12) ?_ (by rfl) _ _ (congrArg flat (slot_read (by decide) 1 0 12 (by rfl) (by rfl) (by rfl) (by decide) (by decide)))
    refine St.group (F := F) (b := 256) (n := 11) ?_ (by rfl) _ _ (congrArg flat (slot_read (by decide) 1 0 11 (by rfl) (by rfl) (by rfl) (by decide) (by decide)))
    refine St.group (F := F) (b := 256) (n := 10) ?_ (by rfl) _ _ (congrArg flat (slot_read (by decide) 1 0 10 (by rfl) (by rfl) (by rfl) (by decide) (by decide)))
    refine St.group (F := F) (b := 256) (n := 9) ?_ (by rfl) _ _ (congrArg flat (slot_read (by decide) 1 0 9 (by rfl) (by rfl) (by rfl) (by decide) (by decide)))
    refine St.group (F := F) (b := 256) (n := 8) ?_ (by rfl) _ _ (congrArg flat (slot_read (by decide) 1 0 8 (by rfl) (by rfl) (by rfl) (by decide) (by decide)))
    refine St.group (F := F) (b := 256) (n := 7) ?_ (by rfl) _ _ (congrArg flat (slot_read (by decide) 1 0 7 (by rfl) (by rfl) (by rfl) (by decide) (by decide)))
    refine St.group (F := F) (b := 256) (n := 6) ?_ (by rfl) _ _ (congrArg flat (slot_read (by decide) 1 0 6 (by rfl) (by rfl) (by rfl) (by decide) (by decide)))
    refine St.group (F := F) (b := 256) (n := 5) ?_ (by rfl) _ _ (congrArg flat (slot_read (by decide) 1 0 5 (by rfl) (by rfl) (by rfl) (by decide) (by decide)))
    refine St.group (F := F) (b := 256) (n := 4) ?_ (by rfl) _ _ (congrArg flat (slot_read (by decide) 1 0 4 (by rfl) (by rfl) (by rfl) (by decide) (by decide)))
    refine St.group (F := F) (b := 256) (n := 3) ?_ (by rfl) _ _ (congrArg flat (slot_read (by decide) 1 0 3 (by rfl) (by rfl) (by rfl) (by decide) (by decide)))
    refine St.group (F := F) (b := 256) (n := 2) ?_ (by rfl) _ _ (congrArg (maskW 384#32 256#32) (congrArg flat (slot_read (by decide) 1 0 2 (by rfl) (by rfl) (by rfl) (by decide) (by decide))))
    refine St.group (F := F) (b := 256) (n := 1) ?_ (by rfl) _ _ (congrArg (maskW 320#32 256#32) (congrArg flat (slot_read (by decide) 1 0 1 (by rfl) (by rfl) (by rfl) (by decide) (by decide))))
    refine St.group (F := F) (b := 256) (n := 0) ?_ (by rfl) _ _ (congrArg (maskW 256#32 256#32) (congrArg flat (slot_read (by decide) 1 0 0 (by rfl) (by rfl) (by rfl) (by decide) (by decide))))
    refine St.start ?_
    refine St.diag512 (F := F) 0 32 4 ?_
    refine St.acc512 (F := F) (b := 0) (n := 3) ?_ (by rfl) _ _ (by rfl)
    refine St.acc512 (F := F) (b := 0) (n := 2) ?_ (by rfl) _ _ (by rfl)
    refine St.acc512 (F := F) (b := 0) (n := 1) ?_ (by rfl) _ _ (by rfl)
    refine St.acc512 (F := F) (b := 0) (n := 0) ?_ (by rfl) _ _ (by rfl)
    refine St.start512 ?_
    refine St.group (F := F) (b := 0) (n := 31) ?_ (by rfl) _ _ (congrArg flat (slot_read (by decide) 0 1 31 (by rfl) (by rfl) (by rfl) (by decide) (by decide)))
    refine St.group (F := F) (b := 0) (n := 30) ?_ (by rfl) _ _ (congrArg flat (slot_read (by decide) 0 1 30 (by rfl) (by rfl) (by rfl) (by decide) (by decide)))
    refine St.group (F := F) (b := 0) (n := 29) ?_ (by rfl) _ _ (congrArg flat (slot_read (by decide) 0 1 29 (by rfl) (by rfl) (by rfl) (by decide) (by decide)))
    refine St.group (F := F) (b := 0) (n := 28) ?_ (by rfl) _ _ (congrArg flat (slot_read (by decide) 0 1 28 (by rfl) (by rfl) (by rfl) (by decide) (by decide)))
    refine St.group (F := F) (b := 0) (n := 27) ?_ (by rfl) _ _ (congrArg flat (slot_read (by decide) 0 1 27 (by rfl) (by rfl) (by rfl) (by decide) (by decide)))
    refine St.group (F := F) (b := 0) (n := 26) ?_ (by rfl) _ _ (congrArg flat (slot_read (by decide) 0 1 26 (by rfl) (by rfl) (by rfl) (by decide) (by decide)))
    refine St.group (F := F) (b := 0) (n := 25) ?_ (by rfl) _ _ (congrArg flat (slot_read (by decide) 0 1 25 (by rfl) (by rfl) (by rfl) (by decide) (by decide)))
    refine St.group (F := F) (b := 0) (n := 24) ?_ (by rfl) _ _ (congrArg flat (slot_read (by decide) 0 1 24 (by rfl) (by rfl) (by rfl) (by decide) (by decide)))
    refine St.group (F := F) (b := 0) (n := 23) ?_ (by rfl) _ _ (congrArg flat (slot_read (by decide) 0 1 23 (by rfl) (by rfl) (by rfl) (by decide) (by decide)))
    refine St.group (F := F) (b := 0) (n := 22) ?_ (by rfl) _ _ (congrArg flat (slot_read (by decide) 0 1 22 (by rfl) (by rfl) (by rfl) (by decide) (by decide)))
    refine St.group (F := F) (b := 0) (n := 21) ?_ (by rfl) _ _ (congrArg flat (slot_read (by decide) 0 1 21 (by rfl) (by rfl) (by rfl) (by decide) (by decide)))
    refine St.group (F := F) (b := 0) (n := 20) ?_ (by rfl) _ _ (congrArg flat (slot_read (by decide) 0 1 20 (by rfl) (by rfl) (by rfl) (by decide) (by decide)))
    refine St.group (F := F) (b := 0) (n := 19) ?_ (by rfl) _ _ (congrArg flat (slot_read (by decide) 0 1 19 (by rfl) (by rfl) (by rfl) (by decide) (by decide)))
    refine St.group (F := F) (b := 0) (n := 18) ?_ (by rfl) _ _ (congrArg flat (slot_read (by decide) 0 1 18 (by rfl) (by rfl) (by rfl) (by decide) (by decide)))
    refine St.group (F := F) (b := 0) (n := 17) ?_ (by rfl) _ _ (congrArg flat (slot_read (by decide) 0 1 17 (by rfl) (by rfl) (by rfl) (by decide) (by decide)))
    refine St.group (F := F) (b := 0) (n := 16) ?_ (by rfl) _ _ (congrArg flat (slot_read (by decide) 0 1 16 (by rfl) (by rfl) (by rfl) (by decide) (by decide)))
    refine St.group (F := F) (b := 0) (n := 15) ?_ (by rfl) _ _ (congrArg flat (slot_read (by decide) 0 1 15 (by rfl) (by rfl) (by rfl) (by decide) (by decide)))
    refine St.group (F := F) (b := 0) (n := 14) ?_ (by rfl) _ _ (congrArg flat (slot_read (by decide) 0 1 14 (by rfl) (by rfl) (by rfl) (by decide) (by decide)))
    refine St.group (F := F) (b := 0) (n := 13) ?_ (by rfl) _ _ (congrArg flat (slot_read (by decide) 0 1 13 (by rfl) (by rfl) (by rfl) (by decide) (by decide)))
    refine St.group (F := F) (b := 0) (n := 12) ?_ (by rfl) _ _ (congrArg flat (slot_read (by decide) 0 1 12 (by rfl) (by rfl) (by rfl) (by decide) (by decide)))
    refine St.group (F := F) (b := 0) (n := 11) ?_ (by rfl) _ _ (congrArg flat (slot_read (by decide) 0 1 11 (by rfl) (by rfl) (by rfl) (by decide) (by decide)))
    refine St.group (F := F) (b := 0) (n := 10) ?_ (by rfl) _ _ (congrArg flat (slot_read (by decide) 0 1 10 (by rfl) (by rfl) (by rfl) (by decide) (by decide)))
    refine St.group (F := F) (b := 0) (n := 9) ?_ (by rfl) _ _ (congrArg flat (slot_read (by decide) 0 1 9 (by rfl) (by rfl) (by rfl) (by decide) (by decide)))
    refine St.group (F := F) (b := 0) (n := 8) ?_ (by rfl) _ _ (congrArg flat (slot_read (by decide) 0 1 8 (by rfl) (by rfl) (by rfl) (by decide) (by decide)))
    refine St.group (F := F) (b := 0) (n := 7) ?_ (by rfl) _ _ (congrArg flat (slot_read (by decide) 0 1 7 (by rfl) (by rfl) (by rfl) (by decide) (by decide)))
    refine St.group (F := F) (b := 0) (n := 6) ?_ (by rfl) _ _ (congrArg flat (slot_read (by decide) 0 1 6 (by rfl) (by rfl) (by rfl) (by decide) (by decide)))
    refine St.group (F := F) (b := 0) (n := 5) ?_ (by rfl) _ _ (congrArg flat (slot_read (by decide) 0 1 5 (by rfl) (by rfl) (by rfl) (by decide) (by decide)))
    refine St.group (F := F) (b := 0) (n := 4) ?_ (by rfl) _ _ (congrArg flat (slot_read (by decide) 0 1 4 (by rfl) (by rfl) (by rfl) (by decide) (by decide)))
    refine St.group (F := F) (b := 0) (n := 3) ?_ (by rfl) _ _ (congrArg flat (slot_read (by decide) 0 1 3 (by rfl) (by rfl) (by rfl) (by decide) (by decide)))
    refine St.group (F := F) (b := 0) (n := 2) ?_ (by rfl) _ _ (congrArg (maskW 128#32 0#32) (congrArg flat (slot_read (by decide) 0 1 2 (by rfl) (by rfl) (by rfl) (by decide) (by decide))))
    refine St.group (F := F) (b := 0) (n := 1) ?_ (by rfl) _ _ (congrArg (maskW 64#32 0#32) (congrArg flat (slot_read (by decide) 0 1 1 (by rfl) (by rfl) (by rfl) (by decide) (by decide))))
    refine St.group (F := F) (b := 0) (n := 0) ?_ (by rfl) _ _ (congrArg (maskW 0#32 0#32) (congrArg flat (slot_read (by decide) 0 1 0 (by rfl) (by rfl) (by rfl) (by decide) (by decide))))
    refine St.start ?_
    exact ⟨has_whole _ _, has_whole _ _, has_whole _ _, has_whole _ _, has_whole _ _⟩
  · refine congrArg (fun s => t2St _ _ _ _ s _) (sc_init c k0_t1 _ _ _ _ _ _ ?_ ?_ ?_ ?_)
    · exact slot0_writes (F := F) arg12.view f12 []
    · exact View.read_writes_full _ _ _ _ _
    · exact View.read_writes_full _ _ _ _ _
    · exact View.read_writes_full _ _ _ _ _

end Cert.Kernel2Ideal.Hand
-- ==== Proof.AttInd.lean ====
module

public import proofs.«01_k».proof.Proof.AttT1

@[expose] public section

set_option maxRecDepth 16384

noncomputable section

/-! The tile of a trip does not depend on what the weights' and the factors' buffers held before it. -/

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

theorem put_ext {α : Type} {N D : ℕ} (b W n : ℕ) (hW : 0 < W) {g g' : ℕ → (⟨2, ![W, D]⟩ : Shape).Idx → α} (X : (⟨2, ![N, D]⟩ : Shape).Idx → α)
    (h : ∀ j, j < n → g j = g' j) : put b W n hW g X = put b W n hW g' X := by
  funext y
  unfold put
  by_cases hy : b ≤ (y 0).val ∧ (y 0).val < b + W * n
  · rw [if_pos hy, if_pos hy, h _ (Nat.div_lt_of_lt_mul (by omega))]
  · rw [if_neg hy, if_neg hy]

theorem rowsOf_put {α : Type} {N D W : ℕ} (b n m j : ℕ) (hN : 0 < N) (g : ℕ → (⟨2, ![64, D]⟩ : Shape).Idx → α) (X X' : (⟨2, ![N, D]⟩ : Shape).Idx → α)
    (hj : j < m) (hmn : W * m ≤ 64 * n) (hb : b + 64 * n ≤ N) :
    rowsOf W hN (put b 64 n (by decide) g X) (b + W * j) = rowsOf W hN (put b 64 n (by decide) g X') (b + W * j) := by
  funext z
  have hz : (z 0).val < W := (z 0).isLt
  have h1 : W * (j + 1) ≤ W * m := Nat.mul_le_mul_left W hj
  have h2 : W * (j + 1) = W * j + W := by ring
  have e : (b + W * j + (z 0).val) % N = b + W * j + (z 0).val := Nat.mod_eq_of_lt (by omega)
  have hc : b ≤ (b + W * j + (z 0).val) % N ∧ (b + W * j + (z 0).val) % N < b + 64 * n := by rw [e]; omega
  unfold rowsOf put
  exact (if_pos hc).trans (if_pos hc).symm

theorem new512_indep (b n m : ℕ) (g : ℕ → FVec F S64x256 .f32) (V : Vec F S256x128 .bf16) (M : Vec F S2048x128 .f32) (P P' : Vec F S2048x256 .bf16) (A A' C : Vec F S2048x128 .f32)
    (hmn : 512 * m ≤ 64 * n) (hb : b + 64 * n ≤ 2048) :
    new512 b m V (newP b n g M P) (newA b n g M A) C = new512 b m V (newP b n g M P') (newA b n g M A') C := by
  unfold new512 newP newA
  refine put_ext _ _ _ _ _ fun j hj => ?_
  rw [rowsOf_put (W := 512) b n m j (by decide) _ P P' hj hmn hb, rowsOf_put (W := 512) b n m j (by decide) _ A A' hj hmn hb]
theorem new256_indep (b n m : ℕ) (g : ℕ → FVec F S64x256 .f32) (V : Vec F S256x128 .bf16) (M : Vec F S2048x128 .f32) (P P' : Vec F S2048x256 .bf16) (A A' C : Vec F S2048x128 .f32)
    (hmn : 256 * m ≤ 64 * n) (hb : b + 64 * n ≤ 2048) :
    new256 b m V (newP b n g M P) (newA b n g M A) C = new256 b m V (newP b n g M P') (newA b n g M A') C := by
  unfold new256 newP newA
  refine put_ext _ _ _ _ _ fun j hj => ?_
  rw [rowsOf_put (W := 256) b n m j (by decide) _ P P' hj hmn hb, rowsOf_put (W := 256) b n m j (by decide) _ A A' hj hmn hb]

theorem seqC_indep (w : ℕ → Vec F S1x2048x256 .f32) (V : Fin 8 → Vec F S256x128 .bf16) (M : Vec F S2048x128 .f32) (P P' : Vec F S2048x256 .bf16) (A A' C : Vec F S2048x128 .f32) (t : ℕ) :
    seqC w V M P A C t = seqC w V M P' A' C t := by
  induction t with
  | zero => rfl
  | succ t ih =>
    show new512 0 4 _ (newP 0 32 _ _ (seqP w M P t)) (newA 0 32 _ _ (seqA w M A t)) (seqC w V M P A C t)
      = new512 0 4 _ (newP 0 32 _ _ (seqP w M P' t)) (newA 0 32 _ _ (seqA w M A' t)) (seqC w V M P' A' C t)
    rw [ih]
    exact new512_indep _ _ _ _ _ _ _ _ _ _ _ (by decide) (by decide)

/-- Two states that agree but for the weights and the factors. -/
def Alike (s s' : Sc F) : Prop := s.w = s'.w ∧ s.m = s'.m ∧ s.l = s'.l ∧ s.c = s'.c

theorem Alike.next {s s' : Sc F} (h : Alike s s') (q : Vec F S2048x256 .bf16) (K : Fin 8 → Vec F S256x256 .bf16) (V : Fin 8 → Vec F S256x128 .bf16) :
    Alike (t2Next q K V s) (t2Next q K V s') := by
  obtain ⟨hw, hm, hl, hc⟩ := h
  refine ⟨?_, ?_, ?_, ?_⟩
  · show trScore s.w q K 8 = trScore s'.w q K 8
    rw [hw]
  · show seqM (trScore s.w q K) s.m 8 = seqM (trScore s'.w q K) s'.m 8
    rw [hw, hm]
  · show seqL (trScore s.w q K) s.m s.l 8 = seqL (trScore s'.w q K) s'.m s'.l 8
    rw [hw, hm, hl]
  · show seqC (trScore s.w q K) V s.m s.p s.a s.c 8 = seqC (trScore s'.w q K) V s'.m s'.p s'.a s'.c 8
    rw [hw, hm, hc]
    exact seqC_indep _ _ _ _ _ _ _ _ _

theorem Alike.st {s s' : Sc F} (h : Alike s s') (t1 : Fin k0_t1_loop.trips) (x2 x3 : Vec F S4096x256 .bf16) (x4 : Vec F S4096x128 .bf16) (k : ℕ) :
    Alike (t2St t1 x2 x3 x4 s k) (t2St t1 x2 x3 x4 s' k) := by
  induction k with
  | zero => exact h
  | succ k ih =>
    by_cases hk : k < (k0_t2_loop t1).trips
    · rw [show t2St t1 x2 x3 x4 s (k + 1) = _ from dif_pos hk, show t2St t1 x2 x3 x4 s' (k + 1) = _ from dif_pos hk]
      exact ih.next _ _ _
    · rw [show t2St t1 x2 x3 x4 s (k + 1) = _ from dif_neg hk, show t2St t1 x2 x3 x4 s' (k + 1) = _ from dif_neg hk]
      exact ih

theorem Alike.d512 {s s' : Sc F} (h : Alike s s') (b n m : ℕ) (g : ℕ → FVec F S64x256 .f32) (V : Vec F S256x128 .bf16)
    (hmn : 512 * m ≤ 64 * n) (hb : b + 64 * n ≤ 2048) : Alike (dStep512 b n m g V s) (dStep512 b n m g V s') := by
  obtain ⟨hw, hm, hl, hc⟩ := h
  refine ⟨hw, ?_, ?_, ?_⟩
  · show newM b n g s.m = newM b n g s'.m
    rw [hm]
  · show newL b n g s.m s.l = newL b n g s'.m s'.l
    rw [hm, hl]
  · show new512 b m V (newP b n g s.m s.p) (newA b n g s.m s.a) s.c = new512 b m V (newP b n g s'.m s'.p) (newA b n g s'.m s'.a) s'.c
    rw [hm, hc]
    exact new512_indep _ _ _ _ _ _ _ _ _ _ _ hmn hb
theorem Alike.d256 {s s' : Sc F} (h : Alike s s') (b n m : ℕ) (g : ℕ → FVec F S64x256 .f32) (V : Vec F S256x128 .bf16)
    (hmn : 256 * m ≤ 64 * n) (hb : b + 64 * n ≤ 2048) : Alike (dStep256 b n m g V s) (dStep256 b n m g V s') := by
  obtain ⟨hw, hm, hl, hc⟩ := h
  refine ⟨hw, ?_, ?_, ?_⟩
  · show newM b n g s.m = newM b n g s'.m
    rw [hm]
  · show newL b n g s.m s.l = newL b n g s'.m s'.l
    rw [hm, hl]
  · show new256 b m V (newP b n g s.m s.p) (newA b n g s.m s.a) s.c = new256 b m V (newP b n g s'.m s'.p) (newA b n g s'.m s'.a) s'.c
    rw [hm, hc]
    exact new256_indep _ _ _ _ _ _ _ _ _ _ _ hmn hb

theorem Alike.tile {s s' : Sc F} (h : Alike s s') (t1 : Fin k0_t1_loop.trips) (x2 x3 : Vec F S4096x256 .bf16) (x4 : Vec F S4096x128 .bf16) :
    oTile t1 x2 x3 x4 s = oTile t1 x2 x3 x4 s' := by
  have h1 : Alike (dSt1 t1 x2 x3 x4 s) (dSt1 t1 x2 x3 x4 s') := by
    unfold dSt1
    rw [h.1]
    exact h.d512 _ _ _ _ _ (by decide) (by decide)
  have h2 : Alike (dSt2 t1 x2 x3 x4 s) (dSt2 t1 x2 x3 x4 s') := h1.d256 _ _ _ _ _ (by decide) (by decide)
  have h3 : Alike (dSt3 t1 x2 x3 x4 s) (dSt3 t1 x2 x3 x4 s') := h2.d512 _ _ _ _ _ (by decide) (by decide)
  have h4 : Alike (dSt4 t1 x2 x3 x4 s) (dSt4 t1 x2 x3 x4 s') := h3.d256 _ _ _ _ _ (by decide) (by decide)
  have h5 : Alike (dSt5 t1 x2 x3 x4 s) (dSt5 t1 x2 x3 x4 s') := h4.d512 _ _ _ _ _ (by decide) (by decide)
  have h6 : Alike (dSt6 t1 x2 x3 x4 s) (dSt6 t1 x2 x3 x4 s') := h5.d256 _ _ _ _ _ (by decide) (by decide)
  have h7 : Alike (dSt7 t1 x2 x3 x4 s) (dSt7 t1 x2 x3 x4 s') := h6.d512 _ _ _ _ _ (by decide) (by decide)
  have h8 : Alike (dSt8 t1 x2 x3 x4 s) (dSt8 t1 x2 x3 x4 s') := h7.d256 _ _ _ _ _ (by decide) (by decide)
  unfold oTile
  rw [h8.2.2.1, h8.2.2.2]

theorem sInit_alike (t1 : Fin k0_t1_loop.trips) (x2 x3 : Vec F S4096x256 .bf16) (p p' : Vec F S2048x256 .bf16) (a a' : Vec F S2048x128 .f32) :
    Alike (sInit t1 x2 x3 p a) (sInit t1 x2 x3 p' a') := by
  unfold sInit Alike
  exact ⟨rfl, rfl, rfl, rfl⟩

/-- The tile of results of a trip, from the blocks of queries, keys and values alone. -/
def outT (t1 : Fin k0_t1_loop.trips) (x2 x3 : Vec F S4096x256 .bf16) (x4 : Vec F S4096x128 .bf16) : FVec F S2048x128 .bf16 :=
  oTile t1 x2 x3 x4 (t2St t1 x2 x3 x4 (sInit t1 x2 x3 (truncf .bf16 (constant S2048x256 .f32 0x00000000#32) bitsLt_bf16_f32) k0_pay4413) (k0_t2_loop t1).trips)

theorem outT_eq (t1 : Fin k0_t1_loop.trips) (x2 x3 : Vec F S4096x256 .bf16) (x4 : Vec F S4096x128 .bf16) (p : Vec F S2048x256 .bf16) (a : Vec F S2048x128 .f32) :
    oTile t1 x2 x3 x4 (t2St t1 x2 x3 x4 (sInit t1 x2 x3 p a) (k0_t2_loop t1).trips) = outT t1 x2 x3 x4 := by
  unfold outT
  exact ((sInit_alike t1 x2 x3 p _ a _).st t1 x2 x3 x4 _).tile t1 x2 x3 x4

end Cert.Kernel2Ideal.Hand
-- ==== Proof.AttBody.lean ====
module

public import proofs.«01_k».proof.Proof.AttInd

@[expose] public section

set_option maxRecDepth 16384

noncomputable section

/-! The attention's outer loop and its whole body. -/

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

/-- The block of results: the tile of the first trip above that of the second. -/
def oBlock (x2 x3 : Vec F S4096x256 .bf16) (x4 : Vec F S4096x128 .bf16) : Vec F S4096x128 .bf16 :=
  fun y => if h : (y 0).val < 2048 then outT ⟨0, by decide⟩ x2 x3 x4 (ix2 ⟨(y 0).val, h⟩ ⟨(y 1).val, (y 1).isLt⟩)
    else outT ⟨1, by decide⟩ x2 x3 x4 (ix2 ⟨((y 0).val - 2048) % 2048, Nat.mod_lt _ (by decide)⟩ ⟨(y 1).val, (y 1).isLt⟩)

/-- The result's buffer before trip `k`. -/
def t1B8 (c : Dev nD) {arg2 arg3 : Memref sig .tc .vmem S4096x256 .bf16} {arg4 arg8 : Memref sig .tc .vmem S4096x128 .bf16}
    (f2 : BufOf (F := F) c arg2) (f3 : BufOf (F := F) c arg3) (f4 : BufOf (F := F) c arg4) (f8 : BufOf (F := F) c arg8) : ℕ → BufOf (F := F) c arg8
  | 0 => f8
  | k + 1 => if h : k < k0_t1_loop.trips then
      arg8.view.writes (Elt F) (t1B8 c f2 f3 f4 f8 k) [⟨Rect.unit (s := S4096x128) (k0_off17 ⟨k, h⟩) S2048x128.size (k0_off17_inb ⟨k, h⟩), outT ⟨k, h⟩ (arg2.view.read (Elt F) f2) (arg3.view.read (Elt F) f3) (arg4.view.read (Elt F) f4)⟩]
    else t1B8 c f2 f3 f4 f8 k

theorem read_tiles (c : Dev nD) {arg8 : Memref sig .tc .vmem S4096x128 .bf16} (f8 : BufOf (F := F) c arg8) (T : Fin k0_t1_loop.trips → Vec F S2048x128 .bf16)
    (k0 k1 : Fin k0_t1_loop.trips) (e0 : k0.val = 0) (e1 : k1.val = 1) (y : S4096x128.Idx) :
    arg8.view.read (Elt F) (arg8.view.writes (Elt F) (arg8.view.writes (Elt F) f8 [⟨Rect.unit (s := S4096x128) (k0_off17 k0) S2048x128.size (k0_off17_inb k0), T k0⟩])
      [⟨Rect.unit (s := S4096x128) (k0_off17 k1) S2048x128.size (k0_off17_inb k1), T k1⟩]) y
    = if h : (y 0).val < 2048 then T k0 (ix2 ⟨(y 0).val, h⟩ ⟨(y 1).val, (y 1).isLt⟩)
      else T k1 (ix2 ⟨((y 0).val - 2048) % 2048, Nat.mod_lt _ (by decide)⟩ ⟨(y 1).val, (y 1).isLt⟩) := by
  have hy : (y 0).val < 4096 := (y 0).isLt
  have o0 : k0_off17 k0 = ![0, 0] := by rw [k0_off17_eq, e0]
  have o1 : k0_off17 k1 = ![2048, 0] := by rw [k0_off17_eq, e1]
  generalize T k0 = T0
  generalize T k1 = T1
  by_cases h : (y 0).val < 2048
  · rw [dif_pos h]
    rw [View.read_writes_cons_rows_of_not_mem arg8.view _ (k0_off17_inb k1) _ [] y (o := 2048) (W := 2048) o1 rfl (by omega), View.writes_nil]
    exact View.read_writes_cons_rows_of_mem arg8.view _ (k0_off17_inb k0) _ [] y (o := 0) (ix2 ⟨(y 0).val, h⟩ ⟨(y 1).val, (y 1).isLt⟩) o0
      (by show (y 0).val = 0 + (y 0).val; omega) rfl
  · rw [dif_neg h]
    exact View.read_writes_cons_rows_of_mem arg8.view _ (k0_off17_inb k1) _ [] y (o := 2048) (ix2 ⟨((y 0).val - 2048) % 2048, Nat.mod_lt _ (by decide)⟩ ⟨(y 1).val, (y 1).isLt⟩) o1
      (by show (y 0).val = 2048 + ((y 0).val - 2048) % 2048; omega) rfl

theorem t1B8_read (c : Dev nD) {arg2 arg3 : Memref sig .tc .vmem S4096x256 .bf16} {arg4 arg8 : Memref sig .tc .vmem S4096x128 .bf16}
    (f2 : BufOf (F := F) c arg2) (f3 : BufOf (F := F) c arg3) (f4 : BufOf (F := F) c arg4) (f8 : BufOf (F := F) c arg8) :
    arg8.view.read (Elt F) (t1B8 c f2 f3 f4 f8 k0_t1_loop.trips) = oBlock (arg2.view.read (Elt F) f2) (arg3.view.read (Elt F) f3) (arg4.view.read (Elt F) f4) := by
  rw [show k0_t1_loop.trips = 2 from by decide]
  have h0 : 0 < k0_t1_loop.trips := by decide
  have h1 : 1 < k0_t1_loop.trips := by decide
  rw [show t1B8 c f2 f3 f4 f8 2 = _ from dif_pos h1, show t1B8 c f2 f3 f4 f8 1 = _ from dif_pos h0]
  funext y
  exact read_tiles c f8 (fun k => outT k (arg2.view.read (Elt F) f2) (arg3.view.read (Elt F) f3) (arg4.view.read (Elt F) f4)) ⟨0, h0⟩ ⟨1, h1⟩ rfl rfl y

/-- The resources of the outer loop before trip `k`. -/
def t1Inv (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (f2 : BufOf (F := F) c arg2) (f3 : BufOf (F := F) c arg3) (f4 : BufOf (F := F) c arg4) (f8 : BufOf (F := F) c arg8) (k : ℕ) : sProp 𝕄 :=
  iprop(at_ c arg2 f2 ∗ at_ c arg3 f3 ∗ at_ c arg4 f4 ∗ at_ c arg8 (t1B8 c f2 f3 f4 f8 k) ∗ (∃ f, at_ c arg12 f) ∗ (∃ f, at_ c arg13 f) ∗ (∃ f, at_ c arg14 f) ∗ (∃ f, at_ c arg15 f) ∗ (∃ f, at_ c arg16 f) ∗ (∃ f, at_ c arg17 f))

theorem t1_post (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (f2 : BufOf (F := F) c arg2) (f3 : BufOf (F := F) c arg3) (f4 : BufOf (F := F) c arg4) (f8 : BufOf (F := F) c arg8) (k : Fin k0_t1_loop.trips) (u : Unit)
    (f12 : BufOf (F := F) c arg12) (f13 : BufOf (F := F) c arg13) (f14 : BufOf (F := F) c arg14) (f15 : BufOf (F := F) c arg15) (f16 : BufOf (F := F) c arg16) (f17 : BufOf (F := F) c arg17) :
    iprop(at_ c arg2 f2 ∗ at_ c arg3 f3 ∗ at_ c arg4 f4 ∗ at_ c arg8 (t1B8 c f2 f3 f4 f8 k.val) ∗ at_ c arg12 f12 ∗ at_ c arg13 f13 ∗ at_ c arg14 f14 ∗ at_ c arg15 f15 ∗ at_ c arg16 f16 ∗ at_ c arg17 f17)
    ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k u)
      (fun _ => t1Inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f8 (k.val + 1)) := by
  refine (t1_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k u f2 f3 f4 (t1B8 c f2 f3 f4 f8 k.val) f12 f13 f14 f15 f16 f17).trans ?_
  refine wp_mono _ _ _ fun _ => ?_
  unfold t1Inv
  iintro ⟨H2, H3, H4, %g8, %g12, %g13, %g14, %g15, %g16, %g17, H8, H12, H13, H14, H15, H16, H17, %e⟩
  obtain ⟨S, ⟨-, e8⟩, eS⟩ := e
  have e9 : g8 = t1B8 c f2 f3 f4 f8 (k.val + 1) := by
    rw [e8, eS, outT_eq]
    exact (show t1B8 c f2 f3 f4 f8 (k.val + 1) = _ from dif_pos k.isLt).symm
  rw [← e9]
  isplitl [H2]; · iexact H2
  isplitl [H3]; · iexact H3
  isplitl [H4]; · iexact H4
  isplitl [H8]; · iexact H8
  isplitl [H12]; · iexists _; iexact H12
  isplitl [H13]; · iexists _; iexact H13
  isplitl [H14]; · iexists _; iexact H14
  isplitl [H15]; · iexists _; iexact H15
  isplitl [H16]; · iexists _; iexact H16
  iexists _; iexact H17

theorem t1_step (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (f2 : BufOf (F := F) c arg2) (f3 : BufOf (F := F) c arg3) (f4 : BufOf (F := F) c arg4) (f8 : BufOf (F := F) c arg8) (k : Fin k0_t1_loop.trips) (u : Unit) :
    t1Inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f8 k.val
    ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k u)
      (fun _ => t1Inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f8 (k.val + 1)) := by
  have h := t1_post c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f8 k u
  rw [show t1Inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f8 k.val = iprop(at_ c arg2 f2 ∗ at_ c arg3 f3 ∗ at_ c arg4 f4 ∗ at_ c arg8 (t1B8 c f2 f3 f4 f8 k.val) ∗ (∃ f, at_ c arg12 f) ∗ (∃ f, at_ c arg13 f) ∗ (∃ f, at_ c arg14 f) ∗ (∃ f, at_ c arg15 f) ∗ (∃ f, at_ c arg16 f) ∗ (∃ f, at_ c arg17 f)) from rfl]
  iintro ⟨H2, H3, H4, H8, ⟨%f12, H12⟩, ⟨%f13, H13⟩, ⟨%f14, H14⟩, ⟨%f15, H15⟩, ⟨%f16, H16⟩, ⟨%f17, H17⟩⟩
  iapply (h f12 f13 f14 f15 f16 f17)
  isplitl [H2]; · iexact H2
  isplitl [H3]; · iexact H3
  isplitl [H4]; · iexact H4
  isplitl [H8]; · iexact H8
  isplitl [H12]; · iexact H12
  isplitl [H13]; · iexact H13
  isplitl [H14]; · iexact H14
  isplitl [H15]; · iexact H15
  isplitl [H16]; · iexact H16
  iexact H17

/-- The invariant of the outer loop. -/
@[sl_loop, instance_reducible] def loopInv_k0_t1 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (f2 : BufOf (F := F) c arg2) (f3 : BufOf (F := F) c arg3) (f4 : BufOf (F := F) c arg4) (f8 : BufOf (F := F) c arg8) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 where
  inv := fun k _ => t1Inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f8 k
  step k u := by
    have h := t1_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f8 k u
    convert h using 2

set_option maxHeartbeats 1000000 in
/-- The whole body: the results' block and the casts, from the blocks of queries, keys, values and weights. -/
theorem sound_kernel (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S32x2048 .f32) (harg5 : arg5.IsWhole) (arg6 : Memref sig .tc .vmem S2048x128 .f32) (harg6 : arg6.IsWhole) (arg7 : Memref sig .tc .vmem S128x2048 .f32) (harg7 : arg7.IsWhole) (arg8 : Memref sig .tc .vmem S4096x128 .bf16) (harg8 : arg8.IsWhole) (arg9 : Memref sig .tc .vmem S32x2048 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S2x2048x256 .f32) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (x2 x3 : Vec F S4096x256 .bf16) (x4 : Vec F S4096x128 .bf16) (x5 : Vec F S32x2048 .f32) (x6 : Vec F S2048x128 .f32) (x7 : Vec F S128x2048 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ f, at_ c arg12 f) ∗ (∃ f, at_ c arg13 f) ∗ (∃ f, at_ c arg14 f) ∗ (∃ f, at_ c arg15 f) ∗ (∃ f, at_ c arg16 f) ∗ (∃ f, at_ c arg17 f)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (oBlock x2 x3 x4) ∗ owns (c : Thread nD τ) arg9 fullShare (k0_pay1 x5)
            ∗ owns (c : Thread nD τ) arg10 fullShare (k0_pay2 x6) ∗ owns (c : Thread nD τ) arg11 fullShare (k0_pay3 x7)
            ∗ (∃ f, at_ c arg12 f) ∗ (∃ f, at_ c arg13 f) ∗ (∃ f, at_ c arg14 f) ∗ (∃ f, at_ c arg15 f) ∗ (∃ f, at_ c arg16 f) ∗ (∃ f, at_ c arg17 f)) -∗ K ⟨⟩))
      ⊢ wp frame (wpE (defs₀ (F := F)) Variants.none c none) Set.univ (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attention_eq_skeleton]; unfold cc0_attention_skel
  unfold owns
  simp only [harg2.set_eq_univ, harg3.set_eq_univ, harg4.set_eq_univ, harg8.set_eq_univ]
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%f12, H12⟩, ⟨%f13, H13⟩, ⟨%f14, H14⟩, ⟨%f15, H15⟩, ⟨%f16, H16⟩, ⟨%f17, H17⟩, Hk⟩
  sl_exec
  sl_step
  iapply Hk
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists t1B8 c f2 f3 f4 f8 k0_t1_loop.trips; isplitr
    swap; · iexact H8
    ipureintro
    rw [t1B8_read, e2, e3, e4]
  isplitl [H9]
  · iexists _; isplitr
    swap; · iexact H9
    ipureintro
    refine (View.read_writes_full _ _ _ _ _).trans ?_
    exact congrArg k0_pay1 ((View.readAt_full _ _ _).trans e5)
  isplitl [H10]
  · iexists _; isplitr
    swap; · iexact H10
    ipureintro
    refine (View.read_writes_full _ _ _ _ _).trans ?_
    exact congrArg k0_pay2 ((View.readAt_full _ _ _).trans e6)
  isplitl [H11]
  · iexists _; isplitr
    swap; · iexact H11
    ipureintro
    refine (View.read_writes_full _ _ _ _ _).trans ?_
    exact congrArg k0_pay3 ((View.readAt_full _ _ _).trans e7)
  isplitl [H12]; · iexists _; iexact H12
  isplitl [H13]; · iexists _; iexact H13
  isplitl [H14]; · iexists _; iexact H14
  isplitl [H15]; · iexists _; iexact H15
  isplitl [H16]; · iexists _; iexact H16
  iexists _; iexact H17

end Cert.Kernel2Ideal.Hand
-- ==== Proof.AttFrame.lean ====
module

public import proofs.«01_k».proof.Proof.AttBody

public import proofs.«01_k».proof.Proof.Gen.Kernel2Ideal.Frame

@[expose] public section

set_option maxRecDepth 16384

noncomputable section

/-! The attention kernel's run over its grid of batches and heads, and the arguments unchanged at the end. -/

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oBlock (iblk m c 0 t) (iblk m c 1 t) (iblk m c 2 t)
    | ⟨7, _⟩ => k0_pay1 (iblk m c 3 t)
    | ⟨8, _⟩ => k0_pay2 (iblk m c 4 t)
    | ⟨9, _⟩ => k0_pay3 (iblk m c 5 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = oBlock (iblk m c 0 t) (iblk m c 1 t) (iblk m c 2 t) := by dsimp only [dats]
theorem after0_7 (c : Dev nD) (t : Fin cfg0.N) : (dats m 0 c).after 7 t = k0_pay1 (iblk m c 3 t) := by dsimp only [dats]
theorem after0_8 (c : Dev nD) (t : Fin cfg0.N) : (dats m 0 c).after 8 t = k0_pay2 (iblk m c 4 t) := by dsimp only [dats]
theorem after0_9 (c : Dev nD) (t : Fin cfg0.N) : (dats m 0 c).after 9 t = k0_pay3 (iblk m c 5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem PhiA_eq (c : Dev nD) :
    (Pipeline.ΦA spec0 c : sProp 𝕄) = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)) ∗ (∃ r, prngReg c r)) := by
  unfold Pipeline.ΦA
  rw [scopedRest0_eq]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq, after0_0, after0_1, after0_2, after0_3, after0_4, after0_5, after0_6, after0_7, after0_8, after0_9]
  iintro ⟨⟨⟨S0, S1, S2, S3, S4, S5⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c (grid0.coords t) _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, S0, S1, S2, S3, S4, S5⟩
  isplitl [S0 S1 S2 S3 S4 S5 Hr]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The arrays end as the proof data says, every other buffer unchanged and every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The results' arrays and the arguments at the end of the run. -/
theorem run_post : θ_run defs (onTc (τ := τ) (main (F := F))) ⟨m, fun _ => 0, ρ⟩ (fun r => (∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_v0_3) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 6, (h.1 c).1 7, (h.1 c).1 8, (h.1 c).1 9,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      ((h.1 c).1 5).trans (((dats m 0 c).arrAt_in 5 rfl _).trans (A_eq m c 5))⟩, h.2⟩) (run_main m ρ)

/-- The arguments end as they were and every counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2.2.2.2, h.2⟩) (run_post m ρ)

end Cert.Kernel2Ideal.Hand

end
-- ==== Proof.AttRow.lean ====
/- One query's attention, block of keys by block of keys: the running maximum, the sums and the weighted values. -/
module

public import Idealize.ShloMosaic.Lib.Pointwise

@[expose] public section

noncomputable section

namespace Cert.AttRow
open Idealize.ShloMosaic

/-! ## Constants, and two to a power -/

theorem negInf_eq : Ideal.ofBits .f32 4286578688#32 = (⊥ : EReal) := by
  simp [Ideal.ofBits, Ideal.ieee]
theorem posInf_eq : Ideal.ofBits .f32 2139095040#32 = (⊤ : EReal) := by
  simp [Ideal.ofBits, Ideal.ieee]
theorem two_eq : Ideal.ofBits .f32 1073741824#32 = ((2 : ℝ) : EReal) := by
  simp [Ideal.ofBits, Ideal.ieee, -EReal.coe_mul]
  norm_num
theorem pow_two (x : EReal) : Ideal.pow ((2 : ℝ) : EReal) x = Ideal.exp2 x := by
  induction x using EReal.rec with
  | bot =>
    show (if (2 : ℝ) < 0 then (⊥ : EReal) else if 1 < (2 : ℝ) then 0 else if (2 : ℝ) = 1 then 1 else ⊤) = 0
    rw [if_neg (by norm_num), if_pos (by norm_num)]
  | top =>
    show (if (2 : ℝ) < 0 then (⊥ : EReal) else if 1 < (2 : ℝ) then ⊤ else if (2 : ℝ) = 1 then 1 else 0) = ⊤
    rw [if_neg (by norm_num), if_pos (by norm_num)]
  | coe r => rfl

/-! ## The rescaling of a weight -/

theorem exp2_nonneg (x : EReal) : 0 ≤ Ideal.exp2 x := by
  induction x using EReal.rec with
  | bot => exact le_of_eq rfl
  | top => exact le_top
  | coe r => exact EReal.coe_nonneg.mpr (Real.rpow_nonneg (by norm_num) r)

theorem exp2_sub_ne_top {m M : EReal} (h : m ≤ M) : Ideal.exp2 (m - M) ≠ ⊤ := by
  induction M using EReal.rec with
  | bot =>
    have : m = ⊥ := le_bot_iff.mp h
    subst this
    show Ideal.exp2 ((⊥ : EReal) + -(⊥ : EReal)) ≠ ⊤
    rw [EReal.bot_add]
    exact EReal.zero_ne_top
  | top =>
    show Ideal.exp2 (m + -⊤) ≠ ⊤
    rw [EReal.neg_top, EReal.add_bot]
    exact EReal.zero_ne_top
  | coe R =>
    induction m using EReal.rec with
    | bot =>
      show Ideal.exp2 ((⊥ : EReal) + -(R : EReal)) ≠ ⊤
      rw [EReal.bot_add]
      exact EReal.zero_ne_top
    | top => exact absurd (top_le_iff.mp h) (EReal.coe_ne_top R)
    | coe r =>
      rw [← EReal.coe_sub]
      exact EReal.coe_ne_top _

theorem exp2_bot_sub (M : EReal) : Ideal.exp2 (⊥ - M) = 0 := by
  show Ideal.exp2 (⊥ + -M) = 0
  rw [EReal.bot_add]
  rfl

theorem exp2_sub_top (x : EReal) : Ideal.exp2 (x - ⊤) = 0 := by
  show Ideal.exp2 (x + -⊤) = 0
  rw [EReal.neg_top, EReal.add_bot]
  rfl

theorem exp2_rescale {x m M : EReal} (h1 : x ≤ m) (h2 : m ≤ M) :
    Ideal.exp2 (m - M) * Ideal.exp2 (x - m) = Ideal.exp2 (x - M) := by
  induction x using EReal.rec with
  | bot => rw [exp2_bot_sub, exp2_bot_sub, mul_zero]
  | top =>
    have e1 : m = ⊤ := top_le_iff.mp h1
    subst e1
    have e2 : M = ⊤ := top_le_iff.mp h2
    subst e2
    rw [exp2_sub_top, mul_zero]
  | coe a =>
    induction M using EReal.rec with
    | bot => exact absurd (le_bot_iff.mp (h1.trans h2)) (EReal.coe_ne_bot a)
    | top => rw [exp2_sub_top, exp2_sub_top, zero_mul]
    | coe c =>
      induction m using EReal.rec with
      | bot => exact absurd (le_bot_iff.mp h1) (EReal.coe_ne_bot a)
      | top => exact absurd (top_le_iff.mp h2) (EReal.coe_ne_top c)
      | coe b =>
        rw [← EReal.coe_sub, ← EReal.coe_sub, ← EReal.coe_sub]
        show ((Real.rpow 2 (b - c) : ℝ) : EReal) * ((Real.rpow 2 (a - b) : ℝ) : EReal) = ((Real.rpow 2 (a - c) : ℝ) : EReal)
        rw [← EReal.coe_mul]
        refine congrArg _ ?_
        show (2 : ℝ) ^ (b - c) * (2 : ℝ) ^ (a - b) = (2 : ℝ) ^ (a - c)
        rw [← Real.rpow_add (by norm_num)]
        refine congrArg _ ?_
        ring

theorem mul_sum_of {ι : Type} (S : Finset ι) (f : ι → EReal) (a : EReal) (h0 : 0 ≤ a) (h1 : a ≠ ⊤) : a * ∑ k ∈ S, f k = ∑ k ∈ S, a * f k := by
  classical
  induction S using Finset.induction with
  | empty => rw [Finset.sum_empty, Finset.sum_empty, mul_zero]
  | insert x S hx ih => rw [Finset.sum_insert hx, Finset.sum_insert hx, EReal.left_distrib_of_nonneg_of_ne_top h0 h1, ih]

/-! ## The recurrence -/

variable (s : ℕ → EReal)

/-- The greatest of the first `n` scores. -/
def top (n : ℕ) : EReal := (Finset.range n).sup s
/-- The weight of key `k`, once the first `n` keys are seen. -/
def wt (n k : ℕ) : EReal := Ideal.exp2 (s k - top s n)

theorem top_mono {n n' : ℕ} (h : n ≤ n') : top s n ≤ top s n' := Finset.sup_mono (Finset.range_mono h)
theorem le_top' {n k : ℕ} (h : k < n) : s k ≤ top s n := Finset.le_sup (Finset.mem_range.mpr h)
theorem top_add (n w : ℕ) : top s (n + w) = max (top s n) ((Finset.univ : Finset (Fin w)).sup fun j => s (n + j.val)) := by
  apply le_antisymm
  · refine Finset.sup_le fun k hk => ?_
    have hk := Finset.mem_range.mp hk
    by_cases h : k < n
    · exact (le_top' s h).trans (le_max_left _ _)
    · refine le_trans ?_ (le_max_right _ _)
      have := Finset.le_sup (f := fun j : Fin w => s (n + j.val)) (Finset.mem_univ ⟨k - n, by omega⟩)
      rwa [show n + (k - n) = k by omega] at this
  · refine max_le (top_mono s (Nat.le_add_right _ _)) (Finset.sup_le fun j _ => le_top' s (by omega))

theorem wt_add {n w k : ℕ} (h : k < n) : Ideal.exp2 (top s n - top s (n + w)) * wt s n k = wt s (n + w) k :=
  exp2_rescale (le_top' s h) (top_mono s (Nat.le_add_right _ _))

/-- What the buffers hold of a query once `b` blocks of 256 keys are seen: its maximum in every lane, the sum of the weights of
a lane's keys, and the weighted values. -/
structure Row (v : ℕ → ℕ → EReal) (b : ℕ) (m l : Fin 128 → EReal) (c : Fin 128 → EReal) : Prop where
  m : ∀ j, m j = top s (256 * b)
  l : ∀ j, l j = ∑ t ∈ Finset.range (2 * b), wt s (256 * b) (128 * t + j.val)
  c : ∀ d, c d = ∑ k ∈ Finset.range (256 * b), wt s (256 * b) k * v k d.val

variable {s}

theorem Row.zero (v : ℕ → ℕ → EReal) {m l c : Fin 128 → EReal} (hm : ∀ j, m j = ⊥) (hl : ∀ j, l j = 0) (hc : ∀ j, c j = 0) : Row s v 0 m l c :=
  ⟨fun j => (hm j).trans Finset.sup_empty.symm, fun j => (hl j).trans Finset.sum_empty.symm, fun j => (hc j).trans Finset.sum_empty.symm⟩

theorem Row.next {v : ℕ → ℕ → EReal} {b : ℕ} {m l c m' l' c' : Fin 128 → EReal} (h : Row s v b m l c)
    (hm : ∀ j, m' j = max (m j) ((Finset.univ : Finset (Fin 256)).sup fun k => s (256 * b + k.val)))
    (hl : ∀ j, l' j = Ideal.exp2 (m j - m' j) * l j + (Ideal.exp2 (s (256 * b + j.val) - m' j) + Ideal.exp2 (s (256 * b + (128 + j.val)) - m' j)))
    (hc : ∀ d, c' d = Ideal.exp2 (m d - m' d) * c d + ∑ k : Fin 256, Ideal.exp2 (s (256 * b + k.val) - m' d) * v (256 * b + k.val) d.val) :
    Row s v (b + 1) m' l' c' := by
  have em : ∀ j, m' j = top s (256 * b + 256) := fun j => by rw [hm, h.m, top_add]
  have h0 : 0 ≤ Ideal.exp2 (top s (256 * b) - top s (256 * b + 256)) := exp2_nonneg _
  have h1 : Ideal.exp2 (top s (256 * b) - top s (256 * b + 256)) ≠ ⊤ := exp2_sub_ne_top (top_mono s (by omega))
  refine ⟨em, fun j => ?_, fun d => ?_⟩
  · have hj := j.isLt
    rw [hl, h.m, em, h.l, mul_sum_of _ _ _ h0 h1, show 2 * (b + 1) = 2 * b + 1 + 1 by ring, Finset.sum_range_succ, Finset.sum_range_succ, add_assoc]
    refine congrArg₂ _ (Finset.sum_congr rfl fun t ht => ?_) (congrArg₂ _ ?_ ?_)
    · have := Finset.mem_range.mp ht
      exact wt_add s (by omega)
    · show _ = Ideal.exp2 (s (128 * (2 * b) + j.val) - top s (256 * b + 256))
      rw [show 128 * (2 * b) + j.val = 256 * b + j.val by ring]
    · show _ = Ideal.exp2 (s (128 * (2 * b + 1) + j.val) - top s (256 * b + 256))
      rw [show 128 * (2 * b + 1) + j.val = 256 * b + (128 + j.val) by ring]
  · rw [hc, h.m, em, h.c, mul_sum_of _ _ _ h0 h1, show 256 * (b + 1) = 256 * b + 256 by ring, Finset.sum_range_add]
    refine congrArg₂ _ (Finset.sum_congr rfl fun k hk => ?_) ?_
    · rw [← mul_assoc, wt_add s (Finset.mem_range.mp hk)]
    · exact (Finset.sum_range fun k => wt s (256 * b + 256) (256 * b + k) * v (256 * b + k) d.val).symm

/-- A block whose keys are all masked changes nothing. -/
theorem Row.skip {v : ℕ → ℕ → EReal} {b : ℕ} {m l c : Fin 128 → EReal} (h : Row s v b m l c) (hs : ∀ k, k < 256 → s (256 * b + k) = ⊥) :
    Row s v (b + 1) m l c := by
  have e : top s (256 * b + 256) = top s (256 * b) := by
    rw [top_add]
    refine max_eq_left (Finset.sup_le fun j _ => ?_)
    rw [hs j.val j.isLt]
    exact bot_le
  have ew : ∀ k, wt s (256 * b + 256) k = wt s (256 * b) k := fun k => by unfold wt; rw [e]
  have e0 : ∀ k, k < 256 → wt s (256 * b) (256 * b + k) = 0 := fun k hk => by unfold wt; rw [hs k hk, exp2_bot_sub]
  refine ⟨fun j => (h.m j).trans e.symm, fun j => ?_, fun d => ?_⟩
  · have hj := j.isLt
    rw [h.l, show 256 * (b + 1) = 256 * b + 256 by ring, show 2 * (b + 1) = 2 * b + 1 + 1 by ring, Finset.sum_range_succ, Finset.sum_range_succ,
      ew (128 * (2 * b) + j.val), ew (128 * (2 * b + 1) + j.val), show 128 * (2 * b) + j.val = 256 * b + j.val by ring,
      show 128 * (2 * b + 1) + j.val = 256 * b + (128 + j.val) by ring, e0 _ (by omega), e0 _ (by omega), add_zero, add_zero]
    exact Finset.sum_congr rfl fun t _ => (ew _).symm
  · rw [h.c, show 256 * (b + 1) = 256 * b + 256 by ring, Finset.sum_range_add]
    rw [Finset.sum_eq_zero (s := Finset.range 256) fun k hk => by rw [ew, e0 k (Finset.mem_range.mp hk), zero_mul], add_zero]
    exact Finset.sum_congr rfl fun t _ => by rw [ew]

/-- The lanes' sums add up to the sum over all keys. -/
theorem sum_lanes (f : ℕ → EReal) (n : ℕ) : ∑ j : Fin 128, ∑ t ∈ Finset.range n, f (128 * t + j.val) = ∑ k ∈ Finset.range (128 * n), f k := by
  rw [Finset.sum_comm]
  induction n with
  | zero => rfl
  | succ n ih =>
    rw [Finset.sum_range_succ, ih, show 128 * (n + 1) = 128 * n + 128 by ring, Finset.sum_range_add]
    exact congrArg _ (Finset.sum_range fun k => f (128 * n + k)).symm

/-- After the last block the sum over the lanes and the weighted values are those over all the keys. -/
theorem Row.total {v : ℕ → ℕ → EReal} {b N : ℕ} {m l c : Fin 128 → EReal} (h : Row s v b m l c) (hN : 256 * b = N) :
    ∑ j, l j = ∑ k : Fin N, wt s N k.val := by
  subst hN
  rw [Finset.sum_congr rfl fun j _ => h.l j, sum_lanes (fun k => wt s (256 * b) k) (2 * b), show 128 * (2 * b) = 256 * b by ring]
  exact Finset.sum_range _
theorem Row.value {v : ℕ → ℕ → EReal} {b N : ℕ} {m l c : Fin 128 → EReal} (h : Row s v b m l c) (hN : 256 * b = N) (d : Fin 128) :
    c d = ∑ k : Fin N, wt s N k.val * v k.val d.val := by
  subst hN
  rw [h.c]
  exact Finset.sum_range fun k => wt s (256 * b) k * v k d.val

end Cert.AttRow

end
-- ==== Proof.AttPt.lean ====
/- The attention's stores at the ideal instance, element by element. -/
module

public import proofs.«01_k».proof.Proof.AttFrame
public import proofs.«01_k».proof.Proof.AttRow
public import Idealize.ShloMosaic.Lib.Pointwise
public import Idealize.ShloMosaic.Lib.Pipeline.Value

@[expose] public section

noncomputable section

namespace Cert.AttValue
open Idealize.ShloMosaic Idealize.ShloMosaic.TcCoe Idealize.SL.Sem
open Cert.Kernel2Ideal Cert.Kernel2Ideal.Gen Cert.Kernel2Ideal.Hand Cert.AttRow

theorem gMax_apply (s : FVec Ideal S64x256 .f32) (m : FVec Ideal S64x128 .f32) (r : Fin 64) (c : Fin 128) :
    gMax s m (ix2 r c) = max (m (ix2 r c) : EReal) ((Finset.univ : Finset (Fin 256)).sup fun j => (s (ix2 r j) : EReal)) := by
  pointwise [gMax]
  rw [negInf_eq]
  rfl
theorem gAlpha_apply (s : FVec Ideal S64x256 .f32) (m : FVec Ideal S64x128 .f32) (r : Fin 64) (c : Fin 128) :
    gAlpha s m (ix2 r c) = Ideal.exp2 ((m (ix2 r c) : EReal) - (gMax s m (ix2 r c) : EReal)) := by
  pointwise [gAlpha]
  rfl
theorem gP_left (s : FVec Ideal S64x256 .f32) (m : FVec Ideal S64x128 .f32) (r : Fin 64) (c : Fin 128) :
    gP s m (ix2 r ⟨c.val, by omega⟩) = Ideal.exp2 ((s (ix2 r ⟨c.val, by omega⟩) : EReal) - (gMax s m (ix2 r c) : EReal)) := by
  pointwise [gP]
  rfl
theorem gP_right (s : FVec Ideal S64x256 .f32) (m : FVec Ideal S64x128 .f32) (r : Fin 64) (c : Fin 128) :
    gP s m (ix2 r ⟨128 + c.val, by omega⟩) = Ideal.exp2 ((s (ix2 r ⟨128 + c.val, by omega⟩) : EReal) - (gMax s m (ix2 r c) : EReal)) := by
  pointwise [gP]
  rfl
theorem updM_apply (s : FVec Ideal S64x256 .f32) (m : FVec Ideal S64x128 .f32) (r : Fin 64) (c : Fin 128) :
    updM s m (ix2 r c) = gMax s m (ix2 r c) := by
  pointwise [updM]
theorem updA_apply (s : FVec Ideal S64x256 .f32) (m : FVec Ideal S64x128 .f32) (r : Fin 64) (c : Fin 128) :
    updA s m (ix2 r c) = gAlpha s m (ix2 r c) := by
  pointwise [updA]
theorem updP_apply (s : FVec Ideal S64x256 .f32) (m : FVec Ideal S64x128 .f32) (r : Fin 64) (c : Fin 256) :
    updP s m (ix2 r c) = gP s m (ix2 r c) := by
  pointwise [updP]
theorem updL_apply (s : FVec Ideal S64x256 .f32) (m l : FVec Ideal S64x128 .f32) (r : Fin 64) (c : Fin 128) :
    updL s m l (ix2 r c) = (gAlpha s m (ix2 r c) : EReal) * (l (ix2 r c) : EReal)
      + ((gP s m (ix2 r ⟨c.val, by omega⟩) : EReal) + (gP s m (ix2 r ⟨128 + c.val, by omega⟩) : EReal)) := by
  pointwise [updL]
theorem acc512_apply (p : FVec Ideal S512x256 .bf16) (v : FVec Ideal S256x128 .bf16) (a x : FVec Ideal S512x128 .f32) (r : Fin 512) (c : Fin 128) :
    acc512 p v a x (ix2 r c) = (a (ix2 r c) : EReal) * (x (ix2 r c) : EReal) + ∑ k : Fin 256, (p (ix2 r k) : EReal) * (v (ix2 k c) : EReal) := by
  pointwise [acc512]
theorem acc256_apply (p : FVec Ideal S256x256 .bf16) (v : FVec Ideal S256x128 .bf16) (a x : FVec Ideal S256x128 .f32) (r : Fin 256) (c : Fin 128) :
    acc256 p v a x (ix2 r c) = (a (ix2 r c) : EReal) * (x (ix2 r c) : EReal) + ∑ k : Fin 256, (p (ix2 r k) : EReal) * (v (ix2 k c) : EReal) := by
  pointwise [acc256]
theorem scores_apply (q : FVec Ideal S2048x256 .bf16) (k : FVec Ideal S256x256 .bf16) (z : Fin 1) (r : Fin 2048) (c : Fin 256) :
    scores (F := Ideal) q k (ix3 z r c) = ∑ e : Fin 256, (q (ix2 r e) : EReal) * (k (ix2 c e) : EReal) := by
  pointwise [scores]
theorem flat_apply (x : FVec Ideal S1x64x256 .f32) (r : Fin 64) (c : Fin 256) : flat x (ix2 r c) = x (ix3 0 r c) := by
  pointwise [flat]
theorem pay4411_apply (r : Fin 2048) (c : Fin 128) : k0_pay4411 (F := Ideal) (ix2 r c) = (⊥ : EReal) := by
  pointwise [k0_pay4411]
  exact negInf_eq
theorem pay4412_apply (r : Fin 2048) (c : Fin 128) : k0_pay4412 (F := Ideal) (ix2 r c) = (0 : EReal) := by
  pointwise [k0_pay4412]
theorem pay4413_apply (r : Fin 2048) (c : Fin 128) : k0_pay4413 (F := Ideal) (ix2 r c) = (0 : EReal) := by
  pointwise [k0_pay4413]
theorem pay4414_eq (q : FVec Ideal S2048x256 .bf16) (k : FVec Ideal S256x256 .bf16) : k0_pay4414 (F := Ideal) q k = scores (F := Ideal) q k := rfl
theorem pay4_apply (l c : FVec Ideal S2048x128 .f32) (r : Fin 2048) (d : Fin 128) :
    k0_pay4 (F := Ideal) (k0_pay5786 l) c (ix2 r d) = Ideal.div (c (ix2 r d) : EReal) (∑ j : Fin 128, (l (ix2 r j) : EReal)) := by
  pointwise [k0_pay4, k0_pay5786]
theorem maskW_apply (R C : BitVec 32) (s : FVec Ideal S64x256 .f32) (r : Fin 64) (c : Fin 256) :
    maskW R C s (ix2 r c) = if maskC R C (ix2 r c) = 1#1 then (s (ix2 r c) : EReal) else ⊥ := by
  pointwise [maskW]
  rw [negInf_eq]
  rfl

end Cert.AttValue

end
-- ==== Proof.AttStep.lean ====
/- A block's update of the attention's buffers is the recurrence of each of its rows. -/
module

public import proofs.«01_k».proof.Proof.AttRow
public import proofs.«01_k».proof.Proof.AttPt

@[expose] public section

noncomputable section

namespace Cert.AttValue
open Idealize.ShloMosaic Idealize.ShloMosaic.TcCoe Idealize.SL.Sem
open Cert.Kernel2Ideal Cert.Kernel2Ideal.Gen Cert.Kernel2Ideal.Hand Cert.AttRow

/-! ## Reading a buffer after the block's stores -/

section Put
variable {N D : ℕ} {α : Type}

theorem put_in {b W n : ℕ} {hW : 0 < W} {g : ℕ → (⟨2, ![W, D]⟩ : Shape).Idx → α} {X : (⟨2, ![N, D]⟩ : Shape).Idx → α} (i : Fin N) (j : Fin D)
    (h1 : b ≤ i.val) (h2 : i.val < b + W * n) :
    put b W n hW g X (ix2 i j) = g ((i.val - b) / W) (ix2 ⟨(i.val - b) % W, Nat.mod_lt _ hW⟩ j) := if_pos ⟨h1, h2⟩

theorem put_out {b W n : ℕ} {hW : 0 < W} {g : ℕ → (⟨2, ![W, D]⟩ : Shape).Idx → α} {X : (⟨2, ![N, D]⟩ : Shape).Idx → α} (i : Fin N) (j : Fin D)
    (h1 : i.val < b) : put b W n hW g X (ix2 i j) = X (ix2 i j) := if_neg (fun h => by have : b ≤ i.val := h.1; omega)

theorem rowsOf_at {W : ℕ} (hW : 0 < W) (hN : 0 < N) (X : (⟨2, ![N, D]⟩ : Shape).Idx → α) {b : ℕ} (i : Fin N) (j : Fin D) (h1 : b ≤ i.val) :
    rowsOf W hN X (b + W * ((i.val - b) / W)) (ix2 ⟨(i.val - b) % W, Nat.mod_lt _ hW⟩ j) = X (ix2 i j) := by
  have e : b + W * ((i.val - b) / W) + (i.val - b) % W = i.val := by have := Nat.div_add_mod (i.val - b) W; omega
  show X (ix2 ⟨(b + W * ((i.val - b) / W) + (i.val - b) % W) % N, _⟩ ⟨j.val, _⟩) = _
  refine congrArg X (congrArg₂ ix2 (Fin.ext ?_) rfl)
  show (b + W * ((i.val - b) / W) + (i.val - b) % W) % N = i.val
  rw [e, Nat.mod_eq_of_lt i.isLt]

end Put

/-- A row of the buffers after `b` blocks of keys. -/
def RowAt (s : ℕ → EReal) (v : ℕ → ℕ → EReal) (b : ℕ) (X : Sc Ideal) (i : Fin 2048) : Prop :=
  Row s v b (fun j => (X.m (ix2 i j) : EReal)) (fun j => (X.l (ix2 i j) : EReal)) (fun d => (X.c (ix2 i d) : EReal))

section Step
variable {b n : ℕ} {g : ℕ → FVec Ideal S64x256 .f32} {M L A C : Vec Ideal S2048x128 .f32} {P : Vec Ideal S2048x256 .bf16} {V : Vec Ideal S256x128 .bf16}
  {s : ℕ → EReal} {v : ℕ → ℕ → EReal} {B : ℕ} {i : Fin 2048}

theorem newM_at (h1 : b ≤ i.val) (h2 : i.val < b + 64 * n) (hs : ∀ k : Fin 256, g ((i.val - b) / 64) (ix2 ⟨(i.val - b) % 64, Nat.mod_lt _ (by decide)⟩ k) = s (256 * B + k.val))
    (j : Fin 128) : newM b n g M (ix2 i j) = max (M (ix2 i j) : EReal) ((Finset.univ : Finset (Fin 256)).sup fun k => s (256 * B + k.val)) := by
  unfold newM
  rw [put_in i j h1 h2, updM_apply, gMax_apply, rowsOf_at (by decide) _ M i j h1]
  simp only [hs]

theorem gMax_at (h1 : b ≤ i.val) (h2 : i.val < b + 64 * n) (j : Fin 128) :
    gMax (g ((i.val - b) / 64)) (rowsOf 64 (by decide) M (b + 64 * ((i.val - b) / 64))) (ix2 ⟨(i.val - b) % 64, Nat.mod_lt _ (by decide)⟩ j) = newM b n g M (ix2 i j) := by
  unfold newM
  rw [put_in i j h1 h2, updM_apply]

theorem newA_at (h1 : b ≤ i.val) (h2 : i.val < b + 64 * n) (j : Fin 128) :
    newA b n g M A (ix2 i j) = Ideal.exp2 ((M (ix2 i j) : EReal) - (newM b n g M (ix2 i j) : EReal)) := by
  unfold newA
  rw [put_in i j h1 h2, updA_apply, gAlpha_apply, rowsOf_at (by decide) _ M i j h1, gMax_at h1 h2]

theorem newL_at (h1 : b ≤ i.val) (h2 : i.val < b + 64 * n) (hs : ∀ k : Fin 256, g ((i.val - b) / 64) (ix2 ⟨(i.val - b) % 64, Nat.mod_lt _ (by decide)⟩ k) = s (256 * B + k.val))
    (j : Fin 128) : newL b n g M L (ix2 i j) = Ideal.exp2 ((M (ix2 i j) : EReal) - (newM b n g M (ix2 i j) : EReal)) * (L (ix2 i j) : EReal)
      + (Ideal.exp2 (s (256 * B + j.val) - (newM b n g M (ix2 i j) : EReal)) + Ideal.exp2 (s (256 * B + (128 + j.val)) - (newM b n g M (ix2 i j) : EReal))) := by
  unfold newL
  rw [put_in i j h1 h2, updL_apply, gAlpha_apply, rowsOf_at (by decide) _ M i j h1, rowsOf_at (by decide) _ L i j h1, gMax_at h1 h2, gP_left, gP_right, gMax_at h1 h2, hs, hs]

theorem newP_at (h1 : b ≤ i.val) (h2 : i.val < b + 64 * n) (hs : ∀ k : Fin 256, g ((i.val - b) / 64) (ix2 ⟨(i.val - b) % 64, Nat.mod_lt _ (by decide)⟩ k) = s (256 * B + k.val))
    (hm : ∀ j j' : Fin 128, (newM b n g M (ix2 i j) : EReal) = newM b n g M (ix2 i j')) (d : Fin 128) (k : Fin 256) :
    newP b n g M P (ix2 i k) = Ideal.exp2 (s (256 * B + k.val) - (newM b n g M (ix2 i d) : EReal)) := by
  unfold newP
  rw [put_in i k h1 h2, updP_apply]
  by_cases hk : k.val < 128
  · have := gP_left (g ((i.val - b) / 64)) (rowsOf 64 (by decide) M (b + 64 * ((i.val - b) / 64))) ⟨(i.val - b) % 64, Nat.mod_lt _ (by decide)⟩ ⟨k.val, hk⟩
    refine this.trans ?_
    rw [gMax_at h1 h2, hm _ d]
    exact congrArg (fun z => Ideal.exp2 (z - _)) (hs k)
  · have hk' := k.isLt
    have e : (⟨128 + (k.val - 128), by omega⟩ : Fin 256) = k := Fin.ext (by show 128 + (k.val - 128) = k.val; omega)
    have := gP_right (g ((i.val - b) / 64)) (rowsOf 64 (by decide) M (b + 64 * ((i.val - b) / 64))) ⟨(i.val - b) % 64, Nat.mod_lt _ (by decide)⟩ ⟨k.val - 128, by omega⟩
    simp only [e] at this
    refine this.trans ?_
    rw [gMax_at h1 h2, hm _ d]
    exact congrArg (fun z => Ideal.exp2 (z - _)) (hs k)

theorem new512_at {m : ℕ} (h1 : b ≤ i.val) (h2 : i.val < b + 512 * m) (d : Fin 128) :
    new512 b m V P A C (ix2 i d) = (A (ix2 i d) : EReal) * (C (ix2 i d) : EReal) + ∑ k : Fin 256, (P (ix2 i k) : EReal) * (V (ix2 k d) : EReal) := by
  unfold new512
  rw [put_in i d h1 h2, acc512_apply, rowsOf_at (by decide) _ A i d h1, rowsOf_at (by decide) _ C i d h1]
  exact congrArg _ (Finset.sum_congr rfl fun k _ => by rw [rowsOf_at (by decide) _ P i k h1])

theorem new256_at {m : ℕ} (h1 : b ≤ i.val) (h2 : i.val < b + 256 * m) (d : Fin 128) :
    new256 b m V P A C (ix2 i d) = (A (ix2 i d) : EReal) * (C (ix2 i d) : EReal) + ∑ k : Fin 256, (P (ix2 i k) : EReal) * (V (ix2 k d) : EReal) := by
  unfold new256
  rw [put_in i d h1 h2, acc256_apply, rowsOf_at (by decide) _ A i d h1, rowsOf_at (by decide) _ C i d h1]
  exact congrArg _ (Finset.sum_congr rfl fun k _ => by rw [rowsOf_at (by decide) _ P i k h1])

variable {X : Sc Ideal}

theorem newM_flat (h : RowAt s v B X i) (h1 : b ≤ i.val) (h2 : i.val < b + 64 * n)
    (hs : ∀ k : Fin 256, g ((i.val - b) / 64) (ix2 ⟨(i.val - b) % 64, Nat.mod_lt _ (by decide)⟩ k) = s (256 * B + k.val))
    (j j' : Fin 128) : (newM b n g X.m (ix2 i j) : EReal) = newM b n g X.m (ix2 i j') := by
  have e : (X.m (ix2 i j) : EReal) = X.m (ix2 i j') := (h.m j).trans (h.m j').symm
  rw [newM_at h1 h2 hs, newM_at h1 h2 hs, e]

theorem step512 {m : ℕ} (h : RowAt s v B X i) (h1 : b ≤ i.val) (h2 : i.val < b + 64 * n) (h3 : i.val < b + 512 * m)
    (hs : ∀ k : Fin 256, g ((i.val - b) / 64) (ix2 ⟨(i.val - b) % 64, Nat.mod_lt _ (by decide)⟩ k) = s (256 * B + k.val))
    (hv : ∀ (k : Fin 256) (d : Fin 128), V (ix2 k d) = v (256 * B + k.val) d.val) : RowAt s v (B + 1) (dStep512 b n m g V X) i :=
  Row.next h (newM_at h1 h2 hs) (newL_at h1 h2 hs) fun d =>
    (new512_at h1 h3 d).trans (congrArg₂ _ (by rw [newA_at h1 h2]; rfl) (Finset.sum_congr rfl fun k _ => by
      rw [newP_at h1 h2 hs (newM_flat h h1 h2 hs) d k, hv]; rfl))

theorem step256 {m : ℕ} (h : RowAt s v B X i) (h1 : b ≤ i.val) (h2 : i.val < b + 64 * n) (h3 : i.val < b + 256 * m)
    (hs : ∀ k : Fin 256, g ((i.val - b) / 64) (ix2 ⟨(i.val - b) % 64, Nat.mod_lt _ (by decide)⟩ k) = s (256 * B + k.val))
    (hv : ∀ (k : Fin 256) (d : Fin 128), V (ix2 k d) = v (256 * B + k.val) d.val) : RowAt s v (B + 1) (dStep256 b n m g V X) i :=
  Row.next h (newM_at h1 h2 hs) (newL_at h1 h2 hs) fun d =>
    (new256_at h1 h3 d).trans (congrArg₂ _ (by rw [newA_at h1 h2]; rfl) (Finset.sum_congr rfl fun k _ => by
      rw [newP_at h1 h2 hs (newM_flat h h1 h2 hs) d k, hv]; rfl))

theorem RowAt.same {Y : Sc Ideal} (h : RowAt s v B X i) (em : ∀ j, Y.m (ix2 i j) = X.m (ix2 i j)) (el : ∀ j, Y.l (ix2 i j) = X.l (ix2 i j))
    (ec : ∀ j, Y.c (ix2 i j) = X.c (ix2 i j)) : RowAt s v B Y i :=
  ⟨fun j => (em j).trans (h.m j), fun j => (el j).trans (h.l j), fun d => (ec d).trans (h.c d)⟩

theorem newM_out (h1 : i.val < b) (j : Fin 128) : newM b n g M (ix2 i j) = M (ix2 i j) := by
  unfold newM
  exact put_out i j h1
theorem newL_out (h1 : i.val < b) (j : Fin 128) : newL b n g M L (ix2 i j) = L (ix2 i j) := by
  unfold newL
  exact put_out i j h1
theorem new512_out {m : ℕ} (h1 : i.val < b) (j : Fin 128) : new512 b m V P A C (ix2 i j) = C (ix2 i j) := by
  unfold new512
  exact put_out i j h1
theorem new256_out {m : ℕ} (h1 : i.val < b) (j : Fin 128) : new256 b m V P A C (ix2 i j) = C (ix2 i j) := by
  unfold new256
  exact put_out i j h1

theorem skip512 {m : ℕ} (h : RowAt s v B X i) (h1 : i.val < b) (hs : ∀ k, k < 256 → s (256 * B + k) = ⊥) : RowAt s v (B + 1) (dStep512 b n m g V X) i :=
  Row.skip (h.same (Y := dStep512 b n m g V X) (fun j => newM_out h1 j) (fun j => newL_out h1 j) (fun j => new512_out h1 j)) hs

theorem skip256 {m : ℕ} (h : RowAt s v B X i) (h1 : i.val < b) (hs : ∀ k, k < 256 → s (256 * B + k) = ⊥) : RowAt s v (B + 1) (dStep256 b n m g V X) i :=
  Row.skip (h.same (Y := dStep256 b n m g V X) (fun j => newM_out h1 j) (fun j => newL_out h1 j) (fun j => new256_out h1 j)) hs

end Step

/-! ## A trip of the loop over the keys -/

/-- The buffers after `t` of the trip's sub-blocks. -/
def seqSc (w : ℕ → Vec Ideal S1x2048x256 .f32) (V : Fin 8 → Vec Ideal S256x128 .bf16) (X : Sc Ideal) (t : ℕ) : Sc Ideal where
  w := w t
  p := seqP w X.m X.p t
  a := seqA w X.m X.a t
  m := seqM w X.m t
  l := seqL w X.m X.l t
  c := seqC w V X.m X.p X.a X.c t

theorem grp_at (w : Vec Ideal S1x2048x256 .f32) (i : Fin 2048) (k : Fin 256) :
    grp w ((i.val - 0) / 64) (ix2 ⟨(i.val - 0) % 64, Nat.mod_lt _ (by decide)⟩ k) = w (ix3 ⟨0, by decide⟩ i k) := by
  unfold grp
  rw [flat_apply]
  refine congrArg w (congrArg (fun z => ix3 _ z k) (Fin.ext ?_))
  show (64 * ((i.val - 0) / 64) + (i.val - 0) % 64) % 2048 = i.val
  rw [Nat.div_add_mod, Nat.sub_zero, Nat.mod_eq_of_lt i.isLt]

theorem seq_row {w : ℕ → Vec Ideal S1x2048x256 .f32} {V : Fin 8 → Vec Ideal S256x128 .bf16} {X : Sc Ideal} {s : ℕ → EReal} {v : ℕ → ℕ → EReal} {B : ℕ} {i : Fin 2048}
    (h : RowAt s v B X i) (hs : ∀ t, t < 8 → ∀ k : Fin 256, w t (ix3 ⟨0, by decide⟩ i k) = s (256 * (B + t) + k.val))
    (hv : ∀ (t : Fin 8) (k : Fin 256) (d : Fin 128), V t (ix2 k d) = v (256 * (B + t.val) + k.val) d.val) :
    ∀ t, t ≤ 8 → RowAt s v (B + t) (seqSc w V X t) i := by
  intro t
  induction t with
  | zero => exact fun _ => h.same (fun _ => rfl) (fun _ => rfl) (fun _ => rfl)
  | succ t ih =>
    intro ht
    have hi := i.isLt
    have := step512 (b := 0) (n := 32) (m := 4) (g := grp (w t)) (V := V ⟨t % 8, Nat.mod_lt _ (by decide)⟩) (ih (by omega)) (Nat.zero_le _) (by omega) (by omega)
      (fun k => (grp_at (w t) i k).trans (hs t (by omega) k))
      (fun k d => (hv ⟨t % 8, Nat.mod_lt _ (by decide)⟩ k d).trans (by show v (256 * (B + t % 8) + k.val) d.val = _; rw [Nat.mod_eq_of_lt (by omega : t < 8)]))
    exact this.same (fun _ => rfl) (fun _ => rfl) (fun _ => rfl)

end Cert.AttValue

end
-- ==== Proof.AttTile.lean ====
/- A tile of the attention's results: the masked softmax of each of its queries. -/
module

public import proofs.«01_k».proof.Proof.AttStep

@[expose] public section

noncomputable section

namespace Cert.AttValue
open Idealize.ShloMosaic Idealize.ShloMosaic.TcCoe Idealize.SL.Sem
open Cert.Kernel2Ideal Cert.Kernel2Ideal.Gen Cert.Kernel2Ideal.Hand Cert.AttRow

/-! ## The mask -/

/-- The chunk of 64 a number is in. -/
def chunk1 (x : BitVec 32) : BitVec 32 := chunkOf (fun _ => x) (ix2 0 0)
theorem chunkOf_at (v : IVec S64x256 32) (y : S64x256.Idx) : chunkOf v y = chunk1 (v y) := by
  pointwise [chunkOf, chunk1]
theorem chunk1_eq : ∀ n : Fin 2048, chunk1 (BitVec.ofNat 32 n.val) = BitVec.ofNat 32 (n.val / 64) := by decide +kernel
theorem le_chunk : ∀ a b : Fin 32, (Scalar.cmpi .sle (BitVec.ofNat 32 a.val) (BitVec.ofNat 32 b.val) = 1#1) ↔ a.val ≤ b.val := by decide +kernel

theorem maskC_at (c r0 : ℕ) (hc : c + 256 ≤ 2048) (hr : r0 + 64 ≤ 2048) (r : Fin 64) (k : Fin 256) :
    maskC (BitVec.ofNat 32 r0) (BitVec.ofNat 32 c) (ix2 r k) = 1#1 ↔ (c + k.val) / 64 ≤ (r0 + r.val) / 64 := by
  have h1 := r.isLt
  have h2 := k.isLt
  have e1 : chunkOf (addi (broadcast S64x256 (BitVec.ofNat 32 c)) (iota .tc S64x256 32 [1] iota_S64x256_d1_w32)) (ix2 r k) = BitVec.ofNat 32 ((c + k.val) / 64) := by
    rw [chunkOf_at]
    have : (addi (broadcast S64x256 (BitVec.ofNat 32 c)) (iota .tc S64x256 32 [1] iota_S64x256_d1_w32)) (ix2 r k) = BitVec.ofNat 32 (c + k.val) := by
      rw [BitVec.ofNat_add]
      pointwise []
      rfl
    rw [this]
    exact chunk1_eq ⟨c + k.val, by omega⟩
  have e2 : chunkOf (addi (broadcast S64x256 (BitVec.ofNat 32 r0)) (iota .tc S64x256 32 [0] iota_S64x256_d0_w32)) (ix2 r k) = BitVec.ofNat 32 ((r0 + r.val) / 64) := by
    rw [chunkOf_at]
    have : (addi (broadcast S64x256 (BitVec.ofNat 32 r0)) (iota .tc S64x256 32 [0] iota_S64x256_d0_w32)) (ix2 r k) = BitVec.ofNat 32 (r0 + r.val) := by
      rw [BitVec.ofNat_add]
      pointwise []
      rfl
    rw [this]
    exact chunk1_eq ⟨r0 + r.val, by omega⟩
  have e3 : maskC (BitVec.ofNat 32 r0) (BitVec.ofNat 32 c) (ix2 r k) = Scalar.cmpi .sle (BitVec.ofNat 32 ((c + k.val) / 64)) (BitVec.ofNat 32 ((r0 + r.val) / 64)) := by
    rw [← e1, ← e2]
    rfl
  rw [e3]
  exact le_chunk ⟨(c + k.val) / 64, by omega⟩ ⟨(r0 + r.val) / 64, by omega⟩

theorem grpMask_at (b : ℕ) (g : ℕ → FVec Ideal S64x256 .f32) (n : ℕ) (hn : b + 64 * n + 64 ≤ 2048) (hb : b + 256 ≤ 2048) (h64 : b % 64 = 0) (r : Fin 64) (k : Fin 256) :
    grpMask (BitVec.ofNat 32 b) (BitVec.ofNat 32 (b + 64)) (BitVec.ofNat 32 (b + 128)) g n (ix2 r k)
      = if (b + k.val) / 64 ≤ (b + 64 * n + r.val) / 64 then (g n (ix2 r k) : EReal) else ⊥ := by
  have hr := r.isLt
  have hk := k.isLt
  match n, hn with
  | 0, _ => exact (maskW_apply _ _ _ r k).trans (if_congr (maskC_at b b (by omega) (by omega) r k) rfl rfl)
  | 1, _ => exact (maskW_apply _ _ _ r k).trans (if_congr (maskC_at b (b + 64) (by omega) (by omega) r k) rfl rfl)
  | 2, _ => exact (maskW_apply _ _ _ r k).trans (if_congr (maskC_at b (b + 128) (by omega) (by omega) r k) rfl rfl)
  | n + 3, _ => exact (if_pos (by omega)).symm

/-! ## The scores -/

def rowi (q : ℕ) : Fin 4096 := ⟨q % 4096, Nat.mod_lt _ (by decide)⟩
theorem rowi_eq {q : ℕ} (h : q < 4096) : rowi q = ⟨q, h⟩ := Fin.ext (Nat.mod_eq_of_lt h)
/-- The product of query `q` with key `k`, and the same masked. -/
def raw (x2 x3 : Vec Ideal S4096x256 .bf16) (q k : ℕ) : EReal := ∑ e : Fin 256, (x2 (ix2 (rowi q) e) : EReal) * (x3 (ix2 (rowi k) e) : EReal)
def scv (x2 x3 : Vec Ideal S4096x256 .bf16) (q k : ℕ) : EReal := if k / 64 ≤ q / 64 then raw x2 x3 q k else ⊥
def vv (x4 : Vec Ideal S4096x128 .bf16) (k d : ℕ) : EReal := x4 (ix2 (rowi k) ⟨d % 128, Nat.mod_lt _ (by decide)⟩)

theorem read_at {W D o : ℕ} {α : Type} (x : (⟨2, ![4096, D]⟩ : Shape).Idx → α) {off : Fin 2 → ℕ}
    (inb : ∀ a, off a + (⟨2, ![W, D]⟩ : Shape).size a ≤ (⟨2, ![4096, D]⟩ : Shape).size a) (hoff : off = ![o, 0]) (r : Fin W) (e : Fin D) :
    x ((Rect.unit (s := ⟨2, ![4096, D]⟩) off (⟨2, ![W, D]⟩ : Shape).size inb).toLoadRect.idx (ix2 r e)) = x (ix2 (rowi (o + r.val)) e) := by
  subst hoff
  refine congrArg x ?_
  have hr := r.isLt
  have hb : o + W ≤ 4096 := inb 0
  funext a
  apply Fin.ext
  match a with
  | ⟨0, _⟩ => show o + 1 * r.val = (o + r.val) % 4096; rw [Nat.mod_eq_of_lt (by omega), Nat.one_mul]
  | ⟨1, _⟩ => show 0 + 1 * e.val = e.val; omega

theorem vv_at (x4 : Vec Ideal S4096x128 .bf16) {o k' : ℕ} (k : Fin 256) (d : Fin 128) (h : o + k.val = k') : (x4 (ix2 (rowi (o + k.val)) d) : EReal) = vv x4 k' d.val := by
  subst h
  exact congrArg (fun z => x4 (ix2 _ z)) (Fin.ext (Nat.mod_eq_of_lt d.isLt).symm)

theorem kBlock_at (t1 : Fin k0_t1_loop.trips) (t2 : Fin (k0_t2_loop t1).trips) (x3 : Vec Ideal S4096x256 .bf16) (r : Fin 8) (k e : Fin 256) :
    kBlock t1 t2 x3 r (ix2 k e) = x3 (ix2 (rowi (2048 * t2.val + 256 * r.val + 256 + k.val)) e) := read_at x3 _ (k0_off3_eq t1 t2 r) k e
theorem vBlock_at (t1 : Fin k0_t1_loop.trips) (t2 : Fin (k0_t2_loop t1).trips) (x4 : Vec Ideal S4096x128 .bf16) (r : Fin 8) (k : Fin 256) (d : Fin 128) :
    vBlock t1 t2 x4 r (ix2 k d) = x4 (ix2 (rowi (2048 * t2.val + 256 * r.val + k.val)) d) := read_at x4 _ (k0_off4_eq t1 t2 r) k d
theorem qBlock_at (t1 : Fin k0_t1_loop.trips) (x2 : Vec Ideal S4096x256 .bf16) (i : Fin 2048) (e : Fin 256) :
    qBlock t1 x2 (ix2 i e) = x2 (ix2 (rowi (2048 * t1.val + i.val)) e) := read_at x2 _ (k0_off2_eq t1) i e
theorem dk_at (t1 : Fin k0_t1_loop.trips) (x3 : Vec Ideal S4096x256 .bf16) (r : Fin 7) (k e : Fin 256) :
    dk t1 x3 r (ix2 k e) = x3 (ix2 (rowi (2048 * t1.val + 256 * r.val + 256 + k.val)) e) := read_at x3 _ (k0_off9_eq t1 r) k e
theorem dv_at (t1 : Fin k0_t1_loop.trips) (x4 : Vec Ideal S4096x128 .bf16) (r : Fin 8) (k : Fin 256) (d : Fin 128) :
    dv t1 x4 r (ix2 k d) = x4 (ix2 (rowi (2048 * t1.val + 256 * r.val + k.val)) d) := read_at x4 _ (k0_off10_eq t1 r) k d

/-- The masked groups of a diagonal block are the masked scores. -/
theorem diag_group {R : ℕ} (hR : 0 < R) (w : Vec Ideal (⟨3, ![1, R, 256]⟩ : Shape) .f32) {x2 x3 : Vec Ideal S4096x256 .bf16} {T b B : ℕ}
    (hw : ∀ (j : Fin R) (k : Fin 256), w (ix3 ⟨0, by decide⟩ j k) = raw x2 x3 (T + b + j.val) (T + b + k.val))
    (hb : b + R = 2048) (h256 : 256 ≤ R) (h64 : b % 64 = 0) (hT : T % 64 = 0) (hB : 256 * B = T + b) (i : Fin 2048) (hi : b ≤ i.val) (k : Fin 256) :
    grpMask (BitVec.ofNat 32 b) (BitVec.ofNat 32 (b + 64)) (BitVec.ofNat 32 (b + 128)) (fun n => flat (slotRows hR w n)) ((i.val - b) / 64)
      (ix2 ⟨(i.val - b) % 64, Nat.mod_lt _ (by decide)⟩ k) = scv x2 x3 (T + i.val) (256 * B + k.val) := by
  have h1 := i.isLt
  have h2 := k.isLt
  refine (grpMask_at b _ _ (by omega) (by omega) h64 _ k).trans ?_
  unfold scv
  refine if_congr ?_ ?_ rfl
  · show (b + k.val) / 64 ≤ (b + 64 * ((i.val - b) / 64) + (i.val - b) % 64) / 64 ↔ (256 * B + k.val) / 64 ≤ (T + i.val) / 64
    omega
  · rw [flat_apply]
    have e : slotRows hR w ((i.val - b) / 64) (ix3 0 ⟨(i.val - b) % 64, Nat.mod_lt _ (by decide)⟩ k) = w (ix3 ⟨0, by decide⟩ ⟨i.val - b, by omega⟩ k) := by
      refine congrArg w (congrArg (fun z => ix3 _ z k) (Fin.ext ?_))
      show (64 * ((i.val - b) / 64) + (i.val - b) % 64) % R = i.val - b
      rw [Nat.div_add_mod, Nat.mod_eq_of_lt (by omega)]
    rw [e, hw, hB]
    refine congrArg (fun z => raw x2 x3 z (T + b + k.val)) ?_
    show T + b + (i.val - b) = T + i.val
    omega

theorem masked {x2 x3 : Vec Ideal S4096x256 .bf16} {q k : ℕ} (h : q / 64 < k / 64) : scv x2 x3 q k = ⊥ := if_neg (by omega)

/-! ## The diagonal -/

section Diag
variable (t1 : Fin k0_t1_loop.trips) (x2 x3 : Vec Ideal S4096x256 .bf16) (x4 : Vec Ideal S4096x128 .bf16)

theorem dS1_at (j : Fin 1792) (k : Fin 256) : dS1 t1 x2 x3 (ix3 ⟨0, by decide⟩ j k) = raw x2 x3 (2048 * t1.val + 256 + j.val) (2048 * t1.val + 256 + k.val) := by
  have e : dS1 t1 x2 x3 (ix3 ⟨0, by decide⟩ j k) = ∑ e : Fin 256, (dq1 t1 x2 (ix2 j e) : EReal) * (dk t1 x3 0 (ix2 k e) : EReal) := by
    pointwise [dS1]
  rw [e]
  refine Finset.sum_congr rfl fun e _ => congrArg₂ _ (read_at x2 _ (k0_off8_eq t1) j e) (dk_at t1 x3 0 k e)
theorem dS2_at (j : Fin 1536) (k : Fin 256) : dS2 t1 x2 x3 (ix3 ⟨0, by decide⟩ j k) = raw x2 x3 (2048 * t1.val + 512 + j.val) (2048 * t1.val + 512 + k.val) := by
  have e : dS2 t1 x2 x3 (ix3 ⟨0, by decide⟩ j k) = ∑ e : Fin 256, (dq2 t1 x2 (ix2 j e) : EReal) * (dk t1 x3 1 (ix2 k e) : EReal) := by
    pointwise [dS2]
  rw [e]
  refine Finset.sum_congr rfl fun e _ => congrArg₂ _ (read_at x2 _ (k0_off11_eq t1) j e) (dk_at t1 x3 1 k e)
theorem dS3_at (j : Fin 1280) (k : Fin 256) : dS3 t1 x2 x3 (ix3 ⟨0, by decide⟩ j k) = raw x2 x3 (2048 * t1.val + 768 + j.val) (2048 * t1.val + 768 + k.val) := by
  have e : dS3 t1 x2 x3 (ix3 ⟨0, by decide⟩ j k) = ∑ e : Fin 256, (dq3 t1 x2 (ix2 j e) : EReal) * (dk t1 x3 2 (ix2 k e) : EReal) := by
    pointwise [dS3]
  rw [e]
  refine Finset.sum_congr rfl fun e _ => congrArg₂ _ (read_at x2 _ (k0_off12_eq t1) j e) (dk_at t1 x3 2 k e)
theorem dS4_at (j : Fin 1024) (k : Fin 256) : dS4 t1 x2 x3 (ix3 ⟨0, by decide⟩ j k) = raw x2 x3 (2048 * t1.val + 1024 + j.val) (2048 * t1.val + 1024 + k.val) := by
  have e : dS4 t1 x2 x3 (ix3 ⟨0, by decide⟩ j k) = ∑ e : Fin 256, (dq4 t1 x2 (ix2 j e) : EReal) * (dk t1 x3 3 (ix2 k e) : EReal) := by
    pointwise [dS4]
  rw [e]
  refine Finset.sum_congr rfl fun e _ => congrArg₂ _ (read_at x2 _ (k0_off13_eq t1) j e) (dk_at t1 x3 3 k e)
theorem dS5_at (j : Fin 768) (k : Fin 256) : dS5 t1 x2 x3 (ix3 ⟨0, by decide⟩ j k) = raw x2 x3 (2048 * t1.val + 1280 + j.val) (2048 * t1.val + 1280 + k.val) := by
  have e : dS5 t1 x2 x3 (ix3 ⟨0, by decide⟩ j k) = ∑ e : Fin 256, (dq5 t1 x2 (ix2 j e) : EReal) * (dk t1 x3 4 (ix2 k e) : EReal) := by
    pointwise [dS5]
  rw [e]
  refine Finset.sum_congr rfl fun e _ => congrArg₂ _ (read_at x2 _ (k0_off14_eq t1) j e) (dk_at t1 x3 4 k e)
theorem dS6_at (j : Fin 512) (k : Fin 256) : dS6 t1 x2 x3 (ix3 ⟨0, by decide⟩ j k) = raw x2 x3 (2048 * t1.val + 1536 + j.val) (2048 * t1.val + 1536 + k.val) := by
  have e : dS6 t1 x2 x3 (ix3 ⟨0, by decide⟩ j k) = ∑ e : Fin 256, (dq6 t1 x2 (ix2 j e) : EReal) * (dk t1 x3 5 (ix2 k e) : EReal) := by
    pointwise [dS6]
  rw [e]
  refine Finset.sum_congr rfl fun e _ => congrArg₂ _ (read_at x2 _ (k0_off15_eq t1) j e) (dk_at t1 x3 5 k e)
theorem dS7_at (j : Fin 256) (k : Fin 256) : dS7 t1 x2 x3 (ix3 ⟨0, by decide⟩ j k) = raw x2 x3 (2048 * t1.val + 1792 + j.val) (2048 * t1.val + 1792 + k.val) := by
  have e : dS7 t1 x2 x3 (ix3 ⟨0, by decide⟩ j k) = ∑ e : Fin 256, (dq7 t1 x2 (ix2 j e) : EReal) * (dk t1 x3 6 (ix2 k e) : EReal) := by
    pointwise [dS7]
  rw [e]
  refine Finset.sum_congr rfl fun e _ => congrArg₂ _ (read_at x2 _ (k0_off16_eq t1) j e) (dk_at t1 x3 6 k e)

variable {t1 x2 x3 x4} {X : Sc Ideal} {i : Fin 2048}

theorem diag1 (h : RowAt (scv x2 x3 (2048 * t1.val + i.val)) (vv x4) (8 * t1.val) X i)
    (hw : ∀ (j : Fin 2048) (k : Fin 256), X.w (ix3 ⟨0, by decide⟩ j k) = raw x2 x3 (2048 * t1.val + 0 + j.val) (2048 * t1.val + 0 + k.val)) :
    RowAt (scv x2 x3 (2048 * t1.val + i.val)) (vv x4) (8 * t1.val + 1) (dSt1 t1 x2 x3 x4 X) i := by
  have hi := i.isLt
  unfold dSt1
  exact step512 h (Nat.zero_le _) (by omega) (by omega)
    (diag_group (by decide : 0 < 2048) X.w hw (by decide) (by decide) (by decide) (by omega) (by omega) i (Nat.zero_le _))
    fun k d => (dv_at t1 x4 0 k d).trans (vv_at x4 k d (by show 2048 * t1.val + 256 * 0 + k.val = _; omega))
theorem diag2 (h : RowAt (scv x2 x3 (2048 * t1.val + i.val)) (vv x4) (8 * t1.val + 1) (dSt1 t1 x2 x3 x4 X) i) :
    RowAt (scv x2 x3 (2048 * t1.val + i.val)) (vv x4) (8 * t1.val + 2) (dSt2 t1 x2 x3 x4 X) i := by
  have hi := i.isLt
  unfold dSt2
  by_cases hb : 256 ≤ i.val
  · exact step256 h hb (by omega) (by omega)
      (diag_group (by decide : 0 < 1792) (dS1 t1 x2 x3) (dS1_at t1 x2 x3) (by decide) (by decide) (by decide) (by omega) (by omega) i hb)
      fun k d => (dv_at t1 x4 1 k d).trans (vv_at x4 k d (by show 2048 * t1.val + 256 * 1 + k.val = _; omega))
  · exact skip256 h (by omega) fun k hk => masked (by omega)
theorem diag3 (h : RowAt (scv x2 x3 (2048 * t1.val + i.val)) (vv x4) (8 * t1.val + 2) (dSt2 t1 x2 x3 x4 X) i) :
    RowAt (scv x2 x3 (2048 * t1.val + i.val)) (vv x4) (8 * t1.val + 3) (dSt3 t1 x2 x3 x4 X) i := by
  have hi := i.isLt
  unfold dSt3
  by_cases hb : 512 ≤ i.val
  · exact step512 h hb (by omega) (by omega)
      (diag_group (by decide : 0 < 1536) (dS2 t1 x2 x3) (dS2_at t1 x2 x3) (by decide) (by decide) (by decide) (by omega) (by omega) i hb)
      fun k d => (dv_at t1 x4 2 k d).trans (vv_at x4 k d (by show 2048 * t1.val + 256 * 2 + k.val = _; omega))
  · exact skip512 h (by omega) fun k hk => masked (by omega)
theorem diag4 (h : RowAt (scv x2 x3 (2048 * t1.val + i.val)) (vv x4) (8 * t1.val + 3) (dSt3 t1 x2 x3 x4 X) i) :
    RowAt (scv x2 x3 (2048 * t1.val + i.val)) (vv x4) (8 * t1.val + 4) (dSt4 t1 x2 x3 x4 X) i := by
  have hi := i.isLt
  unfold dSt4
  by_cases hb : 768 ≤ i.val
  · exact step256 h hb (by omega) (by omega)
      (diag_group (by decide : 0 < 1280) (dS3 t1 x2 x3) (dS3_at t1 x2 x3) (by decide) (by decide) (by decide) (by omega) (by omega) i hb)
      fun k d => (dv_at t1 x4 3 k d).trans (vv_at x4 k d (by show 2048 * t1.val + 256 * 3 + k.val = _; omega))
  · exact skip256 h (by omega) fun k hk => masked (by omega)
theorem diag5 (h : RowAt (scv x2 x3 (2048 * t1.val + i.val)) (vv x4) (8 * t1.val + 4) (dSt4 t1 x2 x3 x4 X) i) :
    RowAt (scv x2 x3 (2048 * t1.val + i.val)) (vv x4) (8 * t1.val + 5) (dSt5 t1 x2 x3 x4 X) i := by
  have hi := i.isLt
  unfold dSt5
  by_cases hb : 1024 ≤ i.val
  · exact step512 h hb (by omega) (by omega)
      (diag_group (by decide : 0 < 1024) (dS4 t1 x2 x3) (dS4_at t1 x2 x3) (by decide) (by decide) (by decide) (by omega) (by omega) i hb)
      fun k d => (dv_at t1 x4 4 k d).trans (vv_at x4 k d (by show 2048 * t1.val + 256 * 4 + k.val = _; omega))
  · exact skip512 h (by omega) fun k hk => masked (by omega)
theorem diag6 (h : RowAt (scv x2 x3 (2048 * t1.val + i.val)) (vv x4) (8 * t1.val + 5) (dSt5 t1 x2 x3 x4 X) i) :
    RowAt (scv x2 x3 (2048 * t1.val + i.val)) (vv x4) (8 * t1.val + 6) (dSt6 t1 x2 x3 x4 X) i := by
  have hi := i.isLt
  unfold dSt6
  by_cases hb : 1280 ≤ i.val
  · exact step256 h hb (by omega) (by omega)
      (diag_group (by decide : 0 < 768) (dS5 t1 x2 x3) (dS5_at t1 x2 x3) (by decide) (by decide) (by decide) (by omega) (by omega) i hb)
      fun k d => (dv_at t1 x4 5 k d).trans (vv_at x4 k d (by show 2048 * t1.val + 256 * 5 + k.val = _; omega))
  · exact skip256 h (by omega) fun k hk => masked (by omega)
theorem diag7 (h : RowAt (scv x2 x3 (2048 * t1.val + i.val)) (vv x4) (8 * t1.val + 6) (dSt6 t1 x2 x3 x4 X) i) :
    RowAt (scv x2 x3 (2048 * t1.val + i.val)) (vv x4) (8 * t1.val + 7) (dSt7 t1 x2 x3 x4 X) i := by
  have hi := i.isLt
  unfold dSt7
  by_cases hb : 1536 ≤ i.val
  · exact step512 h hb (by omega) (by omega)
      (diag_group (by decide : 0 < 512) (dS6 t1 x2 x3) (dS6_at t1 x2 x3) (by decide) (by decide) (by decide) (by omega) (by omega) i hb)
      fun k d => (dv_at t1 x4 6 k d).trans (vv_at x4 k d (by show 2048 * t1.val + 256 * 6 + k.val = _; omega))
  · exact skip512 h (by omega) fun k hk => masked (by omega)
theorem diag8 (h : RowAt (scv x2 x3 (2048 * t1.val + i.val)) (vv x4) (8 * t1.val + 7) (dSt7 t1 x2 x3 x4 X) i) :
    RowAt (scv x2 x3 (2048 * t1.val + i.val)) (vv x4) (8 * t1.val + 8) (dSt8 t1 x2 x3 x4 X) i := by
  have hi := i.isLt
  unfold dSt8
  by_cases hb : 1792 ≤ i.val
  · exact step256 h hb (by omega) (by omega)
      (diag_group (by decide : 0 < 256) (dS7 t1 x2 x3) (dS7_at t1 x2 x3) (by decide) (by decide) (by decide) (by omega) (by omega) i hb)
      fun k d => (dv_at t1 x4 7 k d).trans (vv_at x4 k d (by show 2048 * t1.val + 256 * 7 + k.val = _; omega))
  · exact skip256 h (by omega) fun k hk => masked (by omega)

theorem diag (h : RowAt (scv x2 x3 (2048 * t1.val + i.val)) (vv x4) (8 * t1.val) X i)
    (hw : ∀ (j : Fin 2048) (k : Fin 256), X.w (ix3 ⟨0, by decide⟩ j k) = raw x2 x3 (2048 * t1.val + 0 + j.val) (2048 * t1.val + 0 + k.val)) :
    RowAt (scv x2 x3 (2048 * t1.val + i.val)) (vv x4) (8 * t1.val + 8) (dSt8 t1 x2 x3 x4 X) i :=
  diag8 (diag7 (diag6 (diag5 (diag4 (diag3 (diag2 (diag1 h hw)))))))

end Diag

/-! ## Before the diagonal -/

section Before
variable (x2 x3 : Vec Ideal S4096x256 .bf16) (x4 : Vec Ideal S4096x128 .bf16) (p : Vec Ideal S2048x256 .bf16) (a : Vec Ideal S2048x128 .f32)

theorem init_row (t1 : Fin k0_t1_loop.trips) (s : ℕ → EReal) (v : ℕ → ℕ → EReal) (i : Fin 2048) : RowAt s v 0 (sInit t1 x2 x3 p a) i :=
  Row.zero v (fun j => pay4411_apply i j) (fun j => pay4412_apply i j) (fun j => pay4413_apply i j)

theorem scores_at (t1 : Fin k0_t1_loop.trips) {q : Vec Ideal S2048x256 .bf16} {K : Vec Ideal S256x256 .bf16} {o o' : ℕ} (i : Fin 2048) (k : Fin 256)
    (hq : ∀ e, q (ix2 i e) = x2 (ix2 (rowi o) e)) (hk : ∀ e, K (ix2 k e) = x3 (ix2 (rowi o') e)) :
    scores (F := Ideal) q K (ix3 ⟨0, by decide⟩ i k) = raw x2 x3 o o' :=
  (scores_apply q K ⟨0, by decide⟩ i k).trans (Finset.sum_congr rfl fun e _ => by rw [hq, hk])

theorem init_w (t1 : Fin k0_t1_loop.trips) (i : Fin 2048) (k : Fin 256) :
    (sInit t1 x2 x3 p a).w (ix3 ⟨0, by decide⟩ i k) = raw x2 x3 (2048 * t1.val + i.val) k.val := by
  show k0_pay4414 (F := Ideal) _ _ _ = _
  rw [pay4414_eq]
  refine scores_at x2 x3 t1 i k (fun e => read_at x2 _ (k0_off1_eq t1) i e) fun e => (read_at (o := 0) x3 _ rfl k e).trans ?_
  rw [Nat.zero_add]

/-- The trip over the first 2048 keys, for the queries after them. -/
theorem trip_row {t1 : Fin k0_t1_loop.trips} (h1 : t1.val = 1) {t2 : Fin (k0_t2_loop t1).trips} (h2 : t2.val = 0) (i : Fin 2048) :
    RowAt (scv x2 x3 (2048 * t1.val + i.val)) (vv x4) 8 (t2Next (qBlock t1 x2) (kBlock t1 t2 x3) (vBlock t1 t2 x4) (sInit t1 x2 x3 p a)) i := by
  have hi := i.isLt
  have := seq_row (w := trScore (sInit t1 x2 x3 p a).w (qBlock t1 x2) (kBlock t1 t2 x3)) (V := vBlock t1 t2 x4) (B := 0)
    (init_row x2 x3 p a t1 (scv x2 x3 (2048 * t1.val + i.val)) (vv x4) i)
    (fun t ht k => by
      have hk := k.isLt
      have e : scv x2 x3 (2048 * t1.val + i.val) (256 * (0 + t) + k.val) = raw x2 x3 (2048 * t1.val + i.val) (256 * (0 + t) + k.val) := if_pos (by omega)
      rw [e]
      cases t with
      | zero => exact (init_w x2 x3 p a t1 i k).trans (congrArg _ (by omega))
      | succ t =>
        refine scores_at x2 x3 t1 i k (fun e => qBlock_at t1 x2 i e) fun e => (kBlock_at t1 t2 x3 _ k e).trans ?_
        refine congrArg (fun z => x3 (ix2 (rowi z) e)) ?_
        show 2048 * t2.val + 256 * (t % 8) + 256 + k.val = 256 * (0 + (t + 1)) + k.val
        omega)
    (fun t k d => (vBlock_at t1 t2 x4 t k d).trans (vv_at x4 k d (by omega))) 8 le_rfl
  exact this.same (fun _ => rfl) (fun _ => rfl) (fun _ => rfl)

theorem trip_w {t1 : Fin k0_t1_loop.trips} (h1 : t1.val = 1) {t2 : Fin (k0_t2_loop t1).trips} (h2 : t2.val = 0) (i : Fin 2048) (k : Fin 256) :
    (t2Next (qBlock t1 x2) (kBlock t1 t2 x3) (vBlock t1 t2 x4) (sInit t1 x2 x3 p a)).w (ix3 ⟨0, by decide⟩ i k)
      = raw x2 x3 (2048 * t1.val + 0 + i.val) (2048 * t1.val + 0 + k.val) := by
  refine scores_at x2 x3 t1 i k (fun e => (qBlock_at t1 x2 i e).trans (by rw [Nat.add_zero])) fun e => (kBlock_at t1 t2 x3 _ k e).trans ?_
  refine congrArg (fun z => x3 (ix2 (rowi z) e)) ?_
  show 2048 * t2.val + 256 * (7 % 8) + 256 + k.val = 2048 * t1.val + 0 + k.val
  omega

theorem trips0 : (k0_t2_loop ⟨0, by decide⟩).trips = 0 := by decide +kernel
theorem trips1 : (k0_t2_loop ⟨1, by decide⟩).trips = 1 := by decide +kernel

/-- The result for query `q`, in column `d`. -/
def att (q d : ℕ) : EReal :=
  Ideal.div (∑ k : Fin 4096, wt (scv x2 x3 q) 4096 k.val * vv x4 k.val d) (∑ k : Fin 4096, wt (scv x2 x3 q) 4096 k.val)

theorem tile_of {t1 : Fin k0_t1_loop.trips} {X : Sc Ideal} {q : ℕ} {i : Fin 2048} (h : RowAt (scv x2 x3 q) (vv x4) 16 (dSt8 t1 x2 x3 x4 X) i) (d : Fin 128) :
    oTile t1 x2 x3 x4 X (ix2 i d) = att x2 x3 x4 q d.val := by
  unfold oTile att
  refine (pay4_apply _ _ i d).trans (congrArg₂ Ideal.div (Row.value h rfl d) (Row.total h rfl))

theorem skips {s : ℕ → EReal} {v : ℕ → ℕ → EReal} {X : Sc Ideal} {i : Fin 2048} {B : ℕ} (n : ℕ) (h : RowAt s v B X i) (hs : ∀ k, 256 * B ≤ k → s k = ⊥) : RowAt s v (B + n) X i := by
  induction n with
  | zero => exact h
  | succ n ih => exact Row.skip ih fun k _ => hs _ (le_trans (Nat.mul_le_mul_left 256 (Nat.le_add_right B n)) (Nat.le_add_right _ _))

theorem outT0_at (i : Fin 2048) (d : Fin 128) : outT ⟨0, by decide⟩ x2 x3 x4 (ix2 i d) = att x2 x3 x4 i.val d.val := by
  have hi := i.isLt
  unfold outT
  rw [trips0]
  refine tile_of x2 x3 x4 ?_ d
  have h := diag (t1 := ⟨0, by decide⟩) (x2 := x2) (x3 := x3) (x4 := x4) (i := i)
    (init_row x2 x3 (truncf (F := Ideal) .bf16 (constant S2048x256 .f32 0x00000000#32) bitsLt_bf16_f32) (k0_pay4413 (F := Ideal)) ⟨0, by decide⟩ _ _ i)
    (fun j k => (init_w x2 x3 _ _ ⟨0, by decide⟩ j k).trans (congrArg₂ _ (by show 2048 * 0 + _ = 2048 * 0 + 0 + _; omega) (by show k.val = 2048 * 0 + 0 + k.val; omega)))
  have e : 2048 * (⟨0, by decide⟩ : Fin k0_t1_loop.trips).val + i.val = i.val := by show 2048 * 0 + i.val = i.val; omega
  rw [e] at h
  exact skips 8 h fun k hk => masked (by
    have : 256 * (8 * 0 + 8) ≤ k := hk
    omega)

/-- A tile behind the first 2048 keys. -/
theorem tile1 {t1 : Fin k0_t1_loop.trips} (h1 : t1.val = 1) (hl : (k0_t2_loop t1).trips = 1) (i : Fin 2048) (d : Fin 128) :
    oTile t1 x2 x3 x4 (t2St t1 x2 x3 x4 (sInit t1 x2 x3 p a) (k0_t2_loop t1).trips) (ix2 i d) = att x2 x3 x4 (2048 * t1.val + i.val) d.val := by
  have h0 : 0 < (k0_t2_loop t1).trips := by omega
  have e : t2St t1 x2 x3 x4 (sInit t1 x2 x3 p a) 1 = t2Next (qBlock t1 x2) (kBlock t1 ⟨0, h0⟩ x3) (vBlock t1 ⟨0, h0⟩ x4) (sInit t1 x2 x3 p a) := dif_pos h0
  have hr := trip_row x2 x3 x4 p a h1 (t2 := ⟨0, h0⟩) rfl i
  have e8 : 8 * t1.val = 8 := by omega
  rw [hl, e]
  refine tile_of x2 x3 x4 ?_ d
  have := diag (t1 := t1) (x2 := x2) (x3 := x3) (x4 := x4) (i := i) (X := t2Next (qBlock t1 x2) (kBlock t1 ⟨0, h0⟩ x3) (vBlock t1 ⟨0, h0⟩ x4) (sInit t1 x2 x3 p a))
    (by rw [e8]; exact hr) (fun j k => trip_w x2 x3 x4 p a h1 (t2 := ⟨0, h0⟩) rfl j k)
  rw [e8] at this
  exact this

theorem outT1_at (i : Fin 2048) (d : Fin 128) : outT ⟨1, by decide⟩ x2 x3 x4 (ix2 i d) = att x2 x3 x4 (2048 * 1 + i.val) d.val := by
  unfold outT
  exact tile1 x2 x3 x4 _ _ (t1 := ⟨1, by decide⟩) rfl trips1 i d

theorem oBlock_at (q : Fin 4096) (d : Fin 128) : oBlock x2 x3 x4 (ix2 q d) = att x2 x3 x4 q.val d.val := by
  have hq := q.isLt
  by_cases h : q.val < 2048
  · exact (dif_pos h).trans (outT0_at x2 x3 x4 ⟨q.val, h⟩ d)
  · refine (dif_neg h).trans ((outT1_at x2 x3 x4 ⟨(q.val - 2048) % 2048, Nat.mod_lt _ (by decide)⟩ d).trans ?_)
    refine congrArg (fun z => att x2 x3 x4 z d.val) ?_
    show 2048 * 1 + (q.val - 2048) % 2048 = q.val
    omega

end Before

end Cert.AttValue

end
-- ==== Proof.AttRef.lean ====
/- The attention of the reference at the ideal instance, element by element. -/
module

public import proofs.«01_k».proof.Proof.Gen.Reference2Ideal.Run
public import proofs.«01_k».proof.Proof.AttRow
public import Idealize.ShloMosaic.Lib.Pointwise

@[expose] public section

noncomputable section

namespace Cert.AttRef
open Idealize.ShloMosaic Idealize.ShloMosaic.TcCoe Idealize.SL.Sem
open Cert.Reference2Ideal Cert.Reference2Ideal.Gen Cert.AttRow

variable {F : FTy → Type} [FloatOps F]

/-- The chunk of each position. -/
def chR : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))
/-- Which keys a query sees. -/
def seenR : IVec S4096x4096 1 :=
  cmpi .sle (broadcastInDim S4096x4096 ![0, 1] bcast_S1x4096_S4096x4096_0_1 (broadcastInDim S1x4096 ![1] bcast_S4096_S1x4096_1 chR))
    (broadcastInDim S4096x4096 ![0, 1] bcast_S4096x1_S4096x4096_0_1 (broadcastInDim S4096x1 ![0] bcast_S4096_S4096x1_0 chR))
/-- The products of the queries with the keys, and the same masked. -/
def rawR (a0 a1 : FVec F S32768x2048 .bf16) : FVec F S8x8x4096x4096 .f32 :=
  Host.dotGeneral dot_S8x4096x8x256_S8x4096x8x256_S8x8x4096x4096_3_3_1_1_02_02 none (shapeCast _ (extf .f32 a0 bitsLt_bf16_f32) shapeCasts_S32768x2048_S8x4096x8x256)
    (shapeCast _ (extf .f32 a1 bitsLt_bf16_f32) shapeCasts_S32768x2048_S8x4096x8x256)
def scR (a0 a1 : FVec F S32768x2048 .bf16) : FVec F S8x8x4096x4096 .f32 :=
  select (broadcastInDim S8x8x4096x4096 ![2, 3] bcast_S4096x4096_S8x8x4096x4096_2_3 seenR) (rawR a0 a1)
    (broadcastInDim S8x8x4096x4096 ![] bcast_S_S8x8x4096x4096 (id (constant S_ .f32 0xFF800000#32)))
/-- The greatest score of each query. -/
def topR (s : FVec F S8x8x4096x4096 .f32) : FVec F S8x8x4096 .f32 :=
  Host.reduce FloatOps.maximumf s (constant S_ .f32 0xFF800000#32) reducesTo_S8x8x4096x4096_S8x8x4096_d3 h_S_
/-- The weights. -/
def wtR (s : FVec F S8x8x4096x4096 .f32) (t : FVec F S8x8x4096 .f32) : FVec F S8x8x4096x4096 .f32 :=
  Host.powf (broadcastInDim S8x8x4096x4096 ![] bcast_S_S8x8x4096x4096 (constant S_ .f32 0x40000000#32))
    (subf s (broadcastInDim S8x8x4096x4096 ![0, 1, 2, 3] bcast_S8x8x4096x1_S8x8x4096x4096_0_1_2_3 (broadcastInDim S8x8x4096x1 ![0, 1, 2] bcast_S8x8x4096_S8x8x4096x1_0_1_2 t)))
/-- The weighted values, divided by the sum of the weights. -/
def outR (p : FVec F S8x8x4096x4096 .f32) (a2 : FVec F S32768x1024 .bf16) : FVec F S32768x1024 .bf16 :=
  truncf .bf16 (shapeCast _ (Host.divf
    (transpose S8x4096x8x128 [0, 3, 1, 2] (Host.dotGeneral dot_S8x4096x8x128_S8x8x4096x4096_S8x8x128x4096_1_3_3_2_02_01 none
      (shapeCast _ (extf .f32 a2 bitsLt_bf16_f32) shapeCasts_S32768x1024_S8x4096x8x128) p) transposes_S8x8x128x4096_S8x4096x8x128_0_3_1_2)
    (broadcastInDim S8x4096x8x128 ![0, 1, 2, 3] bcast_S8x4096x8x1_S8x4096x8x128_0_1_2_3 (broadcastInDim S8x4096x8x1 ![0, 1, 2] bcast_S8x4096x8_S8x4096x8x1_0_1_2
      (transpose S8x4096x8 [0, 2, 1] (Host.reduceAdd p (constant S_ .f32 0x00000000#32) reducesTo_S8x8x4096x4096_S8x8x4096_d3 h_S_) transposes_S8x8x4096_S8x4096x8_0_2_1))))
    shapeCasts_S8x4096x8x128_S32768x1024) bitsLt_bf16_f32

theorem result_eq (m : (ℓ : Loc nD τ sig) → Buf (Elt F) ℓ) (c : Dev nD) : Cert.Reference2Ideal.Value.res_out0 m c
    = outR (wtR (scR (m ((c.tc : Thread nD τ).loc main_arg0)) (m ((c.tc : Thread nD τ).loc main_arg1)))
        (topR (scR (m ((c.tc : Thread nD τ).loc main_arg0)) (m ((c.tc : Thread nD τ).loc main_arg1))))) (m ((c.tc : Thread nD τ).loc main_arg2)) := by
  show Cert.Reference2Ideal.Value.res_main_v29 m c = _
  unfold Cert.Reference2Ideal.Value.res_main_v29
  rfl

theorem chR_apply (i : Fin 4096) : chR (ix1 i) = BitVec.ofNat 32 (i.val / 64) := by
  pointwise [chR]
  revert i
  decide +kernel
theorem seenR_apply (q k : Fin 4096) : seenR (ix2 q k) = IntOp.cmpi .sle (chR (ix1 k)) (chR (ix1 q)) := by
  pointwise [seenR]
theorem rawR_apply (a0 a1 : FVec Ideal S32768x2048 .bf16) (b h : Fin 8) (q k : Fin 4096) : rawR a0 a1 (ix4 b h q k)
    = ∑ e : Fin 256, (a0 (ix2 ⟨b.val * 4096 + q.val, by omega⟩ ⟨h.val * 256 + e.val, by omega⟩) : EReal) * (a1 (ix2 ⟨b.val * 4096 + k.val, by omega⟩ ⟨h.val * 256 + e.val, by omega⟩) : EReal) := by
  pointwise [rawR]
theorem scR_apply (a0 a1 : FVec Ideal S32768x2048 .bf16) (b h : Fin 8) (q k : Fin 4096) : scR a0 a1 (ix4 b h q k)
    = if seenR (ix2 q k) = 1#1 then (rawR a0 a1 (ix4 b h q k) : EReal) else ⊥ := by
  pointwise [scR]
  exact congrArg (Scalar.select _ _) negInf_eq
theorem topR_apply (s : FVec Ideal S8x8x4096x4096 .f32) (b h : Fin 8) (q : Fin 4096) : topR s (ix3 b h q) = (Finset.univ : Finset (Fin 4096)).sup fun k => (s (ix4 b h q k) : EReal) := by
  pointwise [topR]
  rw [negInf_eq]
  rfl
theorem wtR_apply (s : FVec Ideal S8x8x4096x4096 .f32) (t : FVec Ideal S8x8x4096 .f32) (b h : Fin 8) (q k : Fin 4096) :
    wtR s t (ix4 b h q k) = Ideal.exp2 ((s (ix4 b h q k) : EReal) - (t (ix3 b h q) : EReal)) := by
  pointwise [wtR]
  rw [two_eq, pow_two]
theorem outR_apply (p : FVec Ideal S8x8x4096x4096 .f32) (a2 : FVec Ideal S32768x1024 .bf16) (r : Fin 32768) (d : Fin 1024) :
    outR p a2 (ix2 r d) = Ideal.div (∑ k : Fin 4096, (a2 (ix2 ⟨r.val / 4096 * 4096 + k.val, by omega⟩ d) : EReal)
        * (p (ix4 ⟨r.val / 4096, by omega⟩ ⟨d.val / 128, by omega⟩ ⟨r.val % 4096, by omega⟩ k) : EReal))
      (∑ k : Fin 4096, (p (ix4 ⟨r.val / 4096, by omega⟩ ⟨d.val / 128, by omega⟩ ⟨r.val % 4096, by omega⟩ k) : EReal)) := by
  pointwise [outR]

/-! ## In the words of one row -/

/-- The score of query row `r` with key `k` of its batch, in head `h`. -/
def sc (a0 a1 : FVec Ideal S32768x2048 .bf16) (b h : Fin 8) (q k : ℕ) : EReal :=
  if hk : q < 4096 ∧ k < 4096 then
    if k / 64 ≤ q / 64 then ∑ e : Fin 256, (a0 (ix2 ⟨b.val * 4096 + q, by omega⟩ ⟨h.val * 256 + e.val, by omega⟩) : EReal)
      * (a1 (ix2 ⟨b.val * 4096 + k, by omega⟩ ⟨h.val * 256 + e.val, by omega⟩) : EReal) else ⊥
  else ⊥

theorem le_chunk64 : ∀ a b : Fin 64, (IntOp.cmpi .sle (BitVec.ofNat 32 a.val) (BitVec.ofNat 32 b.val) = 1#1) ↔ a.val ≤ b.val := by decide +kernel

theorem scR_eq (a0 a1 : FVec Ideal S32768x2048 .bf16) (b h : Fin 8) (q k : Fin 4096) : scR a0 a1 (ix4 b h q k) = sc a0 a1 b h q.val k.val := by
  rw [scR_apply, sc, dif_pos ⟨q.isLt, k.isLt⟩, rawR_apply, seenR_apply, chR_apply, chR_apply]
  exact if_congr (le_chunk64 ⟨k.val / 64, by omega⟩ ⟨q.val / 64, by omega⟩) rfl rfl

theorem sup_range (s : ℕ → EReal) (n : ℕ) : ((Finset.univ : Finset (Fin n)).sup fun k => s k.val) = top s n := by
  apply le_antisymm
  · exact Finset.sup_le fun k _ => le_top' s k.isLt
  · exact Finset.sup_le fun k hk => Finset.le_sup (f := fun k : Fin n => s k.val) (Finset.mem_univ ⟨k, Finset.mem_range.mp hk⟩)

theorem wtR_eq (a0 a1 : FVec Ideal S32768x2048 .bf16) (b h : Fin 8) (q k : Fin 4096) :
    wtR (scR a0 a1) (topR (scR a0 a1)) (ix4 b h q k) = wt (sc a0 a1 b h q.val) 4096 k.val := by
  rw [wtR_apply, topR_apply, scR_eq]
  have e : ((Finset.univ : Finset (Fin 4096)).sup fun k => (scR a0 a1 (ix4 b h q k) : EReal)) = top (sc a0 a1 b h q.val) 4096 :=
    (congrArg _ (funext fun k => scR_eq a0 a1 b h q k)).trans (sup_range _ _)
  rw [e]
  rfl

/-- The reference's result. -/
def res (a0 a1 : FVec Ideal S32768x2048 .bf16) (a2 : FVec Ideal S32768x1024 .bf16) (r : Fin 32768) (d : Fin 1024) : EReal :=
  Ideal.div (∑ k : Fin 4096, (a2 (ix2 ⟨r.val / 4096 * 4096 + k.val, by omega⟩ d) : EReal) * wt (sc a0 a1 ⟨r.val / 4096, by omega⟩ ⟨d.val / 128, by omega⟩ (r.val % 4096)) 4096 k.val)
    (∑ k : Fin 4096, wt (sc a0 a1 ⟨r.val / 4096, by omega⟩ ⟨d.val / 128, by omega⟩ (r.val % 4096)) 4096 k.val)

theorem ref_apply (a0 a1 : FVec Ideal S32768x2048 .bf16) (a2 : FVec Ideal S32768x1024 .bf16) (r : Fin 32768) (d : Fin 1024) :
    outR (wtR (scR a0 a1) (topR (scR a0 a1))) a2 (ix2 r d) = res a0 a1 a2 r d := by
  rw [outR_apply, res]
  simp only [wtR_eq]

end Cert.AttRef

end
-- ==== Proof.AttValue.lean ====
/- The attention call's result arrays and the reference's, equal at the ideal instance. -/
module

public import proofs.«01_k».proof.Defs
public import proofs.«01_k».proof.Proof.AttTile
public import proofs.«01_k».proof.Proof.AttRef

@[expose] public section

noncomputable section

namespace Cert.AttFinal
open Idealize.ShloMosaic Idealize.ShloMosaic.TcCoe Idealize.SL.Sem
open Cert.Kernel2Ideal Cert.Kernel2Ideal.Gen Cert.Kernel2Ideal.Hand Cert.AttRow Cert.AttValue
open Cert.AttRef (sc res)

variable (m : (ℓ : Loc nD τ sig) → Buf (Elt Ideal) ℓ) (ρ : Dev nD → PrngReg) (c : Dev nD)

/-! ## The blocks read at a point -/

theorem index0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem index1 : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem index2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = 0 ∧ win0_4.index t 1 = t.val :=
  (by decide +kernel : ∀ t : Fin grid0.N, win0_4.index t 0 = 0 ∧ win0_4.index t 1 = t.val)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val / 8 ∧ win0_6.index t 1 = t.val % 8 :=
  (by decide +kernel : ∀ t : Fin grid0.N, win0_6.index t 0 = t.val / 8 ∧ win0_6.index t 1 = t.val % 8)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = 0 ∧ win0_8.index t 1 = t.val :=
  (by decide +kernel : ∀ t : Fin grid0.N, win0_8.index t 0 = 0 ∧ win0_8.index t 1 = t.val)
theorem index9 : ∀ t : Fin cfg0.N, win0_9.index t 0 = t.val ∧ win0_9.index t 1 = 0 :=
  (by decide +kernel : ∀ t : Fin grid0.N, win0_9.index t 0 = t.val ∧ win0_9.index t 1 = 0)

abbrev aQ : FVec Ideal S32768x2048 .bf16 := m ((c : Thread nD τ).loc main_arg0)
abbrev aK : FVec Ideal S32768x2048 .bf16 := m ((c : Thread nD τ).loc main_arg1)
abbrev aV : FVec Ideal S32768x1024 .bf16 := m ((c : Thread nD τ).loc main_arg2)
abbrev aWo : FVec Ideal S2048x2048 .f32 := m ((c : Thread nD τ).loc main_arg3)
abbrev aW1 : FVec Ideal S2048x8192 .f32 := m ((c : Thread nD τ).loc main_arg4)
abbrev aW2 : FVec Ideal S8192x2048 .f32 := m ((c : Thread nD τ).loc main_arg5)

theorem lt_N (t : Fin cfg0.N) : t.val < 64 := t.isLt

/-- Token `i` of sequence `b`. -/
abbrev tokOf (b : ℕ) (hb : b < 8) (i : Fin 4096) : Fin 32768 := ⟨b * 4096 + i.val, by omega⟩

theorem iblk0 (t : Fin cfg0.N) (i : Fin 4096) (e : Fin 256) :
    (iblk m c 0 t : Vec Ideal S4096x256 .bf16) (ix2 i e) = aQ m c (ix2 (tokOf (t.val / 8) (by have := lt_N t; omega) i) ⟨t.val % 8 * 256 + e.val, by omega⟩) := by
  unfold iblk
  rw [View.read_apply]
  refine congrArg (aQ m c) (funext fun a => Fin.ext ?_)
  match a with
  | ⟨0, _⟩ => show win0_0.index t 0 * 4096 + 1 * i.val = t.val / 8 * 4096 + i.val; rw [(index0 t).1]; omega
  | ⟨1, _⟩ => show win0_0.index t 1 * 256 + 1 * e.val = t.val % 8 * 256 + e.val; rw [(index0 t).2]; omega
theorem iblk1 (t : Fin cfg0.N) (i : Fin 4096) (e : Fin 256) :
    (iblk m c 1 t : Vec Ideal S4096x256 .bf16) (ix2 i e) = aK m c (ix2 (tokOf (t.val / 8) (by have := lt_N t; omega) i) ⟨t.val % 8 * 256 + e.val, by omega⟩) := by
  unfold iblk
  rw [View.read_apply]
  refine congrArg (aK m c) (funext fun a => Fin.ext ?_)
  match a with
  | ⟨0, _⟩ => show win0_1.index t 0 * 4096 + 1 * i.val = t.val / 8 * 4096 + i.val; rw [(index1 t).1]; omega
  | ⟨1, _⟩ => show win0_1.index t 1 * 256 + 1 * e.val = t.val % 8 * 256 + e.val; rw [(index1 t).2]; omega
theorem iblk2 (t : Fin cfg0.N) (i : Fin 4096) (e : Fin 128) :
    (iblk m c 2 t : Vec Ideal S4096x128 .bf16) (ix2 i e) = aV m c (ix2 (tokOf (t.val / 8) (by have := lt_N t; omega) i) ⟨t.val % 8 * 128 + e.val, by omega⟩) := by
  unfold iblk
  rw [View.read_apply]
  refine congrArg (aV m c) (funext fun a => Fin.ext ?_)
  match a with
  | ⟨0, _⟩ => show win0_2.index t 0 * 4096 + 1 * i.val = t.val / 8 * 4096 + i.val; rw [(index2 t).1]; omega
  | ⟨1, _⟩ => show win0_2.index t 1 * 128 + 1 * e.val = t.val % 8 * 128 + e.val; rw [(index2 t).2]; omega

/-! ## A block of the attention -/

/-- The weights depend on the scores of the keys counted only. -/
theorem wt_congr {s s' : ℕ → EReal} (h : ∀ k < 4096, s k = s' k) {k : ℕ} (hk : k < 4096) : wt s 4096 k = wt s' 4096 k := by
  have ht : top s 4096 = top s' 4096 := Finset.sup_congr rfl fun k hk => h k (Finset.mem_range.mp hk)
  rw [wt, wt, h k hk, ht]

theorem score_eq (t : Fin cfg0.N) {q k : ℕ} (hq : q < 4096) (hk : k < 4096) :
    scv (iblk m c 0 t) (iblk m c 1 t) q k = sc (aQ m c) (aK m c) ⟨t.val / 8, by have := lt_N t; omega⟩ ⟨t.val % 8, by omega⟩ q k := by
  rw [scv, sc, dif_pos ⟨hq, hk⟩]
  refine if_congr Iff.rfl ?_ rfl
  rw [raw, rowi_eq hq, rowi_eq hk]
  exact Finset.sum_congr rfl fun e _ => congrArg₂ (fun x y : EReal => x * y) (iblk0 m c t ⟨q, hq⟩ e) (iblk1 m c t ⟨k, hk⟩ e)

theorem value_eq (t : Fin cfg0.N) (k : Fin 4096) (d : Fin 128) :
    vv (iblk m c 2 t) k.val d.val = aV m c (ix2 (tokOf (t.val / 8) (by have := lt_N t; omega) k) ⟨t.val % 8 * 128 + d.val, by omega⟩) := by
  rw [vv, rowi_eq k.isLt]
  have hd : (⟨d.val % 128, Nat.mod_lt _ (by decide)⟩ : Fin 128) = d := Fin.ext (Nat.mod_eq_of_lt d.isLt)
  rw [hd]
  exact iblk2 m c t k d

theorem att_eq (t : Fin cfg0.N) (q : Fin 4096) (d : Fin 128) (r : Fin 32768) (l : Fin 1024)
    (hr : r.val = t.val / 8 * 4096 + q.val) (hl : l.val = t.val % 8 * 128 + d.val) :
    att (iblk m c 0 t) (iblk m c 1 t) (iblk m c 2 t) q.val d.val = res (aQ m c) (aK m c) (aV m c) r l := by
  have hb : (⟨r.val / 4096, by omega⟩ : Fin 8) = ⟨t.val / 8, by have := lt_N t; omega⟩ := Fin.ext (by show r.val / 4096 = t.val / 8; omega)
  have hh : (⟨l.val / 128, by omega⟩ : Fin 8) = ⟨t.val % 8, by omega⟩ := Fin.ext (by show l.val / 128 = t.val % 8; omega)
  have hm : r.val % 4096 = q.val := by omega
  have hw (k : Fin 4096) := wt_congr (fun k hk => score_eq m c t q.isLt hk) k.isLt
  have hv (k : Fin 4096) : aV m c (ix2 ⟨r.val / 4096 * 4096 + k.val, by omega⟩ l) = vv (iblk m c 2 t) k.val d.val := by
    rw [value_eq]
    refine congrArg (aV m c) (congrArg₂ ix2 (Fin.ext ?_) (Fin.ext hl))
    show r.val / 4096 * 4096 + k.val = t.val / 8 * 4096 + k.val
    omega
  unfold att res
  simp only [hb, hh, hm, hw, hv]
  refine congrArg (fun x => Ideal.div x _) (Finset.sum_congr rfl fun k _ => mul_comm _ _)

/-! ## The result arrays -/

theorem ix2_of {a b : ℕ} (y : (⟨2, ![a, b]⟩ : Shape).Idx) : y = ix2 (y 0) (y 1) := by
  funext x
  match x with
  | ⟨0, _⟩ => rfl
  | ⟨1, _⟩ => rfl

/-- The attention's result as an array. -/
def result : Buf (Elt Ideal) ((c : Thread nD τ).loc main_v0_0) :=
  fun y : S32768x1024.Idx => res (aQ m c) (aK m c) (aV m c) (y 0) (y 1)
def result1 : Buf (Elt Ideal) ((c : Thread nD τ).loc main_v0_1) := truncf .bf16 (aWo m c) bitsLt_bf16_f32
def result2 : Buf (Elt Ideal) ((c : Thread nD τ).loc main_v0_2) := truncf .bf16 (aW1 m c) bitsLt_bf16_f32
def result3 : Buf (Elt Ideal) ((c : Thread nD τ).loc main_v0_3) := truncf .bf16 (aW2 m c) bitsLt_bf16_f32

theorem flushed_eq6 (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  funext y
  rw [View.read_apply]
  refine (congrArg (oBlock (iblk m c 0 t) (iblk m c 1 t) (iblk m c 2 t)) (ix2_of (a := 4096) (b := 128) y)).trans
    ((oBlock_at _ _ _ (y 0) (y 1)).trans ?_)
  unfold result
  refine att_eq m c t (y 0) (y 1) _ _ ?_ ?_
  · show win0_6.index t 0 * 4096 + 1 * (y 0).val = t.val / 8 * 4096 + (y 0).val
    rw [(index6 t).1]; omega
  · show win0_6.index t 1 * 128 + 1 * (y 1).val = t.val % 8 * 128 + (y 1).val
    rw [(index6 t).2]; omega

theorem flushed_eq7 (t : Fin cfg0.N) (hf : (cfg0.win 7).flush t = true) :
    (dats m 0 c).flushed 7 t = ((cfg0.win 7).blk t).view.read (Elt Ideal) (result1 m c) := by
  show (cfg0.win 7).cut (grid0.coords t) ((dats m 0 c).after 7 t) = _
  rw [after0_7]
  funext y
  rw [View.read_apply]
  show (iblk m c 3 t : Vec Ideal S32x2048 .f32) y = aWo m c _
  unfold iblk
  rw [View.read_apply]
  refine congrArg (aWo m c) (funext fun a => Fin.ext ?_)
  match a with
  | ⟨0, _⟩ =>
    show win0_3.index t 0 * 32 + 1 * (y 0).val = win0_7.index t 0 * 32 + 1 * (y 0).val
    rw [(index3 t).1, (index7 t).1]
  | ⟨1, _⟩ =>
    show win0_3.index t 1 * 2048 + 1 * (y 1).val = win0_7.index t 1 * 2048 + 1 * (y 1).val
    rw [(index3 t).2, (index7 t).2]

theorem flushed_eq8 (t : Fin cfg0.N) (hf : (cfg0.win 8).flush t = true) :
    (dats m 0 c).flushed 8 t = ((cfg0.win 8).blk t).view.read (Elt Ideal) (result2 m c) := by
  show (cfg0.win 8).cut (grid0.coords t) ((dats m 0 c).after 8 t) = _
  rw [after0_8]
  funext y
  rw [View.read_apply]
  show (iblk m c 4 t : Vec Ideal S2048x128 .f32) y = aW1 m c _
  unfold iblk
  rw [View.read_apply]
  refine congrArg (aW1 m c) (funext fun a => Fin.ext ?_)
  match a with
  | ⟨0, _⟩ =>
    show win0_4.index t 0 * 2048 + 1 * (y 0).val = win0_8.index t 0 * 2048 + 1 * (y 0).val
    rw [(index4 t).1, (index8 t).1]
  | ⟨1, _⟩ =>
    show win0_4.index t 1 * 128 + 1 * (y 1).val = win0_8.index t 1 * 128 + 1 * (y 1).val
    rw [(index4 t).2, (index8 t).2]

theorem flushed_eq9 (t : Fin cfg0.N) (hf : (cfg0.win 9).flush t = true) :
    (dats m 0 c).flushed 9 t = ((cfg0.win 9).blk t).view.read (Elt Ideal) (result3 m c) := by
  show (cfg0.win 9).cut (grid0.coords t) ((dats m 0 c).after 9 t) = _
  rw [after0_9]
  funext y
  rw [View.read_apply]
  show (iblk m c 5 t : Vec Ideal S128x2048 .f32) y = aW2 m c _
  unfold iblk
  rw [View.read_apply]
  refine congrArg (aW2 m c) (funext fun a => Fin.ext ?_)
  match a with
  | ⟨0, _⟩ =>
    show win0_5.index t 0 * 128 + 1 * (y 0).val = win0_9.index t 0 * 128 + 1 * (y 0).val
    rw [(index5 t).1, (index9 t).1]
  | ⟨1, _⟩ =>
    show win0_5.index t 1 * 2048 + 1 * (y 1).val = win0_9.index t 1 * 2048 + 1 * (y 1).val
    rw [(index5 t).2, (index9 t).2]

theorem covered6 (i : S32768x1024.Idx) : ∃ t : Fin cfg0.N, (cfg0.win 6).flush t = true ∧ i ∈ ((cfg0.win 6).blk t).view.set := by
  have h0 : (i 0).val < 32768 := (i 0).isLt
  have h1 : (i 1).val < 1024 := (i 1).isLt
  obtain ⟨t, ht⟩ : ∃ t : Fin cfg0.N, t.val = 8 * ((i 0).val / 4096) + (i 1).val / 128 := ⟨⟨8 * ((i 0).val / 4096) + (i 1).val / 128, show _ < 64 by omega⟩, rfl⟩
  refine ⟨t, flush0_6 t, ?_⟩
  show i ∈ ((View.whole main_v0_0).slice (win0_6.rect t)).set
  rw [View.set_slice_whole, Rect.mem_set_unit]
  intro a
  match a with
  | ⟨0, _⟩ =>
    show win0_6.index t 0 * 4096 ≤ (i 0).val ∧ (i 0).val < win0_6.index t 0 * 4096 + 4096
    rw [(index6 t).1]
    omega
  | ⟨1, _⟩ =>
    show win0_6.index t 1 * 128 ≤ (i 1).val ∧ (i 1).val < win0_6.index t 1 * 128 + 128
    rw [(index6 t).2]
    omega

theorem covered7 (i : S2048x2048.Idx) : ∃ t : Fin cfg0.N, (cfg0.win 7).flush t = true ∧ i ∈ ((cfg0.win 7).blk t).view.set := by
  have h0 : (i 0).val < 2048 := (i 0).isLt
  have h1 : (i 1).val < 2048 := (i 1).isLt
  obtain ⟨t, ht⟩ : ∃ t : Fin cfg0.N, t.val = (i 0).val / 32 := ⟨⟨(i 0).val / 32, show _ < 64 by omega⟩, rfl⟩
  refine ⟨t, flush0_7 t, ?_⟩
  show i ∈ ((View.whole main_v0_1).slice (win0_7.rect t)).set
  rw [View.set_slice_whole, Rect.mem_set_unit]
  intro a
  match a with
  | ⟨0, _⟩ =>
    show win0_7.index t 0 * 32 ≤ (i 0).val ∧ (i 0).val < win0_7.index t 0 * 32 + 32
    rw [(index7 t).1]
    omega
  | ⟨1, _⟩ =>
    show win0_7.index t 1 * 2048 ≤ (i 1).val ∧ (i 1).val < win0_7.index t 1 * 2048 + 2048
    rw [(index7 t).2]
    omega

theorem covered8 (i : S2048x8192.Idx) : ∃ t : Fin cfg0.N, (cfg0.win 8).flush t = true ∧ i ∈ ((cfg0.win 8).blk t).view.set := by
  have h0 : (i 0).val < 2048 := (i 0).isLt
  have h1 : (i 1).val < 8192 := (i 1).isLt
  obtain ⟨t, ht⟩ : ∃ t : Fin cfg0.N, t.val = (i 1).val / 128 := ⟨⟨(i 1).val / 128, show _ < 64 by omega⟩, rfl⟩
  refine ⟨t, flush0_8 t, ?_⟩
  show i ∈ ((View.whole main_v0_2).slice (win0_8.rect t)).set
  rw [View.set_slice_whole, Rect.mem_set_unit]
  intro a
  match a with
  | ⟨0, _⟩ =>
    show win0_8.index t 0 * 2048 ≤ (i 0).val ∧ (i 0).val < win0_8.index t 0 * 2048 + 2048
    rw [(index8 t).1]
    omega
  | ⟨1, _⟩ =>
    show win0_8.index t 1 * 128 ≤ (i 1).val ∧ (i 1).val < win0_8.index t 1 * 128 + 128
    rw [(index8 t).2]
    omega

theorem covered9 (i : S8192x2048.Idx) : ∃ t : Fin cfg0.N, (cfg0.win 9).flush t = true ∧ i ∈ ((cfg0.win 9).blk t).view.set := by
  have h0 : (i 0).val < 8192 := (i 0).isLt
  have h1 : (i 1).val < 2048 := (i 1).isLt
  obtain ⟨t, ht⟩ : ∃ t : Fin cfg0.N, t.val = (i 0).val / 128 := ⟨⟨(i 0).val / 128, show _ < 64 by omega⟩, rfl⟩
  refine ⟨t, flush0_9 t, ?_⟩
  show i ∈ ((View.whole main_v0_3).slice (win0_9.rect t)).set
  rw [View.set_slice_whole, Rect.mem_set_unit]
  intro a
  match a with
  | ⟨0, _⟩ =>
    show win0_9.index t 0 * 128 ≤ (i 0).val ∧ (i 0).val < win0_9.index t 0 * 128 + 128
    rw [(index9 t).1]
    omega
  | ⟨1, _⟩ =>
    show win0_9.index t 1 * 2048 ≤ (i 1).val ∧ (i 1).val < win0_9.index t 1 * 2048 + 2048
    rw [(index9 t).2]
    omega

theorem final6 : (dats m 0 c).arrAt 6 cfg0.N = result m c :=
  (dats m 0 c).arrAt_eq_of_cover 6 (result m c) (flushed_eq6 m c) covered6
theorem final7 : (dats m 0 c).arrAt 7 cfg0.N = result1 m c :=
  (dats m 0 c).arrAt_eq_of_cover 7 (result1 m c) (flushed_eq7 m c) covered7
theorem final8 : (dats m 0 c).arrAt 8 cfg0.N = result2 m c :=
  (dats m 0 c).arrAt_eq_of_cover 8 (result2 m c) (flushed_eq8 m c) covered8
theorem final9 : (dats m 0 c).arrAt 9 cfg0.N = result3 m c :=
  (dats m 0 c).arrAt_eq_of_cover 9 (result3 m c) (flushed_eq9 m c) covered9

/-! ## The claim -/

theorem algebraic : Cert.algebraic_Kernel2Ideal_Reference2Ideal := by
  intro m ρ m' ρ' _ hagree
  refine ⟨fun c => result m c, fun c => result1 m c, fun c => result2 m c, fun c => result3 m c, ?_, ?_⟩
  · refine (θ_run Cert.Kernel2Ideal.defs _ _).mono (fun _ h c => ?_) (run_post m ρ)
    obtain ⟨h0, h1, h2, h3, hargs⟩ := h.1 c
    exact ⟨h0.trans (final6 m c), h1.trans (final7 m c), h2.trans (final8 m c), h3.trans (final9 m c), hargs⟩
  · refine (θ_run Cert.Reference2Ideal.defs _ _).mono (fun _ h c => ?_) (Cert.Reference2Ideal.Value.run (F := Ideal) m' ρ')
    obtain ⟨h0, h1, h2, h3, hargs⟩ := h c
    obtain ⟨e0, e1, e2, e3, e4, e5⟩ := hagree c
    refine ⟨h0.trans ?_, h1.trans ?_, h2.trans ?_, h3.trans ?_, hargs⟩
    · refine (Cert.AttRef.result_eq (F := Ideal) m' c).trans ?_
      rw [e0, e1, e2]
      funext y
      exact (congrArg _ (ix2_of (a := 32768) (b := 1024) y)).trans (Cert.AttRef.ref_apply (aQ m c) (aK m c) (aV m c) (y 0) (y 1))
    · rw [e3]; rfl
    · rw [e4]; rfl
    · rw [e5]; rfl

end Cert.AttFinal

end
-- ==== Proof.AttSoft.lean ====
/- The attention against the reference that divides the weights before it sums: equal where the queries and keys are finite. -/
module

public import proofs.«01_k».proof.Proof.Gen.Reference3Ideal.Run
public import proofs.«01_k».proof.Proof.AttValue

@[expose] public section

noncomputable section

namespace Cert.AttSoft
open Idealize.ShloMosaic Idealize.ShloMosaic.TcCoe Idealize.SL.Sem
open Cert.AttRow

/-! ## The reference's result -/

section
open Cert.Reference3Ideal Cert.Reference3Ideal.Gen
open Cert.AttRef (scR topR wtR)

variable {F : FTy → Type} [FloatOps F]

/-- The weights divided by their sum. -/
def softR (p : FVec F S8x8x4096x4096 .f32) : FVec F S8x8x4096x4096 .f32 :=
  Host.divf p (broadcastInDim S8x8x4096x4096 ![0, 1, 2, 3] bcast_S8x8x4096x1_S8x8x4096x4096_0_1_2_3 (broadcastInDim S8x8x4096x1 ![0, 1, 2] bcast_S8x8x4096_S8x8x4096x1_0_1_2
    (Host.reduceAdd p (constant S_ .f32 0x00000000#32) reducesTo_S8x8x4096x4096_S8x8x4096_d3 h_S_)))
/-- The weighted values. -/
def outS (p : FVec F S8x8x4096x4096 .f32) (a2 : FVec F S32768x1024 .bf16) : FVec F S32768x1024 .bf16 :=
  truncf .bf16 (shapeCast _ (transpose S8x4096x8x128 [0, 3, 1, 2] (Host.dotGeneral dot_S8x4096x8x128_S8x8x4096x4096_S8x8x128x4096_1_3_3_2_02_01 none
      (shapeCast _ (extf .f32 a2 bitsLt_bf16_f32) shapeCasts_S32768x1024_S8x4096x8x128) p) transposes_S8x8x128x4096_S8x4096x8x128_0_3_1_2)
    shapeCasts_S8x4096x8x128_S32768x1024) bitsLt_bf16_f32

theorem result_eq (m : (ℓ : Loc nD τ sig) → Buf (Elt F) ℓ) (c : Dev nD) : Cert.Reference3Ideal.Value.res_out0 m c
    = outS (softR (wtR (scR (m ((c.tc : Thread nD τ).loc main_arg0)) (m ((c.tc : Thread nD τ).loc main_arg1)))
        (topR (scR (m ((c.tc : Thread nD τ).loc main_arg0)) (m ((c.tc : Thread nD τ).loc main_arg1)))))) (m ((c.tc : Thread nD τ).loc main_arg2)) := by
  show Cert.Reference3Ideal.Value.res_main_v28 m c = _
  unfold Cert.Reference3Ideal.Value.res_main_v28
  rfl

theorem softR_apply (p : FVec Ideal S8x8x4096x4096 .f32) (b h : Fin 8) (q k : Fin 4096) :
    softR p (ix4 b h q k) = Ideal.div (p (ix4 b h q k)) (∑ k : Fin 4096, (p (ix4 b h q k) : EReal)) := by
  pointwise [softR]
theorem outS_apply (p : FVec Ideal S8x8x4096x4096 .f32) (a2 : FVec Ideal S32768x1024 .bf16) (r : Fin 32768) (d : Fin 1024) :
    outS p a2 (ix2 r d) = ∑ k : Fin 4096, (a2 (ix2 ⟨r.val / 4096 * 4096 + k.val, by omega⟩ d) : EReal)
        * (p (ix4 ⟨r.val / 4096, by omega⟩ ⟨d.val / 128, by omega⟩ ⟨r.val % 4096, by omega⟩ k) : EReal) := by
  pointwise [outS]
end

/-! ## Finite scores -/

/-- A finite extended real. -/
def Fine (x : EReal) : Prop := ∃ r : ℝ, x = (r : EReal)

theorem Fine.ne_top {x : EReal} : Fine x → x ≠ ⊤ := fun ⟨r, h⟩ => h ▸ EReal.coe_ne_top r
theorem Fine.ne_bot {x : EReal} : Fine x → x ≠ ⊥ := fun ⟨r, h⟩ => h ▸ EReal.coe_ne_bot r
theorem Fine.add {x y : EReal} : Fine x → Fine y → Fine (x + y) := fun ⟨r, h⟩ ⟨s, k⟩ => ⟨r + s, by rw [h, k, EReal.coe_add]⟩
theorem Fine.mul {x y : EReal} : Fine x → Fine y → Fine (x * y) := fun ⟨r, h⟩ ⟨s, k⟩ => ⟨r * s, by rw [h, k, EReal.coe_mul]⟩
theorem Fine.sum {n : ℕ} {f : Fin n → EReal} (h : ∀ k, Fine (f k)) : Fine (∑ k, f k) :=
  Finset.sum_induction f Fine (fun _ _ => Fine.add) ⟨0, EReal.coe_zero.symm⟩ fun k _ => h k
theorem fine_of_abs {x : EReal} (h : max x (-x) < ⊤) : Fine x := by
  induction x using EReal.rec with
  | bot => exact absurd h (by simp)
  | top => exact absurd h (by simp)
  | coe r => exact ⟨r, rfl⟩

/-- The weights of a row do not all vanish: the greatest score has the weight one. -/
theorem sum_ne_zero {s : ℕ → EReal} {n q : ℕ} (hq : q < n) (hs : s q ≠ ⊥) (ht : ∀ k < n, s k ≠ ⊤) : (∑ k : Fin n, wt s n k.val) ≠ 0 := by
  obtain ⟨k, hk, e⟩ := Finset.exists_mem_eq_sup (Finset.range n) ⟨q, Finset.mem_range.mpr hq⟩ s
  have hk := Finset.mem_range.mp hk
  have e : top s n = s k := e
  have hb : s k ≠ ⊥ := fun h => hs (le_bot_iff.mp (h ▸ e ▸ le_top' s hq))
  have h1 : wt s n k = 1 := by
    rw [wt, e]
    obtain ⟨r, hr⟩ : Fine (s k) := ⟨(s k).toReal, (EReal.coe_toReal (ht k hk) hb).symm⟩
    rw [hr, ← EReal.coe_sub, sub_self]
    show ((Real.rpow 2 0 : ℝ) : EReal) = 1
    rw [show Real.rpow 2 0 = 1 from Real.rpow_zero 2, EReal.coe_one]
  have h2 : wt s n k ≤ ∑ k : Fin n, wt s n k.val :=
    Finset.single_le_sum (f := fun k : Fin n => wt s n k.val) (fun k _ => exp2_nonneg _) (Finset.mem_univ ⟨k, hk⟩)
  intro h0
  rw [h0, h1] at h2
  exact absurd h2 (by simp)

theorem inv_ne_top (x : EReal) : x⁻¹ ≠ ⊤ := by
  induction x using EReal.rec with
  | bot => simp
  | top => simp
  | coe r => rw [← EReal.coe_inv]; exact EReal.coe_ne_top _

/-- Dividing the weights first or last. -/
theorem div_sum {n : ℕ} (p v : Fin n → EReal) (hp : ∀ k, 0 ≤ p k) (h : (∑ k, p k) ≠ 0) :
    (∑ k, v k * Ideal.div (p k) (∑ k, p k)) = Ideal.div (∑ k, v k * p k) (∑ k, p k) := by
  have h0 : 0 ≤ (∑ k, p k)⁻¹ := EReal.inv_nonneg_of_nonneg (Finset.sum_nonneg fun k _ => hp k)
  simp only [Ideal.div, if_neg h]
  rw [mul_comm, mul_sum_of _ _ _ h0 (inv_ne_top _)]
  exact Finset.sum_congr rfl fun k _ => by rw [← mul_assoc, mul_comm]

/-! ## The claim -/

section
open Cert.Kernel2Ideal Cert.Kernel2Ideal.Gen Cert.Kernel2Ideal.Hand Cert.AttFinal
open Cert.AttRef (scR topR wtR wtR_eq sc res)

instance facts : Cert.Pre_finite_qk.Facts where
  bitsLt_bf16_f32 := by decide
  bcast_S_S32768x2048 := by decide

theorem pre_apply (a0 a1 : FVec Ideal S32768x2048 .bf16) (a2 : FVec Ideal S32768x1024 .bf16) (a3 : FVec Ideal S2048x2048 .f32)
    (a4 : FVec Ideal S2048x8192 .f32) (a5 : FVec Ideal S8192x2048 .f32) (h : Cert.Pre_finite_qk.fn (F := Ideal) a0 a1 a2 a3 a4 a5 = fun _ => 1#1)
    (y : S32768x2048.Idx) : Fine (a0 y) ∧ Fine (a1 y) := by
  have e := congrFun h y
  have e' : Cert.Pre_finite_qk.fn (F := Ideal) a0 a1 a2 a3 a4 a5 y
      = IntOp.andi (Ideal.cmp .olt (max (a0 y : EReal) (-(a0 y : EReal))) (Ideal.ofBits .f32 2139095040#32))
          (Ideal.cmp .olt (max (a1 y : EReal) (-(a1 y : EReal))) (Ideal.ofBits .f32 2139095040#32)) := rfl
  rw [e', posInf_eq] at e
  by_cases h0 : max (a0 y : EReal) (-(a0 y : EReal)) < ⊤
  · by_cases h1 : max (a1 y : EReal) (-(a1 y : EReal)) < ⊤
    · exact ⟨fine_of_abs h0, fine_of_abs h1⟩
    · simp [Ideal.cmp, h0, h1, IntOp.andi] at e
  · simp [Ideal.cmp, h0, IntOp.andi] at e

theorem sc_fine {a0 a1 : FVec Ideal S32768x2048 .bf16} (h : ∀ y, Fine (a0 y) ∧ Fine (a1 y)) (b e : Fin 8) {q k : ℕ} (hq : q < 4096) (hk : k < 4096)
    (hs : k / 64 ≤ q / 64) : Fine (sc a0 a1 b e q k) := by
  rw [sc, dif_pos ⟨hq, hk⟩, if_pos hs]
  exact Fine.sum fun x => (h _).1.mul (h _).2

theorem sc_ne_top {a0 a1 : FVec Ideal S32768x2048 .bf16} (h : ∀ y, Fine (a0 y) ∧ Fine (a1 y)) (b e : Fin 8) {q k : ℕ} (hq : q < 4096) (hk : k < 4096) :
    sc a0 a1 b e q k ≠ ⊤ := by
  by_cases hs : k / 64 ≤ q / 64
  · exact (sc_fine h b e hq hk hs).ne_top
  · rw [sc, dif_pos ⟨hq, hk⟩, if_neg hs]
    exact bot_ne_top

theorem soft_apply {a0 a1 : FVec Ideal S32768x2048 .bf16} (h : ∀ y, Fine (a0 y) ∧ Fine (a1 y)) (a2 : FVec Ideal S32768x1024 .bf16) (r : Fin 32768) (d : Fin 1024) :
    outS (softR (wtR (scR a0 a1) (topR (scR a0 a1)))) a2 (ix2 r d) = res a0 a1 a2 r d := by
  have hq : r.val % 4096 < 4096 := Nat.mod_lt _ (by decide)
  rw [outS_apply, res]
  simp only [softR_apply, wtR_eq]
  exact div_sum _ _ (fun k => exp2_nonneg _) (sum_ne_zero hq (sc_fine h _ _ hq hq le_rfl).ne_bot fun k hk => sc_ne_top h _ _ hq hk)

theorem algebraic : Cert.algebraic_Kernel2Ideal_Reference3Ideal_pre_finite_qk := by
  intro m ρ m' ρ' hpre hagree
  refine ⟨fun c => result m c, fun c => result1 m c, fun c => result2 m c, fun c => result3 m c, ?_, ?_⟩
  · refine (θ_run Cert.Kernel2Ideal.defs _ _).mono (fun _ h c => ?_) (run_post m ρ)
    obtain ⟨h0, h1, h2, h3, hargs⟩ := h.1 c
    exact ⟨h0.trans (final6 m c), h1.trans (final7 m c), h2.trans (final8 m c), h3.trans (final9 m c), hargs⟩
  · refine (θ_run Cert.Reference3Ideal.defs _ _).mono (fun _ h c => ?_) (Cert.Reference3Ideal.Value.run (F := Ideal) m' ρ')
    obtain ⟨h0, h1, h2, h3, hargs⟩ := h c
    obtain ⟨e0, e1, e2, e3, e4, e5⟩ := hagree c
    refine ⟨h0.trans ?_, h1.trans ?_, h2.trans ?_, h3.trans ?_, hargs⟩
    · refine (result_eq (F := Ideal) m' c).trans ?_
      rw [e0, e1, e2]
      funext y
      exact (congrArg _ (ix2_of (a := 32768) (b := 1024) y)).trans
        (soft_apply (pre_apply (aQ m c) (aK m c) (aV m c) (aWo m c) (aW1 m c) (aW2 m c) (hpre c)) (aV m c) (y 0) (y 1))
    · rw [e3]; rfl
    · rw [e4]; rfl
    · rw [e5]; rfl
end

end Cert.AttSoft

end
-- ==== Proof.MixRef.lean ====
/- The values of the attention's heads, computed by the call before it: the formula, and the reference's at an element. -/
module

public import proofs.«01_k».proof.Proof.Gen.Reference5Ideal.Run
public import Idealize.ShloMosaic.Lib.Pointwise

@[expose] public section

noncomputable section

namespace Cert.MixRef
open Idealize.ShloMosaic Idealize.ShloMosaic.TcCoe Idealize.SL.Sem
open Cert.Reference5Ideal Cert.Reference5Ideal.Gen

/-- A row divided by the root of its mean square, and scaled. -/
def rmsn {n : ℕ} (N : EReal) (x g : Fin n → EReal) (k : Fin n) : EReal :=
  x k * Ideal.rsqrt (Ideal.div (∑ e : Fin n, x e * x e) N + Ideal.ofBits .f32 0x358637BD#32) * g k
/-- The modulated row. -/
def hrow (x g sh sc : Fin 2048 → EReal) (k : Fin 2048) : EReal :=
  rmsn (Ideal.ofBits .f32 0x45000000#32) x g k * (Ideal.ofBits .f32 0x3F800000#32 + sc k) + sh k
/-- Its projection on the last 256 latent columns, normalised. -/
def lat (h : Fin 2048 → EReal) (w : Fin 256 → Fin 2048 → EReal) (g : Fin 256 → EReal) : Fin 256 → EReal :=
  rmsn (Ideal.ofBits .f32 0x43800000#32) (fun j => ∑ k : Fin 2048, h k * w j k) g

variable {F : FTy → Type} [FloatOps F]

def cst (b : BitVec 32) : FVec F S8x4096x1 .f32 := broadcastInDim S8x4096x1 ![] bcast_S_S8x4096x1 (constant S_ .f32 b)
def hR0 (xs : FVec F S8x4096x2048 .f32) (mod : FVec F S8x6x2048 .f32) (g1 : FVec F S1x2048 .f32) : FVec F S8x4096x2048 .f32 :=
  (addf (mulf (mulf (mulf xs (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf xs xs) (constant S_ .f32 0x00000000#32) reducesTo_S8x4096x2048_S8x4096_d2 h_S_)) (cst 0x45000000#32)) (cst 0x358637BD#32))))) (broadcastInDim S8x4096x2048 ![0, 1, 2] bcast_S1x1x2048_S8x4096x2048_0_1_2 (broadcastInDim S1x1x2048 ![2] bcast_S2048_S1x1x2048_2 (shapeCast _ g1 shapeCasts_S1x2048_S2048)))) (broadcastInDim S8x4096x2048 ![0, 1, 2] bcast_S8x1x2048_S8x4096x2048_0_1_2 (addf (broadcastInDim S8x1x2048 ![] bcast_S_S8x1x2048 (constant S_ .f32 0x3F800000#32)) (extractStridedSlice S8x1x2048 ![0, 1, 0] mod slices_S8x6x2048_S8x1x2048_0_1_0)))) (broadcastInDim S8x4096x2048 ![0, 1, 2] bcast_S8x1x2048_S8x4096x2048_0_1_2 (extractStridedSlice S8x1x2048 ![0, 0, 0] mod slices_S8x6x2048_S8x1x2048_0_0_0)))
def hR (x : FVec F S32768x2048 .f32) := hR0 (shapeCast S8x4096x2048 x shapeCasts_S32768x2048_S8x4096x2048)
def zR (h : FVec F S8x4096x2048 .f32) (w : FVec F S2880x2048 .bf16) : FVec F S8x4096x256 .f32 :=
  (extractStridedSlice S8x4096x256 ![0, 0, 2560] (Host.dotGeneral dot_S8x4096x2048_S2048x2880_S8x4096x2880_2_0_01_1_n_n none h (transpose S2048x2880 [1, 0] (extf .f32 w bitsLt_bf16_f32) transposes_S2880x2048_S2048x2880_1_0)) slices_S8x4096x2880_S8x4096x256_0_0_2560)
def nR (z : FVec F S8x4096x256 .f32) (g : FVec F S1x256 .f32) : FVec F S8x4096x256 .f32 :=
  (mulf (mulf z (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf z z) (constant S_ .f32 0x00000000#32) reducesTo_S8x4096x256_S8x4096_d2 h_S_)) (cst 0x43800000#32)) (cst 0x358637BD#32))))) (broadcastInDim S8x4096x256 ![0, 1, 2] bcast_S1x1x256_S8x4096x256_0_1_2 (broadcastInDim S1x1x256 ![2] bcast_S256_S1x1x256_2 (shapeCast _ g shapeCasts_S1x256_S256))))
def vR (n : FVec F S8x4096x256 .f32) (w : FVec F S256x2048 .bf16) : FVec F S32768x1024 .bf16 :=
  truncf .bf16 (shapeCast _ (extractStridedSlice S8x4096x1024 ![0, 0, 1024] (Host.dotGeneral dot_S8x4096x256_S256x2048_S8x4096x2048_2_0_01_1_n_n none n (extf .f32 w bitsLt_bf16_f32)) slices_S8x4096x2048_S8x4096x1024_0_0_1024) shapeCasts_S8x4096x1024_S32768x1024) bitsLt_bf16_f32

theorem result_eq (m : (ℓ : Loc nD τ sig) → Buf (Elt F) ℓ) (c : Dev nD) : Cert.Reference5Ideal.Value.res_out0 m c
    = vR (nR (zR (hR (m ((c.tc : Thread nD τ).loc main_arg0)) (m ((c.tc : Thread nD τ).loc main_arg2)) (m ((c.tc : Thread nD τ).loc main_arg3)))
        (m ((c.tc : Thread nD τ).loc main_arg4))) (m ((c.tc : Thread nD τ).loc main_arg11))) (m ((c.tc : Thread nD τ).loc main_arg13)) := by
  show Cert.Reference5Ideal.Value.res_main_v45 m c = _
  unfold Cert.Reference5Ideal.Value.res_main_v45
  rfl

theorem hR_apply (x : FVec Ideal S32768x2048 .f32) (mod : FVec Ideal S8x6x2048 .f32) (g1 : FVec Ideal S1x2048 .f32) (b : Fin 8) (s : Fin 4096) (k : Fin 2048) :
    hR x mod g1 (ix3 b s k) = hrow (fun k => x (ix2 ⟨b.val * 4096 + s.val, by omega⟩ k)) (fun k => g1 (ix2 0 k)) (fun k => mod (ix3 b 0 k)) (fun k => mod (ix3 b 1 k)) k := by
  pointwise [hR, hR0, cst, hrow, rmsn]
theorem zR_apply (h : FVec Ideal S8x4096x2048 .f32) (w : FVec Ideal S2880x2048 .bf16) (b : Fin 8) (s : Fin 4096) (j : Fin 256) :
    zR h w (ix3 b s j) = ∑ k : Fin 2048, (h (ix3 b s k) : EReal) * (w (ix2 ⟨2560 + j.val, by omega⟩ k) : EReal) := by
  pointwise [zR]
theorem nR_apply (z : FVec Ideal S8x4096x256 .f32) (g : FVec Ideal S1x256 .f32) (b : Fin 8) (s : Fin 4096) (j : Fin 256) :
    nR z g (ix3 b s j) = rmsn (Ideal.ofBits .f32 0x43800000#32) (fun j => z (ix3 b s j)) (fun j => g (ix2 0 j)) j := by
  pointwise [nR, cst, rmsn]
theorem vR_apply (n : FVec Ideal S8x4096x256 .f32) (w : FVec Ideal S256x2048 .bf16) (r : Fin 32768) (d : Fin 1024) :
    vR n w (ix2 r d) = ∑ j : Fin 256, (n (ix3 ⟨r.val / 4096, by omega⟩ ⟨r.val % 4096, by omega⟩ j) : EReal) * (w (ix2 j ⟨1024 + d.val, by omega⟩) : EReal) := by
  pointwise [vR]

variable (x : FVec Ideal S32768x2048 .f32) (mod : FVec Ideal S8x6x2048 .f32) (g1 : FVec Ideal S1x2048 .f32) (w : FVec Ideal S2880x2048 .bf16)
  (g : FVec Ideal S1x256 .f32) (wv : FVec Ideal S256x2048 .bf16) (r : Fin 32768) (d : Fin 1024)

/-- The values of token `r`, at column `d`. -/
def val : EReal :=
  ∑ j : Fin 256, lat (hrow (fun k => x (ix2 r k)) (fun k => g1 (ix2 0 k)) (fun k => mod (ix3 ⟨r.val / 4096, by omega⟩ 0 k)) (fun k => mod (ix3 ⟨r.val / 4096, by omega⟩ 1 k)))
    (fun j k => w (ix2 ⟨2560 + j.val, by omega⟩ k)) (fun j => g (ix2 0 j)) j * wv (ix2 j ⟨1024 + d.val, by omega⟩)

theorem ref_apply : vR (nR (zR (hR x mod g1) w) g) wv (ix2 r d) = val x mod g1 w g wv r d := by
  have e : (⟨r.val / 4096 * 4096 + r.val % 4096, by omega⟩ : Fin 32768) = r := Fin.ext (by show r.val / 4096 * 4096 + r.val % 4096 = r.val; omega)
  simp only [vR_apply, nR_apply, zR_apply, hR_apply, val, lat, e]

end Cert.MixRef

end
-- ==== Proof.AdaValue.lean ====
/- The modulation call's result array and the reference's, equal at the ideal instance. -/
module

public import proofs.«01_k».proof.Defs
public import proofs.«01_k».proof.Proof.Gen.Kernel4Ideal.Frame
public import proofs.«01_k».proof.Proof.Gen.Reference4Ideal.Run
public import proofs.«01_k».proof.Proof.AttRow

@[expose] public section

noncomputable section

namespace Cert.AdaValue
open Idealize.ShloMosaic Idealize.ShloMosaic.TcCoe Idealize.SL.Sem
/-- One element of the modulation. -/
def modul {N : ℕ} (x : Fin 2048 → EReal) (w : Fin 2048 → Fin N → EReal) (b : Fin N → EReal) (n : Fin N) : EReal :=
  (∑ k : Fin 2048, x k * Ideal.logistic (x k) * w k n) + b n

section Ref
open Cert.Reference4Ideal Cert.Reference4Ideal.Gen
/-- The reference's result. -/
def refR (a0 : FVec Ideal S8x2048 .f32) (a1 : FVec Ideal S2048x12288 .f32) (a2 : FVec Ideal S12288 .f32) : FVec Ideal S8x12288 .f32 :=
  addf (Host.dotGeneral dot_S8x2048_S2048x12288_S8x12288_1_0_0_1_n_n none (mulf a0 (Host.divf (broadcastInDim S8x2048 ![] bcast_S_S8x2048 (constant S_ .f32 0x3F800000#32))
    (addf (broadcastInDim S8x2048 ![] bcast_S_S8x2048 (constant S_ .f32 0x3F800000#32)) (Host.exp (Host.negf a0))))) a1)
    (broadcastInDim S8x12288 ![0, 1] bcast_S1x12288_S8x12288_0_1 (broadcastInDim S1x12288 ![1] bcast_S12288_S1x12288_1 a2))

theorem ref_apply (a0 : FVec Ideal S8x2048 .f32) (a1 : FVec Ideal S2048x12288 .f32) (a2 : FVec Ideal S12288 .f32) (r : Fin 8) (n : Fin 12288) :
    refR a0 a1 a2 (ix2 r n) = modul (fun k => a0 (ix2 r k)) (fun k n => a1 (ix2 k n)) (fun n => a2 (ix1 n)) n := by
  pointwise [refR, modul]
  rfl
end Ref

open Cert.Kernel4Ideal Cert.Kernel4Ideal.Gen

variable (m : (ℓ : Loc nD τ sig) → Buf (Elt Ideal) ℓ) (ρ : Dev nD → PrngReg) (c : Dev nD)

/-! ## The body's payload, at an element -/

theorem pay_apply (v0 : FVec Ideal S8x2048 .f32) (v4 : FVec Ideal S2048x1024 .f32) (v7 : FVec Ideal S1x1024 .f32) (r : Fin 8) (n : Fin 1024) :
    k0_pay1 (F := Ideal) v0 v4 v7 (ix2 r n) = modul (fun k => v0 (ix2 r k)) (fun k n => v4 (ix2 k n)) (fun n => v7 (ix2 0 n)) n := by
  pointwise [k0_pay1, modul]

theorem out_eq {F : FTy → Type} [FloatOps F] (x0 : Vec F S8x2048 .f32) (x1 : Vec F S2048x1024 .f32) (x2 : Vec F S1x1024 .f32) :
    out0_3 (F := F) x0 x1 x2 = k0_pay1 x0 x1 x2 := by
  have hz : (![0, 0] : Fin 2 → Nat) = fun _ => 0 := funext fun a => by fin_cases a <;> rfl
  unfold out0_3
  rw [View.canon_unit_zero (S := S8x1024) hz, View.ld_unit_zero (S := S8x2048) hz, View.ld_unit_zero (S := S2048x1024) hz, View.ld_unit_zero (S := S1x1024) hz]

/-! ## The blocks read at a point -/

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = t.val :=
  (by decide +kernel : ∀ t : Fin grid0.N, win0_1.index t 0 = 0 ∧ win0_1.index t 1 = t.val)
theorem index2 : ∀ t : Fin cfg0.N, win0_2.index t 0 = 0 ∧ win0_2.index t 1 = t.val :=
  (by decide +kernel : ∀ t : Fin grid0.N, win0_2.index t 0 = 0 ∧ win0_2.index t 1 = t.val)
theorem index3 : ∀ t : Fin cfg0.N, win0_3.index t 0 = 0 ∧ win0_3.index t 1 = t.val :=
  (by decide +kernel : ∀ t : Fin grid0.N, win0_3.index t 0 = 0 ∧ win0_3.index t 1 = t.val)

abbrev aC : FVec Ideal S8x2048 .f32 := m ((c : Thread nD τ).loc main_arg0)
abbrev aW : FVec Ideal S2048x12288 .f32 := m ((c : Thread nD τ).loc main_arg1)
abbrev aB : FVec Ideal S12288 .f32 := m ((c : Thread nD τ).loc main_arg2)

theorem lt_N (t : Fin cfg0.N) : t.val < 12 := t.isLt

theorem V_bias : (V m c main_v0 : FVec Ideal S1x12288 .f32) = shapeCast S1x12288 (aB m c) shapeCasts_S12288_S1x12288 := by
  unfold V
  simp only [hostOps0]
  after_results
  rfl

theorem bias_apply (v : FVec Ideal S12288 .f32) (n : Fin 12288) : shapeCast S1x12288 v shapeCasts_S12288_S1x12288 (ix2 0 n) = v (ix1 n) := by
  pointwise

theorem iblk0 (t : Fin cfg0.N) (r : Fin 8) (k : Fin 2048) : (iblk m c 0 t : Vec Ideal S8x2048 .f32) (ix2 r k) = aC m c (ix2 r k) := by
  unfold iblk
  rw [View.read_apply]
  refine (congrFun (V_main_arg0 m c) _).trans (congrArg (aC m c) (funext fun a => Fin.ext ?_))
  match a with
  | ⟨0, _⟩ => show win0_0.index t 0 * 8 + 1 * r.val = r.val; rw [(index0 t).1]; omega
  | ⟨1, _⟩ => show win0_0.index t 1 * 2048 + 1 * k.val = k.val; rw [(index0 t).2]; omega
theorem iblk1 (t : Fin cfg0.N) (k : Fin 2048) (n : Fin 1024) :
    (iblk m c 1 t : Vec Ideal S2048x1024 .f32) (ix2 k n) = aW m c (ix2 k ⟨t.val * 1024 + n.val, by have := lt_N t; omega⟩) := by
  unfold iblk
  rw [View.read_apply]
  refine (congrFun (V_main_arg1 m c) _).trans (congrArg (aW m c) (funext fun a => Fin.ext ?_))
  match a with
  | ⟨0, _⟩ => show win0_1.index t 0 * 2048 + 1 * k.val = k.val; rw [(index1 t).1]; omega
  | ⟨1, _⟩ => show win0_1.index t 1 * 1024 + 1 * n.val = t.val * 1024 + n.val; rw [(index1 t).2]; omega
theorem iblk2 (t : Fin cfg0.N) (n : Fin 1024) :
    (iblk m c 2 t : Vec Ideal S1x1024 .f32) (ix2 0 n) = aB m c (ix1 ⟨t.val * 1024 + n.val, by have := lt_N t; omega⟩) := by
  unfold iblk
  rw [View.read_apply]
  refine (congrFun (V_bias m c) _).trans (Eq.trans (congrArg _ (funext fun a => Fin.ext ?_)) (bias_apply (aB m c) _))
  match a with
  | ⟨0, _⟩ => show win0_2.index t 0 * 1 + 1 * 0 = 0; rw [(index2 t).1]
  | ⟨1, _⟩ => show win0_2.index t 1 * 1024 + 1 * n.val = t.val * 1024 + n.val; rw [(index2 t).2]; omega

/-! ## The result array -/

theorem ix2_of {a b : ℕ} (y : (⟨2, ![a, b]⟩ : Shape).Idx) : y = ix2 (y 0) (y 1) := by
  funext x
  match x with
  | ⟨0, _⟩ => rfl
  | ⟨1, _⟩ => rfl

/-- The modulation as an array. -/
def result : Buf (Elt Ideal) ((c : Thread nD τ).loc main_v1) :=
  fun y : S8x12288.Idx => modul (fun k => aC m c (ix2 (y 0) k)) (fun k n => aW m c (ix2 k n)) (fun n => aB m c (ix1 n)) (y 1)

theorem result_of (t : Fin cfg0.N) (r : Fin 8) (n : Fin 1024) (i : S8x12288.Idx) (h0 : (i 0).val = r.val) (h1 : (i 1).val = t.val * 1024 + n.val) :
    modul (fun k => (iblk m c 0 t : Vec Ideal S8x2048 .f32) (ix2 r k)) (fun k n => (iblk m c 1 t : Vec Ideal S2048x1024 .f32) (ix2 k n))
      (fun n => (iblk m c 2 t : Vec Ideal S1x1024 .f32) (ix2 0 n)) n = result m c i := by
  have e0 : i 0 = r := Fin.ext h0
  have e1 : i 1 = (⟨t.val * 1024 + n.val, by have := lt_N t; omega⟩ : Fin 12288) := Fin.ext h1
  unfold result
  simp only [modul, iblk0, iblk1, iblk2, e0, e1]

theorem flushed_eq (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3, out_eq]
  funext y
  rw [View.read_apply]
  refine (congrArg (k0_pay1 (F := Ideal) (iblk m c 0 t) (iblk m c 1 t) (iblk m c 2 t)) (ix2_of (a := 8) (b := 1024) y)).trans
    ((pay_apply _ _ _ (y 0) (y 1)).trans ?_)
  refine result_of m c t (y 0) (y 1) _ ?_ ?_
  · show win0_3.index t 0 * 8 + 1 * (y 0).val = (y 0).val
    rw [(index3 t).1]; omega
  · show win0_3.index t 1 * 1024 + 1 * (y 1).val = t.val * 1024 + (y 1).val
    rw [(index3 t).2]; omega

theorem covered (i : S8x12288.Idx) : ∃ t : Fin cfg0.N, (cfg0.win 3).flush t = true ∧ i ∈ ((cfg0.win 3).blk t).view.set := by
  have h0 : (i 0).val < 8 := (i 0).isLt
  have h1 : (i 1).val < 12288 := (i 1).isLt
  obtain ⟨t, ht⟩ : ∃ t : Fin cfg0.N, t.val = (i 1).val / 1024 := ⟨⟨(i 1).val / 1024, show _ < 12 by omega⟩, rfl⟩
  refine ⟨t, flush0_3 t, ?_⟩
  show i ∈ ((View.whole main_v1).slice (win0_3.rect t)).set
  rw [View.set_slice_whole, Rect.mem_set_unit]
  intro a
  match a with
  | ⟨0, _⟩ =>
    show win0_3.index t 0 * 8 ≤ (i 0).val ∧ (i 0).val < win0_3.index t 0 * 8 + 8
    rw [(index3 t).1]
    omega
  | ⟨1, _⟩ =>
    show win0_3.index t 1 * 1024 ≤ (i 1).val ∧ (i 1).val < win0_3.index t 1 * 1024 + 1024
    rw [(index3 t).2]
    omega

theorem final : (dats m 0 c).arrAt 3 cfg0.N = result m c :=
  (dats m 0 c).arrAt_eq_of_cover 3 (result m c) (flushed_eq m c) covered

/-! ## The claim -/

theorem algebraic : Cert.algebraic_Kernel4Ideal_Reference4Ideal := by
  intro m ρ m' ρ' _ hagree
  refine ⟨fun c => result m c, ?_, ?_⟩
  · exact (θ_run Cert.Kernel4Ideal.defs _ _).mono (fun _ h c => ⟨((h.1 c).1 3).trans (final m c), h.2 c⟩) (θ_run_and (run_main m ρ) (unchanged m ρ))
  · refine (θ_run Cert.Reference4Ideal.defs _ _).mono (fun _ h c => ⟨((h c).1).trans ?_, (h c).2⟩) (Cert.Reference4Ideal.Value.run (F := Ideal) m' ρ')
    obtain ⟨e0, e1, e2⟩ := hagree c
    rw [e0, e1, e2]
    funext y
    exact (congrArg (refR (aC m c) (aW m c) (aB m c)) (ix2_of (a := 8) (b := 12288) y)).trans (ref_apply (aC m c) (aW m c) (aB m c) (y 0) (y 1))

end Cert.AdaValue

end
-- ==== Proof.MixValue.lean ====
/- The values of the attention's heads, as the call before it computes them, and the reference's: equal at the ideal instance. -/
module

public import proofs.«01_k».proof.Proof.Gen.Kernel5Ideal.Frame
public import proofs.«01_k».proof.Proof.MixRef
public import proofs.«01_k».proof.Proof.AdaValue

@[expose] public section

set_option maxRecDepth 16384

noncomputable section

namespace Cert.MixValue
open Idealize.ShloMosaic Idealize.ShloMosaic.TcCoe Idealize.SL.Sem Idealize.ShloMosaic.Tactic
open Cert.Kernel5Ideal Cert.Kernel5Ideal.Gen
open Cert.MixRef (rmsn hrow lat val)
open Cert.AdaValue (ix2_of)

/-! ## What the body stores -/

section Body
variable {F : FTy → Type} [FloatOps F] (m : (ℓ : Loc nD τ sig) → Buf (Elt F) ℓ) (c : Dev nD)

/-- The stored values, from the blocks read. -/
def vBlock (x : Vec F S512x2048 .f32) (mod : Vec F S1x6x2048 .f32) (g1 : Vec F S1x2048 .f32) (w : Vec F S2880x2048 .bf16) (g : Vec F S1x256 .f32)
    (wv : Vec F S256x2048 .bf16) : Vec F S512x1024 .bf16 :=
  k0_pay4 (k0_pay71 (k0_pay64 (k0_pay5 (View.ld mod (Rect.unit (s := S1x6x2048) ![0, 0, 0] S1x1x2048.size inb_S1x6x2048_S1x1x2048_0_0_0))
      (View.ld mod (Rect.unit (s := S1x6x2048) ![0, 1, 0] S1x1x2048.size inb_S1x6x2048_S1x1x2048_0_1_0)) x g1)
    (View.ld w (Rect.unit (s := S2880x2048) ![2560, 0] S256x2048.size inb_S2880x2048_S256x2048_2560_0)) g) wv)

theorem hz : (![0, 0] : Fin 2 → Nat) = fun _ => 0 := funext fun a => by fin_cases a <;> rfl

def vAt (t : Fin cfg0.N) : Vec F S512x1024 .bf16 :=
  vBlock (iblk m c 0 t) (iblk m c 2 t) (iblk m c 3 t) (iblk m c 4 t) (iblk m c 11 t) (iblk m c 13 t)

theorem after_eq (t : Fin cfg0.N) : (dats m 0 c).after 19 t = vAt m c t := by
  rw [after0_19]
  unfold outsAt0
  dsimp only
  unfold out0_A_19
  refine (View.read_writes_eq_canon _ _ _ (by intro y; exact cover0_A_19 ..)).trans ?_
  unfold kernelRun0_A
  dsimp only
  sl_unfold_words
  rw [View.canon_unit_zero (S := S512x1024) hz]
  simp only [View.readAt_eq_ld, (hs0_0 t).read_unread, (hs0_2 t).read_unread, (hs0_3 t).read_unread, (hs0_4 t).read_unread, (hs0_11 t).read_unread,
    (hs0_13 t).read_unread, View.ld_unit_zero (S := S512x2048) hz, View.ld_unit_zero (S := S1x2048) hz, View.ld_unit_zero (S := S1x256) hz,
    View.ld_unit_zero (S := S256x2048) hz]
  rfl
end Body

theorem pay5_apply (v0 v2 : Vec Ideal S1x1x2048 .f32) (v4 : Vec Ideal S512x2048 .f32) (v5 : Vec Ideal S1x2048 .f32) (r : Fin 512) (k : Fin 2048) :
    k0_pay5 (F := Ideal) v0 v2 v4 v5 (ix2 r k) = hrow (fun k => v4 (ix2 r k)) (fun k => v5 (ix2 0 k)) (fun k => v0 (ix3 0 0 k)) (fun k => v2 (ix3 0 0 k)) k := by
  pointwise [k0_pay5, hrow, rmsn]
theorem pay64_apply (h : Vec Ideal S512x2048 .bf16) (w : Vec Ideal S256x2048 .bf16) (g : Vec Ideal S1x256 .f32) (r : Fin 512) (j : Fin 256) :
    k0_pay64 (F := Ideal) h w g (ix2 r j) = lat (fun k => h (ix2 r k)) (fun j k => w (ix2 j k)) (fun j => g (ix2 0 j)) j := by
  pointwise [k0_pay64, lat, rmsn]
theorem pay4_apply (n : Vec Ideal S512x256 .bf16) (w : Vec Ideal S256x2048 .bf16) (r : Fin 512) (d : Fin 1024) :
    k0_pay4 (F := Ideal) (k0_pay71 n w) (ix2 r d) = ∑ j : Fin 256, (n (ix2 r j) : EReal) * (w (ix2 j ⟨1024 + d.val, by omega⟩) : EReal) := by
  pointwise [k0_pay4, k0_pay71]

theorem vBlock_apply (x g1 w g wv mod) (r : Fin 512) (d : Fin 1024) : vBlock (F := Ideal) x mod g1 w g wv (ix2 r d)
    = ∑ j : Fin 256, lat (hrow (fun k => x (ix2 r k)) (fun k => g1 (ix2 0 k)) (fun k => mod (ix3 0 0 k)) (fun k => mod (ix3 0 1 k)))
      (fun j k => w (ix2 ⟨2560 + j.val, by omega⟩ k)) (fun j => g (ix2 0 j)) j * wv (ix2 j ⟨1024 + d.val, by omega⟩) := by
  unfold vBlock
  rw [pay4_apply]
  simp only [pay64_apply, pay5_apply]
  have e0 : ∀ (k : Fin 2048) (q : ℕ) (hq : q < 6) h, View.ld mod (Rect.unit (s := S1x6x2048) ![0, q, 0] S1x1x2048.size h) (ix3 0 0 k) = mod (ix3 0 ⟨q, hq⟩ k) :=
    fun k q _ _ => congrArg mod (funext fun a => Fin.ext (by fin_cases a <;> simp [ix3]))
  have e2 : ∀ (j : Fin 256) (k : Fin 2048) h, View.ld w (Rect.unit (s := S2880x2048) ![2560, 0] S256x2048.size h) (ix2 j k)
      = w (ix2 ⟨2560 + j.val, by omega⟩ k) :=
    fun j k _ => congrArg w (funext fun a => Fin.ext (by fin_cases a <;> simp [ix2]))
  simp only [e2, fun k => e0 k 0 (by decide), fun k => e0 k 1 (by decide)]
  rfl

/-! ## The windows -/

theorem index0 : ∀ t : Fin cfg0.N, win0_0.index t 0 = t.val ∧ win0_0.index t 1 = 0 :=
  (by decide +kernel : ∀ t : Fin grid0.N, win0_0.index t 0 = t.val ∧ win0_0.index t 1 = 0)
theorem index2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem index19 : ∀ t : Fin cfg0.N, win0_19.index t 0 = t.val ∧ win0_19.index t 1 = 0 :=
  (by decide +kernel : ∀ t : Fin grid0.N, win0_19.index t 0 = t.val ∧ win0_19.index t 1 = 0)

variable (m : (ℓ : Loc nD τ sig) → Buf (Elt Ideal) ℓ) (ρ : Dev nD → PrngReg) (c : Dev nD)

abbrev aX : FVec Ideal S32768x2048 .f32 := m ((c : Thread nD τ).loc main_arg0)
abbrev aM : FVec Ideal S8x6x2048 .f32 := m ((c : Thread nD τ).loc main_arg2)
abbrev aG1 : FVec Ideal S1x2048 .f32 := m ((c : Thread nD τ).loc main_arg3)
abbrev aW : FVec Ideal S2880x2048 .bf16 := m ((c : Thread nD τ).loc main_arg4)
abbrev aG : FVec Ideal S1x256 .f32 := m ((c : Thread nD τ).loc main_arg11)
abbrev aWv : FVec Ideal S256x2048 .bf16 := m ((c : Thread nD τ).loc main_arg13)

theorem lt_N (t : Fin cfg0.N) : t.val < 64 := t.isLt

theorem iblk0 (t : Fin cfg0.N) (r : Fin 512) (k : Fin 2048) :
    (iblk m c 0 t : Vec Ideal S512x2048 .f32) (ix2 r k) = aX m c (ix2 ⟨t.val * 512 + r.val, by have := lt_N t; omega⟩ k) := by
  unfold iblk
  rw [View.read_apply]
  refine congrArg (aX m c) (funext fun a => Fin.ext ?_)
  match a with
  | ⟨0, _⟩ => show win0_0.index t 0 * 512 + 1 * r.val = t.val * 512 + r.val; rw [(index0 t).1]; omega
  | ⟨1, _⟩ => show win0_0.index t 1 * 2048 + 1 * k.val = k.val; rw [(index0 t).2]; omega
theorem iblk2 (t : Fin cfg0.N) (q : Fin 6) (k : Fin 2048) :
    (iblk m c 2 t : Vec Ideal S1x6x2048 .f32) (ix3 0 q k) = aM m c (ix3 ⟨t.val / 8, by have := lt_N t; omega⟩ q k) := by
  unfold iblk
  rw [View.read_apply]
  refine congrArg (aM m c) (funext fun a => Fin.ext ?_)
  match a with
  | ⟨0, _⟩ => show win0_2.index t 0 * 1 + 1 * 0 = t.val / 8; rw [(index2 t).1]; omega
  | ⟨1, _⟩ => show win0_2.index t 1 * 6 + 1 * q.val = q.val; rw [(index2 t).2.1]; omega
  | ⟨2, _⟩ => show win0_2.index t 2 * 2048 + 1 * k.val = k.val; rw [(index2 t).2.2]; omega
theorem iblk3 (t : Fin cfg0.N) : (iblk m c 3 t : Vec Ideal S1x2048 .f32) = aG1 m c := funext fun y => congrArg (aG1 m c) (funext fun a => Fin.ext (by
  show win0_3.index t a * _ + 1 * (y a).val = _
  rw [show win0_3.index t a = 0 by fin_cases a <;> rfl]; omega))
theorem iblk4 (t : Fin cfg0.N) : (iblk m c 4 t : Vec Ideal S2880x2048 .bf16) = aW m c := funext fun y => congrArg (aW m c) (funext fun a => Fin.ext (by
  show win0_4.index t a * _ + 1 * (y a).val = _
  rw [show win0_4.index t a = 0 by fin_cases a <;> rfl]; omega))
theorem iblk11 (t : Fin cfg0.N) : (iblk m c 11 t : Vec Ideal S1x256 .f32) = aG m c := funext fun y => congrArg (aG m c) (funext fun a => Fin.ext (by
  show win0_11.index t a * _ + 1 * (y a).val = _
  rw [show win0_11.index t a = 0 by fin_cases a <;> rfl]; omega))
theorem iblk13 (t : Fin cfg0.N) : (iblk m c 13 t : Vec Ideal S256x2048 .bf16) = aWv m c := funext fun y => congrArg (aWv m c) (funext fun a => Fin.ext (by
  show win0_13.index t a * _ + 1 * (y a).val = _
  rw [show win0_13.index t a = 0 by fin_cases a <;> rfl]; omega))

/-! ## The result array -/

/-- The values as an array. -/
def result : Buf (Elt Ideal) ((c : Thread nD τ).loc main_v0_3) :=
  fun y : S32768x1024.Idx => val (aX m c) (aM m c) (aG1 m c) (aW m c) (aG m c) (aWv m c) (y 0) (y 1)

theorem result_of (t : Fin cfg0.N) (r : Fin 512) (d : Fin 1024) (i : S32768x1024.Idx) (h0 : (i 0).val = t.val * 512 + r.val) (h1 : (i 1).val = d.val) :
    vAt m c t (ix2 r d) = result m c i := by
  have e0 : i 0 = (⟨t.val * 512 + r.val, by have := lt_N t; omega⟩ : Fin 32768) := Fin.ext h0
  have e1 : i 1 = d := Fin.ext h1
  have e2 : (⟨(t.val * 512 + r.val) / 4096, by have := lt_N t; omega⟩ : Fin 8) = ⟨t.val / 8, by have := lt_N t; omega⟩ := Fin.ext (by
    show (t.val * 512 + r.val) / 4096 = t.val / 8
    omega)
  rw [vAt, vBlock_apply, result]
  simp only [val, iblk0, iblk2, iblk3, iblk4, iblk11, iblk13, e0, e1, e2]

theorem flushed_eq (t : Fin cfg0.N) (hf : (cfg0.win 19).flush t = true) :
    (dats m 0 c).flushed 19 t = ((cfg0.win 19).blk t).view.read (Elt Ideal) (result m c) := by
  show (cfg0.win 19).cut (grid0.coords t) ((dats m 0 c).after 19 t) = _
  rw [after_eq]
  funext y
  rw [View.read_apply]
  refine (congrArg (vAt m c t) (ix2_of (a := 512) (b := 1024) y)).trans (result_of m c t (y 0) (y 1) _ ?_ ?_)
  · show win0_19.index t 0 * 512 + 1 * (y 0).val = t.val * 512 + (y 0).val
    rw [(index19 t).1]; omega
  · show win0_19.index t 1 * 1024 + 1 * (y 1).val = (y 1).val
    rw [(index19 t).2]; omega

theorem covered (i : S32768x1024.Idx) : ∃ t : Fin cfg0.N, (cfg0.win 19).flush t = true ∧ i ∈ ((cfg0.win 19).blk t).view.set := by
  have h0 : (i 0).val < 32768 := (i 0).isLt
  have h1 : (i 1).val < 1024 := (i 1).isLt
  obtain ⟨t, ht⟩ : ∃ t : Fin cfg0.N, t.val = (i 0).val / 512 := ⟨⟨_, show _ < 64 by omega⟩, rfl⟩
  refine ⟨t, flush0_19 t, ?_⟩
  show i ∈ ((View.whole main_v0_3).slice (win0_19.rect t)).set
  rw [View.set_slice_whole, Rect.mem_set_unit]
  intro a
  match a with
  | ⟨0, _⟩ =>
    show win0_19.index t 0 * 512 ≤ (i 0).val ∧ (i 0).val < win0_19.index t 0 * 512 + 512
    rw [(index19 t).1]
    omega
  | ⟨1, _⟩ =>
    show win0_19.index t 1 * 1024 ≤ (i 1).val ∧ (i 1).val < win0_19.index t 1 * 1024 + 1024
    rw [(index19 t).2]
    omega

theorem final : (dats m 0 c).arrAt 19 cfg0.N = result m c :=
  (dats m 0 c).arrAt_eq_of_cover 19 (result m c) (flushed_eq m c) covered

/-! ## The claim -/

theorem algebraic : Cert.algebraic_Kernel5Ideal_Reference5Ideal := by
  intro m ρ m' ρ' _ hagree
  refine ⟨fun c => result m c, ?_, ?_⟩
  · exact (θ_run Cert.Kernel5Ideal.defs _ _).mono (fun _ h c => ⟨((h.1 c).1 19).trans (final m c), h.2 c⟩) (θ_run_and (run_main m ρ) (unchanged m ρ))
  · refine (θ_run Cert.Reference5Ideal.defs _ _).mono (fun _ h c => ⟨((h c).1).trans ((Cert.MixRef.result_eq m' c).trans ?_), (h c).2⟩)
      (Cert.Reference5Ideal.Value.run (F := Ideal) m' ρ')
    obtain ⟨e0, -, e2, e3, e4, -, -, -, -, -, -, e11, -, e13, -, -⟩ := hagree c
    rw [e0, e2, e3, e4, e11, e13]
    funext y
    exact (congrArg _ (ix2_of (a := 32768) (b := 1024) y)).trans
      (Cert.MixRef.ref_apply (aX m c) (aM m c) (aG1 m c) (aW m c) (aG m c) (aWv m c) (y 0) (y 1))

end Cert.MixValue

end
-- ==== Proof.lean ====
module

public import proofs.«01_k».proof.Proof.Gen.Kernel
public import proofs.«01_k».proof.Proof.Gen.Kernel2
public import proofs.«01_k».proof.Proof.Gen.Kernel4.Frame
public import proofs.«01_k».proof.Proof.Gen.Kernel5.Frame
public import proofs.«01_k».proof.Proof.FfnFrame
public import proofs.«01_k».proof.Proof.FfnValue
public import proofs.«01_k».proof.Proof.WordFfnFrame
public import proofs.«01_k».proof.Proof.AttFrame
public import proofs.«01_k».proof.Proof.AttValue
public import proofs.«01_k».proof.Proof.AttSoft
public import proofs.«01_k».proof.Proof.WordAttFrame
public import proofs.«01_k».proof.Proof.MixValue

@[expose] public section

noncomputable section

namespace Cert.Proof
open Idealize.ShloMosaic Idealize.ShloMosaic.TcCoe Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem frame_reference3' : Cert.quiescent_Reference3Ideal_pre_finite_qk := fun m ρ _ => frame_reference3 m ρ trivial

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.AttSoft.facts,
    fun m ρ _ => Cert.Kernel.Hand.quiescent m ρ, fun m ρ _ => Cert.KernelIdeal.Hand.quiescent m ρ, frame_reference,
    fun m ρ _ => Cert.Kernel2.Hand.quiescent m ρ, fun m ρ _ => Cert.Kernel2Ideal.Hand.quiescent m ρ,
    fun m ρ _ => Cert.Kernel2Ideal.Hand.quiescent m ρ, frame_reference2, frame_reference3, frame_reference3',
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    trivial, Cert.FfnValue.algebraic, trivial, Cert.AttFinal.algebraic, Cert.AttSoft.algebraic,
    trivial, Cert.AdaValue.algebraic, trivial, Cert.MixValue.algebraic⟩

end Cert.Proof

end
